-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_linear_bn_pre [hPre_linear_bn_pre : Cert.Pre_linear_bn_pre.Facts] (m : (ℓ : Loc Cert.KernelIdeal.nD Cert.KernelIdeal.τ Cert.KernelIdeal.sig) → Buf (Elt Ideal) ℓ) : Prop :=
  ∀ c : Dev Cert.KernelIdeal.nD,
    (Cert.Pre_linear_bn_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_linear_bn_pre [hPre_linear_bn_pre : Cert.Pre_linear_bn_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_linear_bn_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_linear_bn_pre_1024 [hPre_linear_bn_pre_1024 : Cert.Pre_linear_bn_pre_1024.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_linear_bn_pre_1024.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_linear_bn_pre_1024 [hPre_linear_bn_pre_1024 : Cert.Pre_linear_bn_pre_1024.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_linear_bn_pre_1024.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_linear_bn_pre_4096 [hPre_linear_bn_pre_4096 : Cert.Pre_linear_bn_pre_4096.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_linear_bn_pre_4096.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_linear_bn_pre_4096 [hPre_linear_bn_pre_4096 : Cert.Pre_linear_bn_pre_4096.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_linear_bn_pre_4096.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_bn_pre [hPre_bn_pre : Cert.Pre_bn_pre.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_bn_pre.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_bn_pre [hPre_bn_pre : Cert.Pre_bn_pre.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_bn_pre.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel6 [hPre_starts_pre : Cert.Pre_starts_pre.Facts] (m : (ℓ : Loc Cert.Kernel6.nD Cert.Kernel6.τ Cert.Kernel6.sig) → Buf (Elt Bits) ℓ) : Prop :=
  ∀ c : Dev Cert.Kernel6.nD,
    (Cert.Pre_starts_pre.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8)) (m ((c.tc : Thread Cert.Kernel6.nD Cert.Kernel6.τ).loc Cert.Kernel6.main_arg9)) (m ((c.tc : Thread Cert.Kernel6.nD Cert.Kernel6.τ).loc Cert.Kernel6.main_arg10)) (m ((c.tc : Thread Cert.Kernel6.nD Cert.Kernel6.τ).loc Cert.Kernel6.main_arg11)) (m ((c.tc : Thread Cert.Kernel6.nD Cert.Kernel6.τ).loc Cert.Kernel6.main_arg12))) = (fun _ => 1#1)

def Pre_Kernel6Ideal [hPre_starts_pre : Cert.Pre_starts_pre.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_starts_pre.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12))) = (fun _ => 1#1)

def Pre_Kernel6Ideal_nearest_linear_pre [hPre_nearest_linear_pre : Cert.Pre_nearest_linear_pre.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_nearest_linear_pre.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_nearest_linear_pre [hPre_nearest_linear_pre : Cert.Pre_nearest_linear_pre.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_nearest_linear_pre.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_linear_bn_pre [hKernelIdeal : Cert.KernelIdeal.Facts] [hPre_linear_bn_pre : Cert.Pre_linear_bn_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_linear_bn_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_linear_bn_pre [hReferenceIdeal : Cert.ReferenceIdeal.Facts] [hPre_linear_bn_pre : Cert.Pre_linear_bn_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_linear_bn_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_linear_bn_pre_1024 [hKernel2Ideal : Cert.Kernel2Ideal.Facts] [hPre_linear_bn_pre_1024 : Cert.Pre_linear_bn_pre_1024.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_linear_bn_pre_1024 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_linear_bn_pre_1024 [hReference2Ideal : Cert.Reference2Ideal.Facts] [hPre_linear_bn_pre_1024 : Cert.Pre_linear_bn_pre_1024.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_linear_bn_pre_1024 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_linear_bn_pre_4096 [hKernel5Ideal : Cert.Kernel5Ideal.Facts] [hPre_linear_bn_pre_4096 : Cert.Pre_linear_bn_pre_4096.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_linear_bn_pre_4096 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_linear_bn_pre_4096 [hReference5Ideal : Cert.Reference5Ideal.Facts] [hPre_linear_bn_pre_4096 : Cert.Pre_linear_bn_pre_4096.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_linear_bn_pre_4096 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_bn_pre [hKernel8Ideal : Cert.Kernel8Ideal.Facts] [hPre_bn_pre : Cert.Pre_bn_pre.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_bn_pre m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_bn_pre [hReference8Ideal : Cert.Reference8Ideal.Facts] [hPre_bn_pre : Cert.Pre_bn_pre.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_bn_pre m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel6 [hKernel6 : Cert.Kernel6.Facts] [hPre_starts_pre : Cert.Pre_starts_pre.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] [hPre_starts_pre : Cert.Pre_starts_pre.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Kernel6Ideal_pre_nearest_linear_pre [hKernel6Ideal : Cert.Kernel6Ideal.Facts] [hPre_nearest_linear_pre : Cert.Pre_nearest_linear_pre.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_nearest_linear_pre m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Reference6Ideal_pre_nearest_linear_pre [hReference6Ideal : Cert.Reference6Ideal.Facts] [hPre_nearest_linear_pre : Cert.Pre_nearest_linear_pre.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_nearest_linear_pre m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def preserves_Kernel_KernelIdeal : Prop :=
  True

def algebraic_KernelIdeal_ReferenceIdeal_pre_linear_bn_pre [hKernelIdeal : Cert.KernelIdeal.Facts] [hReferenceIdeal : Cert.ReferenceIdeal.Facts] [hPre_linear_bn_pre : Cert.Pre_linear_bn_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_linear_bn_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)) →
    ∃ (v0 : (c : Dev Cert.Kernel1Ideal.nD) → Buf (Elt Ideal) ((c.tc : Thread Cert.Kernel1Ideal.nD Cert.Kernel1Ideal.τ).loc Cert.Kernel1Ideal.main_v1_0)) (v1 : (c : Dev Cert.Kernel1Ideal.nD) → Buf (Elt Ideal) ((c.tc : Thread Cert.Kernel1Ideal.nD Cert.Kernel1Ideal.τ).loc Cert.Kernel1Ideal.main_v1_1)) (v2 : (c : Dev Cert.Kernel1Ideal.nD) → Buf (Elt Ideal) ((c.tc : Thread Cert.Kernel1Ideal.nD Cert.Kernel1Ideal.τ).loc Cert.Kernel1Ideal.main_v1_2)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v1_0) = v0 c
          ∧ r.2.mem ((c.tc : Thread Cert.Kernel1Ideal.nD Cert.Kernel1Ideal.τ).loc Cert.Kernel1Ideal.main_v1_1) = v1 c
          ∧ r.2.mem ((c.tc : Thread Cert.Kernel1Ideal.nD Cert.Kernel1Ideal.τ).loc Cert.Kernel1Ideal.main_v1_2) = v2 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v6) = v0 c
          ∧ r.2.mem ((c.tc : Thread Cert.Reference1Ideal.nD Cert.Reference1Ideal.τ).loc Cert.Reference1Ideal.main_v8) = v1 c
          ∧ r.2.mem ((c.tc : Thread Cert.Reference1Ideal.nD Cert.Reference1Ideal.τ).loc Cert.Reference1Ideal.main_v11) = v2 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3))

def preserves_Kernel2_Kernel2Ideal : Prop :=
  True

def algebraic_Kernel2Ideal_Reference2Ideal_pre_linear_bn_pre_1024 [hKernel2Ideal : Cert.Kernel2Ideal.Facts] [hReference2Ideal : Cert.Reference2Ideal.Facts] [hPre_linear_bn_pre_1024 : Cert.Pre_linear_bn_pre_1024.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_linear_bn_pre_1024 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_v11) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_linear_bn_pre_4096 [hKernel5Ideal : Cert.Kernel5Ideal.Facts] [hReference5Ideal : Cert.Reference5Ideal.Facts] [hPre_linear_bn_pre_4096 : Cert.Pre_linear_bn_pre_4096.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_linear_bn_pre_4096 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel8_Kernel8Ideal : Prop :=
  True

def algebraic_Kernel8Ideal_Reference8Ideal_pre_bn_pre [hKernel8Ideal : Cert.Kernel8Ideal.Facts] [hReference8Ideal : Cert.Reference8Ideal.Facts] [hPre_bn_pre : Cert.Pre_bn_pre.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_bn_pre m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel6_Kernel6Ideal : Prop :=
  True

def algebraic_Kernel6Ideal_Reference6Ideal_pre_nearest_linear_pre [hKernel6Ideal : Cert.Kernel6Ideal.Facts] [hReference6Ideal : Cert.Reference6Ideal.Facts] [hPre_nearest_linear_pre : Cert.Pre_nearest_linear_pre.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_nearest_linear_pre m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v64) = v0 c
          ∧ r.2.mem ((c.tc : Thread Cert.Reference6Ideal.nD Cert.Reference6Ideal.τ).loc Cert.Reference6Ideal.main_v66) = v1 c
          ∧ r.2.mem ((c.tc : Thread Cert.Reference6Ideal.nD Cert.Reference6Ideal.τ).loc Cert.Reference6Ideal.main_v69) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def Claim : Prop :=
  ∃ (hKernel : Cert.Kernel.Facts) (hKernelIdeal : Cert.KernelIdeal.Facts) (hReferenceIdeal : Cert.ReferenceIdeal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel6 : Cert.Kernel6.Facts) (hKernel6Ideal : Cert.Kernel6Ideal.Facts) (hReference6Ideal : Cert.Reference6Ideal.Facts) (hPre_linear_bn_pre : Cert.Pre_linear_bn_pre.Facts) (hPre_linear_bn_pre_1024 : Cert.Pre_linear_bn_pre_1024.Facts) (hPre_linear_bn_pre_4096 : Cert.Pre_linear_bn_pre_4096.Facts) (hPre_bn_pre : Cert.Pre_bn_pre.Facts) (hPre_starts_pre : Cert.Pre_starts_pre.Facts) (hPre_nearest_linear_pre : Cert.Pre_nearest_linear_pre.Facts),
    quiescent_Kernel (hKernel := hKernel)
    ∧ quiescent_KernelIdeal (hKernelIdeal := hKernelIdeal)
    ∧ quiescent_KernelIdeal_pre_linear_bn_pre (hKernelIdeal := hKernelIdeal) (hPre_linear_bn_pre := hPre_linear_bn_pre)
    ∧ quiescent_ReferenceIdeal (hReferenceIdeal := hReferenceIdeal)
    ∧ quiescent_ReferenceIdeal_pre_linear_bn_pre (hReferenceIdeal := hReferenceIdeal) (hPre_linear_bn_pre := hPre_linear_bn_pre)
    ∧ quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Kernel2Ideal_pre_linear_bn_pre_1024 (hKernel2Ideal := hKernel2Ideal) (hPre_linear_bn_pre_1024 := hPre_linear_bn_pre_1024)
    ∧ quiescent_Reference2Ideal (hReference2Ideal := hReference2Ideal)
    ∧ quiescent_Reference2Ideal_pre_linear_bn_pre_1024 (hReference2Ideal := hReference2Ideal) (hPre_linear_bn_pre_1024 := hPre_linear_bn_pre_1024)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_linear_bn_pre_4096 (hKernel5Ideal := hKernel5Ideal) (hPre_linear_bn_pre_4096 := hPre_linear_bn_pre_4096)
    ∧ quiescent_Reference5Ideal (hReference5Ideal := hReference5Ideal)
    ∧ quiescent_Reference5Ideal_pre_linear_bn_pre_4096 (hReference5Ideal := hReference5Ideal) (hPre_linear_bn_pre_4096 := hPre_linear_bn_pre_4096)
    ∧ quiescent_Kernel8 (hKernel8 := hKernel8)
    ∧ quiescent_Kernel8Ideal (hKernel8Ideal := hKernel8Ideal)
    ∧ quiescent_Kernel8Ideal_pre_bn_pre (hKernel8Ideal := hKernel8Ideal) (hPre_bn_pre := hPre_bn_pre)
    ∧ quiescent_Reference8Ideal (hReference8Ideal := hReference8Ideal)
    ∧ quiescent_Reference8Ideal_pre_bn_pre (hReference8Ideal := hReference8Ideal) (hPre_bn_pre := hPre_bn_pre)
    ∧ quiescent_Kernel6 (hKernel6 := hKernel6) (hPre_starts_pre := hPre_starts_pre)
    ∧ quiescent_Kernel6Ideal (hKernel6Ideal := hKernel6Ideal) (hPre_starts_pre := hPre_starts_pre)
    ∧ quiescent_Kernel6Ideal_pre_nearest_linear_pre (hKernel6Ideal := hKernel6Ideal) (hPre_nearest_linear_pre := hPre_nearest_linear_pre)
    ∧ quiescent_Reference6Ideal (hReference6Ideal := hReference6Ideal)
    ∧ quiescent_Reference6Ideal_pre_nearest_linear_pre (hReference6Ideal := hReference6Ideal) (hPre_nearest_linear_pre := hPre_nearest_linear_pre)
    ∧ preserves_Kernel_KernelIdeal
    ∧ algebraic_KernelIdeal_ReferenceIdeal_pre_linear_bn_pre (hKernelIdeal := hKernelIdeal) (hReferenceIdeal := hReferenceIdeal) (hPre_linear_bn_pre := hPre_linear_bn_pre)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal_pre_linear_bn_pre_1024 (hKernel2Ideal := hKernel2Ideal) (hReference2Ideal := hReference2Ideal) (hPre_linear_bn_pre_1024 := hPre_linear_bn_pre_1024)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_linear_bn_pre_4096 (hKernel5Ideal := hKernel5Ideal) (hReference5Ideal := hReference5Ideal) (hPre_linear_bn_pre_4096 := hPre_linear_bn_pre_4096)
    ∧ preserves_Kernel8_Kernel8Ideal
    ∧ algebraic_Kernel8Ideal_Reference8Ideal_pre_bn_pre (hKernel8Ideal := hKernel8Ideal) (hReference8Ideal := hReference8Ideal) (hPre_bn_pre := hPre_bn_pre)
    ∧ preserves_Kernel6_Kernel6Ideal
    ∧ algebraic_Kernel6Ideal_Reference6Ideal_pre_nearest_linear_pre (hKernel6Ideal := hKernel6Ideal) (hReference6Ideal := hReference6Ideal) (hPre_nearest_linear_pre := hPre_nearest_linear_pre)
-- ==== Pre_bn_pre.lean ====
abbrev S16384x1024 : Shape := ⟨2, ![16384, 1024]⟩
abbrev S1x1024 : Shape := ⟨2, ![1, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  reducesTo_S16384x1024_S1024_d0 : S16384x1024.ReducesTo [0] S1024
  bcast_S1024_S1x1024_1 : S1024.BroadcastsInDim S1x1024 (![1] : Fin 1 → Fin S1x1024.rank)
  reducesTo_S1x1024_S_d0_1 : S1x1024.ReducesTo [0, 1] S_

variable [Facts]

def fn_part1 {F : FTy → Type} [FloatOps F] (main_arg0 : FVec F S16384x1024 .f32) (main_arg1 : FVec F S1x1024 .f32) (main_arg2 : FVec F S1x1024 .f32) (main_v14 : IVec S_ 1) (main_v15 : FVec F S1024 .f32) : IVec S_ 1 :=
  let main_v16 : FVec F S1x1024 .f32 := broadcastInDim S1x1024 ![1] bcast_S1024_S1x1024_1 main_v15
  let main_v17 : FVec F S16384x1024 .f32 := mulf main_arg0 main_arg0
  let main_cst_6 : FVec F S_ .f32 := constant S_ .f32 0x00000000#32
  let main_v18 : FVec F S1024 .f32 := (fun x v => Host.reduceAdd x v reducesTo_S16384x1024_S1024_d0 h_S_) main_v17 main_cst_6
  let main_v19 : FVec F S1x1024 .f32 := broadcastInDim S1x1024 ![1] bcast_S1024_S1x1024_1 main_v18
  let main_v20 : IVec S1x1024 1 := cmpf .oeq main_arg1 main_v16
  let main_c_7 : IVec S_ 1 := constantI S_ 1 1#1
  let main_v21 : IVec S_ 1 := (fun x v => Host.reduce IntOp.andi x v reducesTo_S1x1024_S_d0_1 h_S_) main_v20 main_c_7
  let main_v22 : IVec S1x1024 1 := cmpf .oeq main_arg2 main_v19
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v21 main_v23
  let main_v25 : IVec S_ 1 := andi main_v14 main_v24
  main_v25

def fn {F : FTy → Type} [FloatOps F] (main_arg0 : FVec F S16384x1024 .f32) (main_arg1 : FVec F S1x1024 .f32) (main_arg2 : FVec F S1x1024 .f32) (main_arg3 : FVec F S1024 .f32) (main_arg4 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_c_0 : IVec S_ 1 := constantI S_ 1 1#1
  let main_v4 : IVec S_ 1 := andi main_c_0 main_v3
  let main_v5 : FVec F S1024 .f32 := Host.absf main_arg3
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024 .f32 := Host.absf main_arg4
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_cst_5 : FVec F S_ .f32 := constant S_ .f32 0x00000000#32
  let main_v15 : FVec F S1024 .f32 := (fun x v => Host.reduceAdd x v reducesTo_S16384x1024_S1024_d0 h_S_) main_arg0 main_cst_5
  fn_part1 (F := F) main_arg0 main_arg1 main_arg2 main_v14 main_v15
-- ==== Pre_linear_bn_pre.lean ====
abbrev S16384x1024 : Shape := ⟨2, ![16384, 1024]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  reducesTo_S16384x1024_S1024_d0 : S16384x1024.ReducesTo [0] S1024
  bcast_S1024_S1x1024_1 : S1024.BroadcastsInDim S1x1024 (![1] : Fin 1 → Fin S1x1024.rank)
  reducesTo_S1x1024_S_d0_1 : S1x1024.ReducesTo [0, 1] S_

variable [Facts]

def fn_part1 {F : FTy → Type} [FloatOps F] (main_arg0 : FVec F S16384x1024 .f32) (main_arg1 : FVec F S1x1024 .f32) (main_arg2 : FVec F S1x1024 .f32) (main_v14 : IVec S_ 1) (main_v15 : FVec F S1024 .f32) : IVec S_ 1 :=
  let main_v16 : FVec F S1x1024 .f32 := broadcastInDim S1x1024 ![1] bcast_S1024_S1x1024_1 main_v15
  let main_v17 : FVec F S16384x1024 .f32 := mulf main_arg0 main_arg0
  let main_cst_6 : FVec F S_ .f32 := constant S_ .f32 0x00000000#32
  let main_v18 : FVec F S1024 .f32 := (fun x v => Host.reduceAdd x v reducesTo_S16384x1024_S1024_d0 h_S_) main_v17 main_cst_6
  let main_v19 : FVec F S1x1024 .f32 := broadcastInDim S1x1024 ![1] bcast_S1024_S1x1024_1 main_v18
  let main_v20 : IVec S1x1024 1 := cmpf .oeq main_arg1 main_v16
  let main_c_7 : IVec S_ 1 := constantI S_ 1 1#1
  let main_v21 : IVec S_ 1 := (fun x v => Host.reduce IntOp.andi x v reducesTo_S1x1024_S_d0_1 h_S_) main_v20 main_c_7
  let main_v22 : IVec S1x1024 1 := cmpf .oeq main_arg2 main_v19
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v21 main_v23
  let main_v25 : IVec S_ 1 := andi main_v14 main_v24
  main_v25

def fn {F : FTy → Type} [FloatOps F] (main_arg0 : FVec F S16384x1024 .f32) (main_arg1 : FVec F S1x1024 .f32) (main_arg2 : FVec F S1x1024 .f32) (main_arg3 : FVec F S1024 .f32) (main_arg4 : FVec F S1024 .f32) (main_arg5 : FVec F S1024x1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_c_0 : IVec S_ 1 := constantI S_ 1 1#1
  let main_v4 : IVec S_ 1 := andi main_c_0 main_v3
  let main_v5 : FVec F S1024 .f32 := Host.absf main_arg3
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024 .f32 := Host.absf main_arg4
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_cst_5 : FVec F S_ .f32 := constant S_ .f32 0x00000000#32
  let main_v15 : FVec F S1024 .f32 := (fun x v => Host.reduceAdd x v reducesTo_S16384x1024_S1024_d0 h_S_) main_arg0 main_cst_5
  fn_part1 (F := F) main_arg0 main_arg1 main_arg2 main_v14 main_v15
-- ==== Pre_linear_bn_pre_1024.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024 : S_.BroadcastsInDim S1024 (![] : Fin 0 → Fin S1024.rank)
  reducesTo_S1024_S_d0 : S1024.ReducesTo [0] S_
  reducesTo_S1024x1024_S1024_d0 : S1024x1024.ReducesTo [0] S1024
  bcast_S1024_S1x1024_1 : S1024.BroadcastsInDim S1x1024 (![1] : Fin 1 → Fin S1x1024.rank)
  reducesTo_S1x1024_S_d0_1 : S1x1024.ReducesTo [0, 1] S_

variable [Facts]

def fn_part1 {F : FTy → Type} [FloatOps F] (main_arg0 : FVec F S1024x1024 .f32) (main_arg1 : FVec F S1x1024 .f32) (main_arg2 : FVec F S1x1024 .f32) (main_v14 : IVec S_ 1) (main_v15 : FVec F S1024 .f32) : IVec S_ 1 :=
  let main_v16 : FVec F S1x1024 .f32 := broadcastInDim S1x1024 ![1] bcast_S1024_S1x1024_1 main_v15
  let main_v17 : FVec F S1024x1024 .f32 := mulf main_arg0 main_arg0
  let main_cst_6 : FVec F S_ .f32 := constant S_ .f32 0x00000000#32
  let main_v18 : FVec F S1024 .f32 := (fun x v => Host.reduceAdd x v reducesTo_S1024x1024_S1024_d0 h_S_) main_v17 main_cst_6
  let main_v19 : FVec F S1x1024 .f32 := broadcastInDim S1x1024 ![1] bcast_S1024_S1x1024_1 main_v18
  let main_v20 : IVec S1x1024 1 := cmpf .oeq main_arg1 main_v16
  let main_c_7 : IVec S_ 1 := constantI S_ 1 1#1
  let main_v21 : IVec S_ 1 := (fun x v => Host.reduce IntOp.andi x v reducesTo_S1x1024_S_d0_1 h_S_) main_v20 main_c_7
  let main_v22 : IVec S1x1024 1 := cmpf .oeq main_arg2 main_v19
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v21 main_v23
  let main_v25 : IVec S_ 1 := andi main_v14 main_v24
  main_v25

def fn {F : FTy → Type} [FloatOps F] (main_arg0 : FVec F S1024x1024 .f32) (main_arg1 : FVec F S1x1024 .f32) (main_arg2 : FVec F S1x1024 .f32) (main_arg3 : FVec F S1024 .f32) (main_arg4 : FVec F S1024 .f32) (main_arg5 : FVec F S1024x1024 .f32) (main_arg6 : FVec F S1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_c_0 : IVec S_ 1 := constantI S_ 1 1#1
  let main_v4 : IVec S_ 1 := andi main_c_0 main_v3
  let main_v5 : FVec F S1024 .f32 := Host.absf main_arg3
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024 .f32 := Host.absf main_arg4
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_cst_5 : FVec F S_ .f32 := constant S_ .f32 0x00000000#32
  let main_v15 : FVec F S1024 .f32 := (fun x v => Host.reduceAdd x v reducesTo_S1024x1024_S1024_d0 h_S_) main_arg0 main_cst_5
  fn_part1 (F := F) main_arg0 main_arg1 main_arg2 main_v14 main_v15
-- ==== Pre_linear_bn_pre_4096.lean ====
abbrev S4096x1024 : Shape := ⟨2, ![4096, 1024]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  reducesTo_S4096x1024_S1024_d0 : S4096x1024.ReducesTo [0] S1024
  bcast_S1024_S1x1024_1 : S1024.BroadcastsInDim S1x1024 (![1] : Fin 1 → Fin S1x1024.rank)
  reducesTo_S1x1024_S_d0_1 : S1x1024.ReducesTo [0, 1] S_

variable [Facts]

def fn_part1 {F : FTy → Type} [FloatOps F] (main_arg0 : FVec F S4096x1024 .f32) (main_arg1 : FVec F S1x1024 .f32) (main_arg2 : FVec F S1x1024 .f32) (main_v14 : IVec S_ 1) (main_v15 : FVec F S1024 .f32) : IVec S_ 1 :=
  let main_v16 : FVec F S1x1024 .f32 := broadcastInDim S1x1024 ![1] bcast_S1024_S1x1024_1 main_v15
  let main_v17 : FVec F S4096x1024 .f32 := mulf main_arg0 main_arg0
  let main_cst_6 : FVec F S_ .f32 := constant S_ .f32 0x00000000#32
  let main_v18 : FVec F S1024 .f32 := (fun x v => Host.reduceAdd x v reducesTo_S4096x1024_S1024_d0 h_S_) main_v17 main_cst_6
  let main_v19 : FVec F S1x1024 .f32 := broadcastInDim S1x1024 ![1] bcast_S1024_S1x1024_1 main_v18
  let main_v20 : IVec S1x1024 1 := cmpf .oeq main_arg1 main_v16
  let main_c_7 : IVec S_ 1 := constantI S_ 1 1#1
  let main_v21 : IVec S_ 1 := (fun x v => Host.reduce IntOp.andi x v reducesTo_S1x1024_S_d0_1 h_S_) main_v20 main_c_7
  let main_v22 : IVec S1x1024 1 := cmpf .oeq main_arg2 main_v19
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v21 main_v23
  let main_v25 : IVec S_ 1 := andi main_v14 main_v24
  main_v25

def fn {F : FTy → Type} [FloatOps F] (main_arg0 : FVec F S4096x1024 .f32) (main_arg1 : FVec F S1x1024 .f32) (main_arg2 : FVec F S1x1024 .f32) (main_arg3 : FVec F S1024 .f32) (main_arg4 : FVec F S1024 .f32) (main_arg5 : FVec F S1024x1024 .f32) (main_arg6 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024 .f32 := Host.absf main_arg3
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024 .f32 := Host.absf main_arg4
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_cst_5 : FVec F S_ .f32 := constant S_ .f32 0x00000000#32
  let main_v15 : FVec F S1024 .f32 := (fun x v => Host.reduceAdd x v reducesTo_S4096x1024_S1024_d0 h_S_) main_arg0 main_cst_5
  fn_part1 (F := F) main_arg0 main_arg1 main_arg2 main_v14 main_v15
-- ==== Pre_nearest_linear_pre.lean ====
abbrev S32 : Shape := ⟨1, ![32]⟩
abbrev S4096x1024 : Shape := ⟨2, ![4096, 1024]⟩
abbrev S1x1024 : Shape := ⟨2, ![1, 1024]⟩
abbrev S1024 : Shape := ⟨1, ![1024]⟩
abbrev S16384x64 : Shape := ⟨2, ![16384, 64]⟩
abbrev S4096x3 : Shape := ⟨2, ![4096, 3]⟩
abbrev S16384x3 : Shape := ⟨2, ![16384, 3]⟩
abbrev S4096 : Shape := ⟨1, ![4096]⟩
abbrev S16384 : Shape := ⟨1, ![16384]⟩
abbrev S1088x1024 : Shape := ⟨2, ![1088, 1024]⟩
abbrev S_ : Shape := ⟨0, ![]⟩
abbrev S16384x1 : Shape := ⟨2, ![16384, 1]⟩
abbrev S1x4096 : Shape := ⟨2, ![1, 4096]⟩
abbrev S16384x4096 : Shape := ⟨2, ![16384, 4096]⟩
abbrev S32x1 : Shape := ⟨2, ![32, 1]⟩
abbrev S32x512 : Shape := ⟨2, ![32, 512]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_
  bcast_S16384_S16384x1_0 : S16384.BroadcastsInDim S16384x1 (![0] : Fin 1 → Fin S16384x1.rank)
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  bcast_S_S16384 : S_.BroadcastsInDim S16384 (![] : Fin 0 → Fin S16384.rank)
  reducesTo_S16384_S_d0 : S16384.ReducesTo [0] S_
  bcast_S32_S32x1_0 : S32.BroadcastsInDim S32x1 (![0] : Fin 1 → Fin S32x1.rank)
  bcast_S32x1_S32x512_0_1 : S32x1.BroadcastsInDim S32x512 (![0, 1] : Fin 2 → Fin S32x512.rank)
  shapeCasts_S32x512_S16384x1 : S32x512.ShapeCasts S16384x1
  bcast_S_S16384x1 : S_.BroadcastsInDim S16384x1 (![] : Fin 0 → Fin S16384x1.rank)
  reducesTo_S16384x4096_S_d0_1 : S16384x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  reducesTo_S4096x1024_S1024_d0 : S4096x1024.ReducesTo [0] S1024
  bcast_S1024_S1x1024_1 : S1024.BroadcastsInDim S1x1024 (![1] : Fin 1 → Fin S1x1024.rank)
  reducesTo_S1x1024_S_d0_1 : S1x1024.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v61 : IVec S_ 1) (main_v71 : IVec S32 1) : IVec S_ 1 :=
  let main_c_22 : IVec S_ 1 := constantI S_ 1 1#1
  let main_v72 : IVec S_ 1 := (fun x v => Host.reduce IntOp.andi x v reducesTo_S32_S_d0 h_S_) main_v71 main_c_22
  let main_v73 : IVec S_ 1 := andi main_v61 main_v72
  main_v73

def fn_part3 {F : FTy → Type} [FloatOps F] (main_arg0 : IVec S32 32) (main_arg3 : FVec F S1x1024 .f32) (main_v8 : IVec S_ 1) (main_v18 : IVec S_ 1) (main_v32 : IVec S_ 1) (main_v47 : IVec S_ 1) (main_v52 : FVec F S1x1024 .f32) (main_v53 : IVec S1x1024 1) : IVec S_ 1 :=
  let main_c_16 : IVec S_ 1 := constantI S_ 1 1#1
  let main_v54 : IVec S_ 1 := (fun x v => Host.reduce IntOp.andi x v reducesTo_S1x1024_S_d0_1 h_S_) main_v53 main_c_16
  let main_v55 : IVec S1x1024 1 := cmpf .oeq main_arg3 main_v52
  let main_c_17 : IVec S_ 1 := constantI S_ 1 1#1
  let main_v56 : IVec S_ 1 := (fun x v => Host.reduce IntOp.andi x v reducesTo_S1x1024_S_d0_1 h_S_) main_v55 main_c_17
  let main_v57 : IVec S_ 1 := andi main_v54 main_v56
  let main_v58 : IVec S_ 1 := andi main_v47 main_v57
  let main_v59 : IVec S_ 1 := andi main_v58 main_v8
  let main_v60 : IVec S_ 1 := andi main_v59 main_v18
  let main_v61 : IVec S_ 1 := andi main_v60 main_v32
  let main_c_18 : IVec S_ 32 := constantI S_ 32 127#32
  let main_v62 : IVec S32 32 := broadcastInDim S32 ![] bcast_S_S32 main_c_18
  let main_v63 : IVec S32 32 := andi main_arg0 main_v62
  let main_c_19 : IVec S_ 32 := constantI S_ 32 0#32
  let main_v64 : IVec S32 32 := broadcastInDim S32 ![] bcast_S_S32 main_c_19
  let main_v65 : IVec S32 1 := cmpi .eq main_v63 main_v64
  let main_c_20 : IVec S_ 32 := constantI S_ 32 0#32
  let main_v66 : IVec S32 32 := broadcastInDim S32 ![] bcast_S_S32 main_c_20
  let main_v67 : IVec S32 1 := cmpi .sge main_arg0 main_v66
  let main_v68 : IVec S32 1 := andi main_v65 main_v67
  let main_c_21 : IVec S_ 32 := constantI S_ 32 1536#32
  let main_v69 : IVec S32 32 := broadcastInDim S32 ![] bcast_S_S32 main_c_21
  let main_v70 : IVec S32 1 := cmpi .sle main_arg0 main_v69
  let main_v71 : IVec S32 1 := andi main_v68 main_v70
  fn_part4 (F := F) main_v61 main_v71

def fn_part2 {F : FTy → Type} [FloatOps F] (main_arg0 : IVec S32 32) (main_arg1 : FVec F S4096x1024 .f32) (main_arg2 : FVec F S1x1024 .f32) (main_arg3 : FVec F S1x1024 .f32) (main_arg4 : FVec F S1024 .f32) (main_arg5 : FVec F S1024 .f32) (main_v8 : IVec S_ 1) (main_v18 : IVec S_ 1) (main_v32 : IVec S_ 1) (main_v36 : IVec S_ 1) : IVec S_ 1 :=
  let main_c_9 : IVec S_ 1 := constantI S_ 1 1#1
  let main_v37 : IVec S_ 1 := andi main_c_9 main_v36
  let main_v38 : FVec F S1024 .f32 := Host.absf main_arg4
  let main_cst_10 : FVec F S_ .f32 := constant S_ .f32 0x7F800000#32
  let main_v39 : FVec F S1024 .f32 := broadcastInDim S1024 ![] bcast_S_S1024 main_cst_10
  let main_v40 : IVec S1024 1 := cmpf .olt main_v38 main_v39
  let main_c_11 : IVec S_ 1 := constantI S_ 1 1#1
  let main_v41 : IVec S_ 1 := (fun x v => Host.reduce IntOp.andi x v reducesTo_S1024_S_d0 h_S_) main_v40 main_c_11
  let main_v42 : IVec S_ 1 := andi main_v37 main_v41
  let main_v43 : FVec F S1024 .f32 := Host.absf main_arg5
  let main_cst_12 : FVec F S_ .f32 := constant S_ .f32 0x7F800000#32
  let main_v44 : FVec F S1024 .f32 := broadcastInDim S1024 ![] bcast_S_S1024 main_cst_12
  let main_v45 : IVec S1024 1 := cmpf .olt main_v43 main_v44
  let main_c_13 : IVec S_ 1 := constantI S_ 1 1#1
  let main_v46 : IVec S_ 1 := (fun x v => Host.reduce IntOp.andi x v reducesTo_S1024_S_d0 h_S_) main_v45 main_c_13
  let main_v47 : IVec S_ 1 := andi main_v42 main_v46
  let main_cst_14 : FVec F S_ .f32 := constant S_ .f32 0x00000000#32
  let main_v48 : FVec F S1024 .f32 := (fun x v => Host.reduceAdd x v reducesTo_S4096x1024_S1024_d0 h_S_) main_arg1 main_cst_14
  let main_v49 : FVec F S1x1024 .f32 := broadcastInDim S1x1024 ![1] bcast_S1024_S1x1024_1 main_v48
  let main_v50 : FVec F S4096x1024 .f32 := mulf main_arg1 main_arg1
  let main_cst_15 : FVec F S_ .f32 := constant S_ .f32 0x00000000#32
  let main_v51 : FVec F S1024 .f32 := (fun x v => Host.reduceAdd x v reducesTo_S4096x1024_S1024_d0 h_S_) main_v50 main_cst_15
  let main_v52 : FVec F S1x1024 .f32 := broadcastInDim S1x1024 ![1] bcast_S1024_S1x1024_1 main_v51
  let main_v53 : IVec S1x1024 1 := cmpf .oeq main_arg2 main_v49
  fn_part3 (F := F) main_arg0 main_arg3 main_v8 main_v18 main_v32 main_v47 main_v52 main_v53

def fn_part1 {F : FTy → Type} [FloatOps F] (main_arg0 : IVec S32 32) (main_arg1 : FVec F S4096x1024 .f32) (main_arg2 : FVec F S1x1024 .f32) (main_arg3 : FVec F S1x1024 .f32) (main_arg4 : FVec F S1024 .f32) (main_arg5 : FVec F S1024 .f32) (main_v8 : IVec S_ 1) (main_v13 : IVec S16384x4096 1) (main_v17 : IVec S16384 1) : IVec S_ 1 :=
  let main_c_4 : IVec S_ 1 := constantI S_ 1 1#1
  let main_v18 : IVec S_ 1 := (fun x v => Host.reduce IntOp.andi x v reducesTo_S16384_S_d0 h_S_) main_v17 main_c_4
  let main_v19 : IVec S32x1 32 := broadcastInDim S32x1 ![0] bcast_S32_S32x1_0 main_arg0
  let main_v20 : IVec S32x512 32 := broadcastInDim S32x512 ![0, 1] bcast_S32x1_S32x512_0_1 main_v19
  let main_v21 : IVec S16384x1 32 := shapeCast S16384x1 main_v20 shapeCasts_S32x512_S16384x1
  let main_v22 : IVec S16384x4096 32 := iotaInDim S16384x4096 32 1
  let main_v23 : IVec S16384x4096 1 := noti main_v13
  let main_v24 : IVec S16384x4096 32 := broadcastInDim S16384x4096 ![0, 1] bcast_S16384x1_S16384x4096_0_1 main_v21
  let main_v25 : IVec S16384x4096 1 := cmpi .sle main_v24 main_v22
  let main_c_5 : IVec S_ 32 := constantI S_ 32 2560#32
  let main_v26 : IVec S16384x1 32 := broadcastInDim S16384x1 ![] bcast_S_S16384x1 main_c_5
  let main_v27 : IVec S16384x1 32 := addi main_v21 main_v26
  let main_v28 : IVec S16384x4096 32 := broadcastInDim S16384x4096 ![0, 1] bcast_S16384x1_S16384x4096_0_1 main_v27
  let main_v29 : IVec S16384x4096 1 := cmpi .slt main_v22 main_v28
  let main_v30 : IVec S16384x4096 1 := andi main_v25 main_v29
  let main_v31 : IVec S16384x4096 1 := ori main_v23 main_v30
  let main_c_6 : IVec S_ 1 := constantI S_ 1 1#1
  let main_v32 : IVec S_ 1 := (fun x v => Host.reduce IntOp.andi x v reducesTo_S16384x4096_S_d0_1 h_S_) main_v31 main_c_6
  let main_v33 : FVec F S4096x1024 .f32 := Host.absf main_arg1
  let main_cst_7 : FVec F S_ .f32 := constant S_ .f32 0x7F800000#32
  let main_v34 : FVec F S4096x1024 .f32 := broadcastInDim S4096x1024 ![] bcast_S_S4096x1024 main_cst_7
  let main_v35 : IVec S4096x1024 1 := cmpf .olt main_v33 main_v34
  let main_c_8 : IVec S_ 1 := constantI S_ 1 1#1
  let main_v36 : IVec S_ 1 := (fun x v => Host.reduce IntOp.andi x v reducesTo_S4096x1024_S_d0_1 h_S_) main_v35 main_c_8
  fn_part2 (F := F) main_arg0 main_arg1 main_arg2 main_arg3 main_arg4 main_arg5 main_v8 main_v18 main_v32 main_v36

def fn {F : FTy → Type} [FloatOps F] (main_arg0 : IVec S32 32) (main_arg1 : FVec F S4096x1024 .f32) (main_arg2 : FVec F S1x1024 .f32) (main_arg3 : FVec F S1x1024 .f32) (main_arg4 : FVec F S1024 .f32) (main_arg5 : FVec F S1024 .f32) (main_arg6 : FVec F S16384x64 .f32) (main_arg7 : FVec F S4096x3 .f32) (main_arg8 : FVec F S16384x3 .f32) (main_arg9 : IVec S4096 32) (main_arg10 : IVec S16384 32) (main_arg11 : FVec F S1088x1024 .f32) (main_arg12 : FVec F S1024 .f32) : IVec S_ 1 :=
  let main_v0 : FVec F S4096x3 .f32 := Host.absf main_arg7
  let main_cst : FVec F S_ .f32 := constant S_ .f32 0x461C4000#32
  let main_v1 : FVec F S4096x3 .f32 := broadcastInDim S4096x3 ![] bcast_S_S4096x3 main_cst
  let main_v2 : IVec S4096x3 1 := cmpf .ole main_v0 main_v1
  let main_c : IVec S_ 1 := constantI S_ 1 1#1
  let main_v3 : IVec S_ 1 := (fun x v => Host.reduce IntOp.andi x v reducesTo_S4096x3_S_d0_1 h_S_) main_v2 main_c
  let main_v4 : FVec F S16384x3 .f32 := Host.absf main_arg8
  let main_cst_0 : FVec F S_ .f32 := constant S_ .f32 0x461C4000#32
  let main_v5 : FVec F S16384x3 .f32 := broadcastInDim S16384x3 ![] bcast_S_S16384x3 main_cst_0
  let main_v6 : IVec S16384x3 1 := cmpf .ole main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : IVec S16384x1 32 := broadcastInDim S16384x1 ![0] bcast_S16384_S16384x1_0 main_arg10
  let main_v10 : IVec S1x4096 32 := broadcastInDim S1x4096 ![1] bcast_S4096_S1x4096_1 main_arg9
  let main_v11 : IVec S16384x4096 32 := broadcastInDim S16384x4096 ![0, 1] bcast_S16384x1_S16384x4096_0_1 main_v9
  let main_v12 : IVec S16384x4096 32 := broadcastInDim S16384x4096 ![0, 1] bcast_S1x4096_S16384x4096_0_1 main_v10
  let main_v13 : IVec S16384x4096 1 := cmpi .eq main_v11 main_v12
  let main_v14 : FVec F S16384x4096 .f32 := uitofp .f32 main_v13
  let main_cst_2 : FVec F S_ .f32 := constant S_ .f32 0x00000000#32
  let main_v15 : FVec F S16384 .f32 := (fun x v => Host.reduceAdd x v reducesTo_S16384x4096_S16384_d1 h_S_) main_v14 main_cst_2
  let main_cst_3 : FVec F S_ .f32 := constant S_ .f32 0x40400000#32
  let main_v16 : FVec F S16384 .f32 := broadcastInDim S16384 ![] bcast_S_S16384 main_cst_3
  let main_v17 : IVec S16384 1 := cmpf .oge main_v15 main_v16
  fn_part1 (F := F) main_arg0 main_arg1 main_arg2 main_arg3 main_arg4 main_arg5 main_v8 main_v13 main_v17
-- ==== Pre_starts_pre.lean ====
abbrev S32 : Shape := ⟨1, ![32]⟩
abbrev S4096x1024 : Shape := ⟨2, ![4096, 1024]⟩
abbrev S1x1024 : Shape := ⟨2, ![1, 1024]⟩
abbrev S1024 : Shape := ⟨1, ![1024]⟩
abbrev S16384x64 : Shape := ⟨2, ![16384, 64]⟩
abbrev S4096x3 : Shape := ⟨2, ![4096, 3]⟩
abbrev S16384x3 : Shape := ⟨2, ![16384, 3]⟩
abbrev S4096 : Shape := ⟨1, ![4096]⟩
abbrev S16384 : Shape := ⟨1, ![16384]⟩
abbrev S1088x1024 : Shape := ⟨2, ![1088, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S4096x1024 .f32) (main_arg2 : FVec F S1x1024 .f32) (main_arg3 : FVec F S1x1024 .f32) (main_arg4 : FVec F S1024 .f32) (main_arg5 : FVec F S1024 .f32) (main_arg6 : FVec F S16384x64 .f32) (main_arg7 : FVec F S4096x3 .f32) (main_arg8 : FVec F S16384x3 .f32) (main_arg9 : IVec S4096 32) (main_arg10 : IVec S16384 32) (main_arg11 : FVec F S1088x1024 .f32) (main_arg12 : FVec F S1024 .f32) : IVec S_ 1 :=
  let main_c : IVec S_ 32 := constantI S_ 32 127#32
  let main_v0 : IVec S32 32 := broadcastInDim S32 ![] bcast_S_S32 main_c
  let main_v1 : IVec S32 32 := andi main_arg0 main_v0
  let main_c_0 : IVec S_ 32 := constantI S_ 32 0#32
  let main_v2 : IVec S32 32 := broadcastInDim S32 ![] bcast_S_S32 main_c_0
  let main_v3 : IVec S32 1 := cmpi .eq main_v1 main_v2
  let main_c_1 : IVec S_ 32 := constantI S_ 32 0#32
  let main_v4 : IVec S32 32 := broadcastInDim S32 ![] bcast_S_S32 main_c_1
  let main_v5 : IVec S32 1 := cmpi .sge main_arg0 main_v4
  let main_v6 : IVec S32 1 := andi main_v3 main_v5
  let main_c_2 : IVec S_ 32 := constantI S_ 32 1536#32
  let main_v7 : IVec S32 32 := broadcastInDim S32 ![] bcast_S_S32 main_c_2
  let main_v8 : IVec S32 1 := cmpi .sle main_arg0 main_v7
  let main_v9 : IVec S32 1 := andi main_v6 main_v8
  let main_c_3 : IVec S_ 1 := constantI S_ 1 1#1
  let main_v10 : IVec S_ 1 := (fun x v => Host.reduce IntOp.andi x v reducesTo_S32_S_d0 h_S_) main_v9 main_c_3
  main_v10
-- ==== Kernel.lean ====
abbrev S16384x1024 : Shape := ⟨2, ![16384, 1024]⟩
abbrev S1x1024 : Shape := ⟨2, ![1, 1024]⟩
abbrev S1024 : Shape := ⟨1, ![1024]⟩
abbrev S1024x1024 : Shape := ⟨2, ![1024, 1024]⟩
abbrev S512x1024 : Shape := ⟨2, ![512, 1024]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_21 : BitVec 32 := 0#32
  let v39 : BitVec 1 := Scalar.cmpi .ne v38 c0_i32_21
  v39

def k0_cond2 (i : grid0.Coords) : BitVec 1 :=
  let arg0 : BitVec 32 := BitVec.ofNat 32 (i 0).val
  let c0_i32_22 : BitVec 32 := 0#32
  let v40 : BitVec 1 := Scalar.cmpi .sgt arg0 c0_i32_22
  let v41 : BitVec 32 := Scalar.extui v40
  let c0_i32_23 : BitVec 32 := 0#32
  let v42 : BitVec 1 := Scalar.cmpi .ne v41 c0_i32_23
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16384x1024 : Shape := ⟨2, ![16384, 1024]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .i32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_cst : Ref sig .tc := ⟨.hbm, 55, rfl⟩
abbrev main_call1_v0 : Ref sig .tc := ⟨.hbm, 56, rfl⟩
abbrev main_v23 : Ref sig .tc := ⟨.hbm, 57, rfl⟩
abbrev main_cst_2 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_v28 : Ref sig .tc := ⟨.hbm, 64, rfl⟩

abbrev nD : Nat := 1
abbrev τ : Topo := Topo.v7x

variable {F : FTy → Type} [FloatOps F]
-- ==== Kernel1.lean ====
abbrev S1024x2048 : Shape := ⟨2, ![1024, 2048]⟩
abbrev S1024x1024 : Shape := ⟨2, ![1024, 1024]⟩
abbrev S3072x1024 : Shape := ⟨2, ![3072, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 8
  | .vmem => 10
  | .smem => 0
  | _ => 0

abbrev bufTy : (tb : Table) → Fin (tcTables nBuf tb) → BufTy
  | .hbm, ⟨0, _⟩ => ⟨S1024x2048, .bf16⟩
  | .hbm, ⟨1, _⟩ => ⟨S1024x1024, .f32⟩
  | .hbm, ⟨2, _⟩ => ⟨S3072x1024, .f32⟩
  | .hbm, ⟨3, _⟩ => ⟨S1024, .f32⟩
  | .hbm, ⟨4, _⟩ => ⟨S1x1024, .f32⟩
  | .hbm, ⟨5, _⟩ => ⟨S1024x1024, .f32⟩
  | .hbm, ⟨6, _⟩ => ⟨S1x1024, .f32⟩
  | .hbm, ⟨7, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S3072x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_14 : BitVec 32 := 0#32
  let v22 : BitVec 1 := Scalar.cmpi .ne v21 c0_i32_14
  v22

def k0_cond2 (i : grid0.Coords) : BitVec 1 :=
  let arg0 : BitVec 32 := BitVec.ofNat 32 (i 0).val
  let c0_i32_15 : BitVec 32 := 0#32
  let v23 : BitVec 1 := Scalar.cmpi .sgt arg0 c0_i32_15
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel1Ideal.lean ====
abbrev S1024x2048 : Shape := ⟨2, ![1024, 2048]⟩
abbrev S1024x1024 : Shape := ⟨2, ![1024, 1024]⟩
abbrev S3072x1024 : Shape := ⟨2, ![3072, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 8
  | .vmem => 10
  | .smem => 0
  | _ => 0

abbrev bufTy : (tb : Table) → Fin (tcTables nBuf tb) → BufTy
  | .hbm, ⟨0, _⟩ => ⟨S1024x2048, .bf16⟩
  | .hbm, ⟨1, _⟩ => ⟨S1024x1024, .f32⟩
  | .hbm, ⟨2, _⟩ => ⟨S3072x1024, .f32⟩
  | .hbm, ⟨3, _⟩ => ⟨S1024, .f32⟩
  | .hbm, ⟨4, _⟩ => ⟨S1x1024, .f32⟩
  | .hbm, ⟨5, _⟩ => ⟨S1024x1024, .f32⟩
  | .hbm, ⟨6, _⟩ => ⟨S1x1024, .f32⟩
  | .hbm, ⟨7, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S3072x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_14 : BitVec 32 := 0#32
  let v22 : BitVec 1 := Scalar.cmpi .ne v21 c0_i32_14
  v22

def k0_cond2 (i : grid0.Coords) : BitVec 1 :=
  let arg0 : BitVec 32 := BitVec.ofNat 32 (i 0).val
  let c0_i32_15 : BitVec 32 := 0#32
  let v23 : BitVec 1 := Scalar.cmpi .sgt arg0 c0_i32_15
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference1Ideal.lean ====
abbrev S1024x2048 : Shape := ⟨2, ![1024, 2048]⟩
abbrev S1024x1024 : Shape := ⟨2, ![1024, 1024]⟩
abbrev S3072x1024 : Shape := ⟨2, ![3072, 1024]⟩
abbrev S1024 : Shape := ⟨1, ![1024]⟩
abbrev S1024x3072 : Shape := ⟨2, ![1024, 3072]⟩
abbrev S1x1024 : Shape := ⟨2, ![1, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x1024, .f32⟩
  | .hbm, ⟨2, _⟩ => ⟨S3072x1024, .f32⟩
  | .hbm, ⟨3, _⟩ => ⟨S1024, .f32⟩
  | .hbm, ⟨4, _⟩ => ⟨S1024x2048, .f32⟩
  | .hbm, ⟨5, _⟩ => ⟨S1024x3072, .f32⟩
  | .hbm, ⟨6, _⟩ => ⟨S1024x1024, .f32⟩
  | .hbm, ⟨7, _⟩ => ⟨S1x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S1024x1024, .f32⟩
  | .hbm, ⟨17, _⟩ => ⟨S_, .f32⟩
  | .hbm, ⟨18, _⟩ => ⟨S1024, .f32⟩
  | .hbm, ⟨19, _⟩ => ⟨S1x1024, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Kernel2.lean ====
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩

abbrev nBuf : Space → Nat
  | .hbm => 13
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_21 : BitVec 32 := 0#32
  let v39 : BitVec 1 := Scalar.cmpi .ne v38 c0_i32_21
  v39

def k0_cond2 (i : grid0.Coords) : BitVec 1 :=
  let arg0 : BitVec 32 := BitVec.ofNat 32 (i 0).val
  let c0_i32_22 : BitVec 32 := 0#32
  let v40 : BitVec 1 := Scalar.cmpi .sgt arg0 c0_i32_22
  let v41 : BitVec 32 := Scalar.extui v40
  let c0_i32_23 : BitVec 32 := 0#32
  let v42 : BitVec 1 := Scalar.cmpi .ne v41 c0_i32_23
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .i32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S1024x1024, .f32⟩
  | .hbm, ⟨37, _⟩ => ⟨S1024x1024, .f32⟩
  | .hbm, ⟨38, _⟩ => ⟨S1x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S1024x1024, .f32⟩
  | .hbm, ⟨47, _⟩ => ⟨S1024x1024, .f32⟩
  | .hbm, ⟨48, _⟩ => ⟨S1x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S1x1024, .f32⟩
  | .hbm, ⟨53, _⟩ => ⟨S1024x1024, .f32⟩
  | .hbm, ⟨54, _⟩ => ⟨S1024x1024, .f32⟩
  | .hbm, ⟨55, _⟩ => ⟨S_, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S1024x1024, .f32⟩
  | .hbm, ⟨62, _⟩ => ⟨S_, .f32⟩
  | .hbm, ⟨63, _⟩ => ⟨S1024, .f32⟩
  | .hbm, ⟨64, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_cst : Ref sig .tc := ⟨.hbm, 55, rfl⟩
abbrev main_call1_v0 : Ref sig .tc := ⟨.hbm, 56, rfl⟩
abbrev main_v23 : Ref sig .tc := ⟨.hbm, 57, rfl⟩
abbrev main_cst_2 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_v28 : Ref sig .tc := ⟨.hbm, 64, rfl⟩

abbrev nD : Nat := 1
abbrev τ : Topo := Topo.v7x

variable {F : FTy → Type} [FloatOps F]
-- ==== Kernel4.lean ====
abbrev S4096x1024 : Shape := ⟨2, ![4096, 1024]⟩
abbrev S4096x512 : Shape := ⟨2, ![4096, 512]⟩
abbrev S1536x1024 : Shape := ⟨2, ![1536, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S1536x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .f32⟩
  | .local _ .vmem, ⟨3, _⟩ => ⟨S1x1024, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_14 : BitVec 32 := 0#32
  let v22 : BitVec 1 := Scalar.cmpi .ne v21 c0_i32_14
  v22

def k0_cond2 (i : grid0.Coords) : BitVec 1 :=
  let arg0 : BitVec 32 := BitVec.ofNat 32 (i 0).val
  let c0_i32_15 : BitVec 32 := 0#32
  let v23 : BitVec 1 := Scalar.cmpi .sgt arg0 c0_i32_15
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x1024 : Shape := ⟨2, ![4096, 1024]⟩
abbrev S4096x512 : Shape := ⟨2, ![4096, 512]⟩
abbrev S1536x1024 : Shape := ⟨2, ![1536, 1024]⟩
abbrev S1024 : Shape := ⟨1, ![1024]⟩
abbrev S4096x1536 : Shape := ⟨2, ![4096, 1536]⟩
abbrev S1x1024 : Shape := ⟨2, ![1, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S1536x1024, .f32⟩
  | .hbm, ⟨3, _⟩ => ⟨S1024, .f32⟩
  | .hbm, ⟨4, _⟩ => ⟨S4096x1024, .f32⟩
  | .hbm, ⟨5, _⟩ => ⟨S4096x1536, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S_, .f32⟩
  | .hbm, ⟨18, _⟩ => ⟨S1024, .f32⟩
  | .hbm, ⟨19, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024 : Shape := ⟨1, ![1024]⟩
abbrev S1024x1024 : Shape := ⟨2, ![1024, 1024]⟩
abbrev S512x1024 : Shape := ⟨2, ![512, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_21 : BitVec 32 := 0#32
  let v39 : BitVec 1 := Scalar.cmpi .ne v38 c0_i32_21
  v39

def k0_cond2 (i : grid0.Coords) : BitVec 1 :=
  let arg0 : BitVec 32 := BitVec.ofNat 32 (i 0).val
  let c0_i32_22 : BitVec 32 := 0#32
  let v40 : BitVec 1 := Scalar.cmpi .sgt arg0 c0_i32_22
  let v41 : BitVec 32 := Scalar.extui v40
  let c0_i32_23 : BitVec 32 := 0#32
  let v42 : BitVec 1 := Scalar.cmpi .ne v41 c0_i32_23
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S4096x1024 : Shape := ⟨2, ![4096, 1024]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .i32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_cst : Ref sig .tc := ⟨.hbm, 55, rfl⟩
abbrev main_call1_v0 : Ref sig .tc := ⟨.hbm, 56, rfl⟩
abbrev main_v23 : Ref sig .tc := ⟨.hbm, 57, rfl⟩
abbrev main_cst_2 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_v28 : Ref sig .tc := ⟨.hbm, 64, rfl⟩

abbrev nD : Nat := 1
abbrev τ : Topo := Topo.v7x

variable {F : FTy → Type} [FloatOps F]
-- ==== Kernel8.lean ====
abbrev S16384x1024 : Shape := ⟨2, ![16384, 1024]⟩
abbrev S1x1024 : Shape := ⟨2, ![1, 1024]⟩
abbrev S1024 : Shape := ⟨1, ![1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S16384x1024 : Shape := ⟨2, ![16384, 1024]⟩
abbrev S1x1024 : Shape := ⟨2, ![1, 1024]⟩
abbrev S1024 : Shape := ⟨1, ![1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .i32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_cst_3 : Ref sig .tc := ⟨.hbm, 27, rfl⟩
abbrev main_call0_v12 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩

abbrev nD : Nat := 1
abbrev τ : Topo := Topo.v7x

variable {F : FTy → Type} [FloatOps F]
-- ==== Kernel6.lean ====
abbrev S32 : Shape := ⟨1, ![32]⟩
abbrev S4096x1024 : Shape := ⟨2, ![4096, 1024]⟩
abbrev S1x1024 : Shape := ⟨2, ![1, 1024]⟩
abbrev S1024 : Shape := ⟨1, ![1024]⟩
abbrev S16384x64 : Shape := ⟨2, ![16384, 64]⟩
abbrev S4096x3 : Shape := ⟨2, ![4096, 3]⟩
abbrev S16384x3 : Shape := ⟨2, ![16384, 3]⟩
abbrev S4096 : Shape := ⟨1, ![4096]⟩
abbrev S16384 : Shape := ⟨1, ![16384]⟩
abbrev S1088x1024 : Shape := ⟨2, ![1088, 1024]⟩
abbrev S3x4096 : Shape := ⟨2, ![3, 4096]⟩
abbrev S1x4096 : Shape := ⟨2, ![1, 4096]⟩
abbrev S16384x1 : Shape := ⟨2, ![16384, 1]⟩
abbrev S16384x1024 : Shape := ⟨2, ![16384, 1024]⟩
abbrev S512x1 : Shape := ⟨2, ![512, 1]⟩
abbrev S512x3 : Shape := ⟨2, ![512, 3]⟩
abbrev S512x64 : Shape := ⟨2, ![512, 64]⟩
abbrev S512x1024 : Shape := ⟨2, ![512, 1024]⟩
abbrev S1 : Shape := ⟨1, ![1]⟩
abbrev S3x2560 : Shape := ⟨2, ![3, 2560]⟩
abbrev S1x2560 : Shape := ⟨2, ![1, 2560]⟩
abbrev S2560x1024 : Shape := ⟨2, ![2560, 1024]⟩
abbrev S512x2560 : Shape := ⟨2, ![512, 2560]⟩
abbrev S512 : Shape := ⟨1, ![512]⟩
abbrev S1024x1024 : Shape := ⟨2, ![1024, 1024]⟩
abbrev S64x1024 : Shape := ⟨2, ![64, 1024]⟩

abbrev nBuf : Space → Nat
  | .hbm => 21
  | .vmem => 19
  | .smem => 1
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024, .f32⟩
  | .hbm, ⟨5, _⟩ => ⟨S16384x64, .f32⟩
  | .hbm, ⟨6, _⟩ => ⟨S4096x3, .f32⟩
  | .hbm, ⟨7, _⟩ => ⟨S16384x3, .f32⟩
  | .hbm, ⟨8, _⟩ => ⟨S4096, .i32⟩
  | .hbm, ⟨9, _⟩ => ⟨S16384, .i32⟩
  | .hbm, ⟨10, _⟩ => ⟨S1088x1024, .f32⟩
  | .hbm, ⟨11, _⟩ => ⟨S1024, .f32⟩
  | .hbm, ⟨12, _⟩ => ⟨S3x4096, .f32⟩
  | .hbm, ⟨13, _⟩ => ⟨S1x4096, .i32⟩
  | .hbm, ⟨14, _⟩ => ⟨S16384x1, .i32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S1x1024, .f32⟩
  | .hbm, ⟨20, _⟩ => ⟨S1x1024, .f32⟩
  | .local _ .vmem, ⟨0, _⟩ => ⟨S512x1, .i32⟩
  | .local _ .vmem, ⟨1, _⟩ => ⟨S512x1, .i32⟩
  | .local _ .vmem, ⟨2, _⟩ => ⟨S512x3, .f32⟩
  | .local _ .vmem, ⟨3, _⟩ => ⟨S512x3, .f32⟩
  | .local _ .vmem, ⟨4, _⟩ => ⟨S1x4096, .i32⟩
  | .local _ .vmem, ⟨5, _⟩ => ⟨S3x4096, .f32⟩
  | .local _ .vmem, ⟨6, _⟩ => ⟨S4096x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1088x1024, .f32⟩
  | .local _ .vmem, ⟨12, _⟩ => ⟨S1x1024, .f32⟩
  | .local _ .vmem, ⟨13, _⟩ => ⟨S512x64, .f32⟩
  | .local _ .vmem, ⟨14, _⟩ => ⟨S512x64, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .smem, ⟨0, _⟩ => ⟨S32, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v1 : BitVec 32) : BitVec 32 :=
  v1

def k0_off2 (v1 : BitVec 32) : Fin 2 → Nat :=
  let c0 : Index := 0#32
  let v2 : BitVec 32 := v1
  let v3 : Index := Scalar.indexCast v2
  ![0, v3.toNat]
def k0_off3 (v1 : BitVec 32) : Fin 2 → Nat :=
  let c0_0 : Index := 0#32
  let v2 : BitVec 32 := v1
  let v6 : Index := Scalar.indexCast v2
  ![0, v6.toNat]
def k0_off4 (v1 : BitVec 32) : Fin 2 → Nat :=
  let v2 : BitVec 32 := v1
  let v9 : Index := Scalar.indexCast v2
  let c0_1 : Index := 0#32
  ![v9.toNat, 0]

def k0_chk1 (v1 : BitVec 32) : Prop :=
  (128 ∣ (k0_mult1 v1).toNat) ∧
  (∀ a, (k0_off2 v1) a + S3x2560.size a ≤ S3x4096.size a) ∧
  (∀ a, (k0_off3 v1) a + S1x2560.size a ≤ S1x4096.size a) ∧
  (∀ a, (k0_off4 v1) a + S2560x1024.size a ≤ S4096x1024.size a)
theorem k0_mult1_dvd : ∀ (v1 : BitVec 32) (k0_hw1 : k0_chk1 v1), 128 ∣ (k0_mult1 v1).toNat := fun v1 k0_hw1 => k0_hw1.1
theorem k0_off2_inb : ∀ (v1 : BitVec 32) (k0_hw1 : k0_chk1 v1), ∀ a, (k0_off2 v1) a + S3x2560.size a ≤ S3x4096.size a := fun v1 k0_hw1 => k0_hw1.2.1
theorem k0_off3_inb : ∀ (v1 : BitVec 32) (k0_hw1 : k0_chk1 v1), ∀ a, (k0_off3 v1) a + S1x2560.size a ≤ S1x4096.size a := fun v1 k0_hw1 => k0_hw1.2.2.1
theorem k0_off4_inb : ∀ (v1 : BitVec 32) (k0_hw1 : k0_chk1 v1), ∀ a, (k0_off4 v1) a + S2560x1024.size a ≤ S4096x1024.size a := fun v1 k0_hw1 => k0_hw1.2.2.2

def k0_cond1 (i : grid0.Coords) : BitVec 1 :=
  let arg0 : BitVec 32 := BitVec.ofNat 32 (i 0).val
  let c0_i32 : BitVec 32 := 0#32
  let v152 : BitVec 1 := Scalar.cmpi .eq arg0 c0_i32
  let v153 : BitVec 32 := Scalar.extui v152
  let c0_i32_53 : BitVec 32 := 0#32
  let v154 : BitVec 1 := Scalar.cmpi .ne v153 c0_i32_53
  v154

def k0_cond2 (i : grid0.Coords) : BitVec 1 :=
  let arg0 : BitVec 32 := BitVec.ofNat 32 (i 0).val
  let c0_i32_54 : BitVec 32 := 0#32
  let v155 : BitVec 1 := Scalar.cmpi .sgt arg0 c0_i32_54
  let v156 : BitVec 32 := Scalar.extui v155
  let c0_i32_55 : BitVec 32 := 0#32
  let v157 : BitVec 1 := Scalar.cmpi .ne v156 c0_i32_55
  v157

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1088x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference6Ideal.lean ====
abbrev S32 : Shape := ⟨1, ![32]⟩
abbrev S4096x1024 : Shape := ⟨2, ![4096, 1024]⟩
abbrev S1x1024 : Shape := ⟨2, ![1, 1024]⟩
abbrev S1024 : Shape := ⟨1, ![1024]⟩
abbrev S16384x64 : Shape := ⟨2, ![16384, 64]⟩
abbrev S4096x3 : Shape := ⟨2, ![4096, 3]⟩
abbrev S16384x3 : Shape := ⟨2, ![16384, 3]⟩
abbrev S4096 : Shape := ⟨1, ![4096]⟩
abbrev S16384 : Shape := ⟨1, ![16384]⟩
abbrev S1088x1024 : Shape := ⟨2, ![1088, 1024]⟩
abbrev S_ : Shape := ⟨0, ![]⟩
abbrev S16384x1 : Shape := ⟨2, ![16384, 1]⟩
abbrev S3x4096 : Shape := ⟨2, ![3, 4096]⟩
abbrev S16384x4096 : Shape := ⟨2, ![16384, 4096]⟩
abbrev S1x4096 : Shape := ⟨2, ![1, 4096]⟩
abbrev S16384x3x1 : Shape := ⟨3, ![16384, 3, 1]⟩
abbrev S16384x3x1024 : Shape := ⟨3, ![16384, 3, 1024]⟩
abbrev S16384x1024 : Shape := ⟨2, ![16384, 1024]⟩
abbrev S16384x1088 : Shape := ⟨2, ![16384, 1088]⟩

abbrev nBuf : Space → Nat
  | .hbm => 128
  | .vmem => 0
  | .smem => 0
  | _ => 0

abbrev bufTy : (tb : Table) → Fin (tcTables nBuf tb) → BufTy
  | .hbm, ⟨0, _⟩ => ⟨S32, .i32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S16384x64, .f32⟩
  | .hbm, ⟨7, _⟩ => ⟨S4096x3, .f32⟩
  | .hbm, ⟨8, _⟩ => ⟨S16384x3, .f32⟩
  | .hbm, ⟨9, _⟩ => ⟨S4096, .i32⟩
  | .hbm, ⟨10, _⟩ => ⟨S16384, .i32⟩
  | .hbm, ⟨11, _⟩ => ⟨S1088x1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .i32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S16384x3, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S3x4096, .f32⟩
  | .hbm, ⟨62, _⟩ => ⟨S16384x4096, .f32⟩
  | .hbm, ⟨63, _⟩ => ⟨S_, .f32⟩
  | .hbm, ⟨64, _⟩ => ⟨S16384x4096, .f32⟩
  | .hbm, ⟨65, _⟩ => ⟨S16384x4096, .f32⟩
  | .hbm, ⟨66, _⟩ => ⟨S16384x4096, .f32⟩
  | .hbm, ⟨67, _⟩ => ⟨S16384x4096, .f32⟩
  | .hbm, ⟨68, _⟩ => ⟨S4096x3, .f32⟩
  | .hbm, ⟨69, _⟩ => ⟨S_, .f32⟩
  | .hbm, ⟨70, _⟩ => ⟨S4096, .f32⟩
  | .hbm, ⟨71, _⟩ => ⟨S1x4096, .f32⟩
  | .hbm, ⟨72, _⟩ => ⟨S16384x4096, .f32⟩
  | .hbm, ⟨73, _⟩ => ⟨S16384x4096, .f32⟩
  | .hbm, ⟨74, _⟩ => ⟨S16384x1, .i32⟩
  | .hbm, ⟨75, _⟩ => ⟨S1x4096, .i32⟩
  | .hbm, ⟨76, _⟩ => ⟨S16384x4096, .i32⟩
  | .hbm, ⟨77, _⟩ => ⟨S16384x4096, .i32⟩
  | .hbm, ⟨78, _⟩ => ⟨S16384x4096, .i1⟩
  | .hbm, ⟨79, _⟩ => ⟨S_, .f32⟩
  | .hbm, ⟨80, _⟩ => ⟨S_, .f32⟩
  | .hbm, ⟨81, _⟩ => ⟨S16384x4096, .f32⟩
  | .hbm, ⟨82, _⟩ => ⟨S16384x4096, .f32⟩
  | .hbm, ⟨83, _⟩ => ⟨S16384x4096, .f32⟩
  | .hbm, ⟨84, _⟩ => ⟨S16384x3, .f32⟩
  | .hbm, ⟨85, _⟩ => ⟨S16384x3, .i32⟩
  | .hbm, ⟨86, _⟩ => ⟨S16384x3, .f32⟩
  | .hbm, ⟨87, _⟩ => ⟨S_, .f32⟩
  | .hbm, ⟨88, _⟩ => ⟨S_, .f32⟩
  | .hbm, ⟨89, _⟩ => ⟨S16384x3, .f32⟩
  | .hbm, ⟨90, _⟩ => ⟨S16384x3, .f32⟩
  | .hbm, ⟨91, _⟩ => ⟨S_, .f32⟩
  | .hbm, ⟨92, _⟩ => ⟨S16384x3, .f32⟩
  | .hbm, ⟨93, _⟩ => ⟨S16384x3, .f32⟩
  | .hbm, ⟨94, _⟩ => ⟨S_, .i32⟩
  | .hbm, ⟨95, _⟩ => ⟨S16384x3, .i32⟩
  | .hbm, ⟨96, _⟩ => ⟨S16384x3, .i1⟩
  | .hbm, ⟨97, _⟩ => ⟨S_, .i32⟩
  | .hbm, ⟨98, _⟩ => ⟨S16384x3, .i32⟩
  | .hbm, ⟨99, _⟩ => ⟨S16384x3, .i32⟩
  | .hbm, ⟨100, _⟩ => ⟨S16384x3, .i32⟩
  | .hbm, ⟨101, _⟩ => ⟨S16384x3x1, .i32⟩
  | .hbm, ⟨102, _⟩ => ⟨S16384x3x1024, .f32⟩
  | .hbm, ⟨103, _⟩ => ⟨S16384x3x1, .f32⟩
  | .hbm, ⟨104, _⟩ => ⟨S16384x3x1024, .f32⟩
  | .hbm, ⟨105, _⟩ => ⟨S16384x3x1024, .f32⟩
  | .hbm, ⟨106, _⟩ => ⟨S_, .f32⟩
  | .hbm, ⟨107, _⟩ => ⟨S16384x1024, .f32⟩
  | .hbm, ⟨108, _⟩ => ⟨S_, .f32⟩
  | .hbm, ⟨109, _⟩ => ⟨S16384, .f32⟩
  | .hbm, ⟨110, _⟩ => ⟨S16384x1, .f32⟩
  | .hbm, ⟨111, _⟩ => ⟨S16384x1024, .f32⟩
  | .hbm, ⟨112, _⟩ => ⟨S16384x1024, .f32⟩
  | .hbm, ⟨113, _⟩ => ⟨S16384x1088, .f32⟩
  | .hbm, ⟨114, _⟩ => ⟨S16384x1024, .f32⟩
  | .hbm, ⟨115, _⟩ => ⟨S1x1024, .f32⟩
  | .hbm, ⟨116, _⟩ => ⟨S16384x1024, .f32⟩
  | .hbm, ⟨117, _⟩ => ⟨S16384x1024, .f32⟩
  | .hbm, ⟨118, _⟩ => ⟨S_, .f32⟩
  | .hbm, ⟨119, _⟩ => ⟨S16384x1024, .f32⟩
  | .hbm, ⟨120, _⟩ => ⟨S16384x1024, .f32⟩
  | .hbm, ⟨121, _⟩ => ⟨S_, .f32⟩
  | .hbm, ⟨122, _⟩ => ⟨S1024, .f32⟩
  | .hbm, ⟨123, _⟩ => ⟨S1x1024, .f32⟩
  | .hbm, ⟨124, _⟩ => ⟨S16384x1024, .f32⟩
  | .hbm, ⟨125, _⟩ => ⟨S_, .f32⟩
  | .hbm, ⟨126, _⟩ => ⟨S1024, .f32⟩
  | .hbm, ⟨127, _⟩ => ⟨S1x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst_1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_2 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_3 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_4 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_5 : Ref sig .tc := ⟨.hbm, 79, rfl⟩
abbrev main_call1_v0 : Ref sig .tc := ⟨.hbm, 80, rfl⟩
abbrev main_call1_v1 : Ref sig .tc := ⟨.hbm, 81, rfl⟩
abbrev main_v38 : Ref sig .tc := ⟨.hbm, 82, rfl⟩
abbrev main_v39 : Ref sig .tc := ⟨.hbm, 83, rfl⟩
abbrev main_values : Ref sig .tc := ⟨.hbm, 84, rfl⟩
abbrev main_indices : Ref sig .tc := ⟨.hbm, 85, rfl⟩
abbrev main_v40 : Ref sig .tc := ⟨.hbm, 86, rfl⟩
abbrev main_cst_6 : Ref sig .tc := ⟨.hbm, 87, rfl⟩
abbrev main_call2_v0 : Ref sig .tc := ⟨.hbm, 88, rfl⟩
abbrev main_call2_v1 : Ref sig .tc := ⟨.hbm, 89, rfl⟩
abbrev main_v41 : Ref sig .tc := ⟨.hbm, 90, rfl⟩
abbrev main_cst_7 : Ref sig .tc := ⟨.hbm, 91, rfl⟩
abbrev main_v42 : Ref sig .tc := ⟨.hbm, 92, rfl⟩
abbrev main_v43 : Ref sig .tc := ⟨.hbm, 93, rfl⟩
abbrev main_c_8 : Ref sig .tc := ⟨.hbm, 94, rfl⟩
abbrev main_v44 : Ref sig .tc := ⟨.hbm, 95, rfl⟩
abbrev main_v45 : Ref sig .tc := ⟨.hbm, 96, rfl⟩
abbrev main_c_9 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_10 : Ref sig .tc := ⟨.hbm, 106, rfl⟩
abbrev main_v54 : Ref sig .tc := ⟨.hbm, 107, rfl⟩
abbrev main_cst_11 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_call3_cst : Ref sig .tc := ⟨.hbm, 118, rfl⟩
abbrev main_call3_v0 : Ref sig .tc := ⟨.hbm, 119, rfl⟩
abbrev main_v64 : Ref sig .tc := ⟨.hbm, 120, rfl⟩
abbrev main_cst_12 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_13 : Ref sig .tc := ⟨.hbm, 125, rfl⟩
abbrev main_v68 : Ref sig .tc := ⟨.hbm, 126, rfl⟩
abbrev main_v69 : Ref sig .tc := ⟨.hbm, 127, rfl⟩

abbrev nD : Nat := 1
abbrev τ : Topo := Topo.v7x

variable {F : FTy → Type} [FloatOps F]
-- ==== Proof.Interp6Entry.lean ====
/- The launch of the interpolation call up to its body: the windows a block of queries reads and writes, which of them
are idle and fresh at it, and the call's hypotheses. The first source of each window comes from the table `starts`,
so `Ok` (every entry read names a window inside the array) and `Hyps` (the same for the body's own reads) are assumed. -/
module
public import proofs.«01_k».proof.Proof.Gen.Kernel6Ideal.Launch
public import proofs.«01_k».proof.Proof.Gen.Kernel6Ideal.Skeleton
public import Idealize.ShloMosaic.Lib.Pipeline.Kit
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
@[expose] public section
set_option maxRecDepth 16384
noncomputable section
namespace Cert.Kernel6Ideal.Call
open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
theorem fetch0_2 (a : (pcfg0 (F := F)).Adm) : ∀ t : Fin (cfg0 a).N, ((cfg0 a).win 2).fetch t = true ↔ t.val % 32 = 0 :=
  (fun t => Pipeline.Window.fetchOf_const cc0_transform_2 (fun _ _ => rfl) (n := 32) (by decide) t : ∀ t : Fin grid0.N, Pipeline.Window.fetchOf grid0 false cc0_transform_2 t = true ↔ t.val % 32 = 0)
theorem fetch0_3 (a : (pcfg0 (F := F)).Adm) : ∀ t : Fin (cfg0 a).N, ((cfg0 a).win 3).fetch t = true ↔ t.val % 32 = 0 :=
  (fun t => Pipeline.Window.fetchOf_const cc0_transform_3 (fun _ _ => rfl) (n := 32) (by decide) t : ∀ t : Fin grid0.N, Pipeline.Window.fetchOf grid0 false cc0_transform_3 t = true ↔ t.val % 32 = 0)
theorem fetch0_4 (a : (pcfg0 (F := F)).Adm) : ∀ t : Fin (cfg0 a).N, ((cfg0 a).win 4).fetch t = true ↔ t.val % 32 = 0 :=
  (fun t => Pipeline.Window.fetchOf_const cc0_transform_4 (fun _ _ => rfl) (n := 32) (by decide) t : ∀ t : Fin grid0.N, Pipeline.Window.fetchOf grid0 false cc0_transform_4 t = true ↔ t.val % 32 = 0)
theorem fetch0_5 (a : (pcfg0 (F := F)).Adm) : ∀ t : Fin (cfg0 a).N, ((cfg0 a).win 5).fetch t = true ↔ t.val % 32 = 0 :=
  (fun t => Pipeline.Window.fetchOf_const cc0_transform_5 (fun _ _ => rfl) (n := 32) (by decide) t : ∀ t : Fin grid0.N, Pipeline.Window.fetchOf grid0 false cc0_transform_5 t = true ↔ t.val % 32 = 0)
theorem fetch0_6 (a : (pcfg0 (F := F)).Adm) : ∀ t : Fin (cfg0 a).N, ((cfg0 a).win 6).fetch t = true ↔ t.val % 32 = 0 :=
  (fun t => Pipeline.Window.fetchOf_const cc0_transform_6 (fun _ _ => rfl) (n := 32) (by decide) t : ∀ t : Fin grid0.N, Pipeline.Window.fetchOf grid0 false cc0_transform_6 t = true ↔ t.val % 32 = 0)
theorem fetch0_7 (a : (pcfg0 (F := F)).Adm) : ∀ t : Fin (cfg0 a).N, ((cfg0 a).win 7).fetch t = true ↔ t.val % 32 = 0 :=
  (fun t => Pipeline.Window.fetchOf_const cc0_transform_7 (fun _ _ => rfl) (n := 32) (by decide) t : ∀ t : Fin grid0.N, Pipeline.Window.fetchOf grid0 false cc0_transform_7 t = true ↔ t.val % 32 = 0)
theorem fetch0_8 (a : (pcfg0 (F := F)).Adm) : ∀ t : Fin (cfg0 a).N, ((cfg0 a).win 8).fetch t = true ↔ t.val % 32 = 0 :=
  (fun t => Pipeline.Window.fetchOf_const cc0_transform_8 (fun _ _ => rfl) (n := 32) (by decide) t : ∀ t : Fin grid0.N, Pipeline.Window.fetchOf grid0 false cc0_transform_8 t = true ↔ t.val % 32 = 0)
theorem fetch0_9 (a : (pcfg0 (F := F)).Adm) : ∀ t : Fin (cfg0 a).N, ((cfg0 a).win 9).fetch t = true ↔ t.val % 32 = 0 :=
  (fun t => Pipeline.Window.fetchOf_const cc0_transform_9 (fun _ _ => rfl) (n := 32) (by decide) t : ∀ t : Fin grid0.N, Pipeline.Window.fetchOf grid0 false cc0_transform_9 t = true ↔ t.val % 32 = 0)
theorem fetch0_10 (a : (pcfg0 (F := F)).Adm) : ∀ t : Fin (cfg0 a).N, ((cfg0 a).win 10).fetch t = true ↔ t.val % 32 = 0 :=
  (fun t => Pipeline.Window.fetchOf_const cc0_transform_10 (fun _ _ => rfl) (n := 32) (by decide) t : ∀ t : Fin grid0.N, Pipeline.Window.fetchOf grid0 false cc0_transform_10 t = true ↔ t.val % 32 = 0)
theorem fetch0_11 (a : (pcfg0 (F := F)).Adm) : ∀ t : Fin (cfg0 a).N, ((cfg0 a).win 11).fetch t = true :=
  (fun t => (Pipeline.Window.fetchOf_reads cc0_transform_11 reads0_11 hreads0_11 0 (by decide) (by decide) (Pipeline.Window.sep_of_coord cc0_transform_11 0 0 (fun _ => rfl) (by decide)) (P := 1) (by decide) t).mpr (Nat.mod_one _) : ∀ t : Fin grid0.N, Pipeline.Window.fetchOf grid0 false cc0_transform_11 t = true)
theorem flush0_12 (a : (pcfg0 (F := F)).Adm) : ∀ t : Fin (cfg0 a).N, ((cfg0 a).win 12).flush t = true :=
  (fun t => (Pipeline.Window.flushOf_reads cc0_transform_12 reads0_12 hreads0_12 0 (by decide) (by decide) (Pipeline.Window.sep_of_coord cc0_transform_12 0 0 (fun _ => rfl) (by decide)) (P := 1) (m := 0) (by decide) rfl t).mpr (Nat.mod_one _) : ∀ t : Fin grid0.N, Pipeline.Window.flushOf grid0 true cc0_transform_12 t = true)
theorem flush0_13 (a : (pcfg0 (F := F)).Adm) : ∀ t : Fin (cfg0 a).N, ((cfg0 a).win 13).flush t = true ↔ t.val % 32 = 31 :=
  (fun t => Pipeline.Window.flushOf_const cc0_transform_13 (fun _ _ => rfl) (n := 32) (by decide) rfl t : ∀ t : Fin grid0.N, Pipeline.Window.flushOf grid0 true cc0_transform_13 t = true ↔ t.val % 32 = 31)
theorem flush0_14 (a : (pcfg0 (F := F)).Adm) : ∀ t : Fin (cfg0 a).N, ((cfg0 a).win 14).flush t = true ↔ t.val % 32 = 31 :=
  (fun t => Pipeline.Window.flushOf_const cc0_transform_14 (fun _ _ => rfl) (n := 32) (by decide) rfl t : ∀ t : Fin grid0.N, Pipeline.Window.flushOf grid0 true cc0_transform_14 t = true ↔ t.val % 32 = 31)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)

abbrev bodyAt0 (a : (pcfg0 (F := F)).Adm) (t : Fin (cfg0 a).N) : Prog (TpuEff nD τ sig (Elt F) Λ₀ .tc) PUnit :=
  cc0__interp_lin_body (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14))

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S32 .i32 := Memref.whole main_arg0
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (by decide : main_arg0 ∈ Pipeline.restRefs sig spec0)).trans (V_main_arg0 m c),
      ((h c).1 4).trans (((dats 0 c).arrAt_in 4 rfl _).trans ((hA c 4).trans (V_main_arg1 m c))),
      ((h c).1 5).trans (((dats 0 c).arrAt_in 5 rfl _).trans ((hA c 5).trans (V_main_arg2 m c))),
      ((h c).1 6).trans (((dats 0 c).arrAt_in 6 rfl _).trans ((hA c 6).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).1 11).trans (((dats 0 c).arrAt_in 11 rfl _).trans ((hA c 11).trans (V_main_arg6 m c))),
      ((h c).2 main_arg7 (by decide : main_arg7 ∈ Pipeline.restRefs sig spec0)).trans (V_main_arg7 m c),
      ((h c).1 1).trans (((dats 0 c).arrAt_in 1 rfl _).trans ((hA c 1).trans (V_main_arg8 m c))),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).1 9).trans (((dats 0 c).arrAt_in 9 rfl _).trans ((hA c 9).trans (V_main_arg11 m c))),
      ((h c).2 main_arg12 (by decide : main_arg12 ∈ Pipeline.restRefs sig spec0)).trans (V_main_arg12 m c)⟩) h

abbrev cond0_0 (i : grid0.Coords) : Prop := k0_cond1 i = 1#1
theorem hcond0_0 : ∀ t : Fin grid0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

abbrev cond0_1 (i : grid0.Coords) : Prop := k0_cond2 i = 1#1
theorem hcond0_1 : ∀ t : Fin grid0.N, cond0_1 (grid0.coords t) ↔ 1 ≤ t.val :=
  (by decide +kernel : ∀ t : Fin grid0.N, cond0_1 (grid0.coords t) ↔ 1 ≤ t.val)

theorem liveAt0_0 (hO : Ok m) : ∀ t : Fin (cfgM m hO).N, (cfgM m hO).idle 0 (grid0.coords t) = false :=
  (fun _ => rfl : ∀ t : Fin grid0.N, idle0 0 (grid0.coords t) = false)
theorem liveAt0_1 (hO : Ok m) : ∀ t : Fin (cfgM m hO).N, (cfgM m hO).idle 1 (grid0.coords t) = false :=
  (fun _ => rfl : ∀ t : Fin grid0.N, idle0 1 (grid0.coords t) = false)
theorem liveAt0_2 (hO : Ok m) : ∀ t : Fin (cfgM m hO).N, (cfgM m hO).idle 2 (grid0.coords t) = false :=
  (fun _ => rfl : ∀ t : Fin grid0.N, idle0 2 (grid0.coords t) = false)
theorem liveAt0_3 (hO : Ok m) : ∀ t : Fin (cfgM m hO).N, (cfgM m hO).idle 3 (grid0.coords t) = false :=
  (fun _ => rfl : ∀ t : Fin grid0.N, idle0 3 (grid0.coords t) = false)
theorem liveAt0_4 (hO : Ok m) : ∀ t : Fin (cfgM m hO).N, (cfgM m hO).idle 4 (grid0.coords t) = false :=
  (fun _ => rfl : ∀ t : Fin grid0.N, idle0 4 (grid0.coords t) = false)
theorem liveAt0_5 (hO : Ok m) : ∀ t : Fin (cfgM m hO).N, (cfgM m hO).idle 5 (grid0.coords t) = false :=
  (fun _ => rfl : ∀ t : Fin grid0.N, idle0 5 (grid0.coords t) = false)
theorem liveAt0_6 (hO : Ok m) : ∀ t : Fin (cfgM m hO).N, (cfgM m hO).idle 6 (grid0.coords t) = false :=
  (fun _ => rfl : ∀ t : Fin grid0.N, idle0 6 (grid0.coords t) = false)
theorem liveAt0_7 (hO : Ok m) : ∀ t : Fin (cfgM m hO).N, (cfgM m hO).idle 7 (grid0.coords t) = false :=
  (fun _ => rfl : ∀ t : Fin grid0.N, idle0 7 (grid0.coords t) = false)
theorem liveAt0_8 (hO : Ok m) : ∀ t : Fin (cfgM m hO).N, (cfgM m hO).idle 8 (grid0.coords t) = false :=
  (fun _ => rfl : ∀ t : Fin grid0.N, idle0 8 (grid0.coords t) = false)
theorem liveAt0_9 (hO : Ok m) : ∀ t : Fin (cfgM m hO).N, (cfgM m hO).idle 9 (grid0.coords t) = false :=
  (fun _ => rfl : ∀ t : Fin grid0.N, idle0 9 (grid0.coords t) = false)
theorem liveAt0_10 (hO : Ok m) : ∀ t : Fin (cfgM m hO).N, (cfgM m hO).idle 10 (grid0.coords t) = false :=
  (fun _ => rfl : ∀ t : Fin grid0.N, idle0 10 (grid0.coords t) = false)
theorem liveAt0_11 (hO : Ok m) : ∀ t : Fin (cfgM m hO).N, (cfgM m hO).idle 11 (grid0.coords t) = false :=
  (fun _ => rfl : ∀ t : Fin grid0.N, idle0 11 (grid0.coords t) = false)
theorem liveAt0_12 (hO : Ok m) : ∀ t : Fin (cfgM m hO).N, (cfgM m hO).idle 12 (grid0.coords t) = false :=
  (fun _ => rfl : ∀ t : Fin grid0.N, idle0 12 (grid0.coords t) = false)
def freshTab0_13 : ℕ → Bool
  | 0 => true
  | n + 1 => (0x80000000 : ℕ).testBit n
theorem freshTab0_13_step (hO : Ok m) : ∀ t : Fin (cfgM m hO).N,
    freshTab0_13 (t.val + 1) = (((cfgM m hO).win 13).flush t || ((cfgM m hO).idle 13 ((cfgM m hO).grid.coords t) && freshTab0_13 t.val)) :=
  (by decide +kernel : ∀ t : Fin grid0.N, freshTab0_13 (t.val + 1) = (Pipeline.Window.flushOf grid0 true cc0_transform_13 t || (idle0 13 (grid0.coords t) && freshTab0_13 t.val)))
theorem fresh0_13_eq (hO : Ok m) (t : Fin (cfgM m hO).N) : (cfgM m hO).fresh 13 t.val = freshTab0_13 t.val :=
  Pipeline.Cfg.fresh_tab (cfgM m hO) 13 freshTab0_13 rfl (freshTab0_13_step m hO) t.val (Nat.le_of_lt t.isLt)
theorem liveAt0_13_A (hO : Ok m) : ∀ t : Fin (cfgM m hO).N, cond0_0 (grid0.coords t) → ¬cond0_1 (grid0.coords t) → (cfgM m hO).idle 13 (grid0.coords t) = false :=
  (by decide +kernel : ∀ t : Fin grid0.N, cond0_0 (grid0.coords t) → ¬cond0_1 (grid0.coords t) → idle0 13 (grid0.coords t) = false)
theorem liveAt0_13_B (hO : Ok m) : ∀ t : Fin (cfgM m hO).N, ¬cond0_0 (grid0.coords t) → cond0_1 (grid0.coords t) → (cfgM m hO).idle 13 (grid0.coords t) = false :=
  (by decide +kernel : ∀ t : Fin grid0.N, ¬cond0_0 (grid0.coords t) → cond0_1 (grid0.coords t) → idle0 13 (grid0.coords t) = false)
theorem notFresh0_13_B (hO : Ok m) : ∀ t : Fin (cfgM m hO).N, ¬cond0_0 (grid0.coords t) → cond0_1 (grid0.coords t) → (cfgM m hO).fresh 13 t.val = false :=
  fun t h0 h1 => (fresh0_13_eq m hO t).trans ((by decide +kernel : ∀ t : Fin grid0.N, ¬cond0_0 (grid0.coords t) → cond0_1 (grid0.coords t) → freshTab0_13 t.val = false) t h0 h1)
def freshTab0_14 : ℕ → Bool
  | 0 => true
  | n + 1 => (0x80000000 : ℕ).testBit n
theorem freshTab0_14_step (hO : Ok m) : ∀ t : Fin (cfgM m hO).N,
    freshTab0_14 (t.val + 1) = (((cfgM m hO).win 14).flush t || ((cfgM m hO).idle 14 ((cfgM m hO).grid.coords t) && freshTab0_14 t.val)) :=
  (by decide +kernel : ∀ t : Fin grid0.N, freshTab0_14 (t.val + 1) = (Pipeline.Window.flushOf grid0 true cc0_transform_14 t || (idle0 14 (grid0.coords t) && freshTab0_14 t.val)))
theorem fresh0_14_eq (hO : Ok m) (t : Fin (cfgM m hO).N) : (cfgM m hO).fresh 14 t.val = freshTab0_14 t.val :=
  Pipeline.Cfg.fresh_tab (cfgM m hO) 14 freshTab0_14 rfl (freshTab0_14_step m hO) t.val (Nat.le_of_lt t.isLt)
theorem liveAt0_14_A (hO : Ok m) : ∀ t : Fin (cfgM m hO).N, cond0_0 (grid0.coords t) → ¬cond0_1 (grid0.coords t) → (cfgM m hO).idle 14 (grid0.coords t) = false :=
  (by decide +kernel : ∀ t : Fin grid0.N, cond0_0 (grid0.coords t) → ¬cond0_1 (grid0.coords t) → idle0 14 (grid0.coords t) = false)
theorem liveAt0_14_B (hO : Ok m) : ∀ t : Fin (cfgM m hO).N, ¬cond0_0 (grid0.coords t) → cond0_1 (grid0.coords t) → (cfgM m hO).idle 14 (grid0.coords t) = false :=
  (by decide +kernel : ∀ t : Fin grid0.N, ¬cond0_0 (grid0.coords t) → cond0_1 (grid0.coords t) → idle0 14 (grid0.coords t) = false)
theorem notFresh0_14_B (hO : Ok m) : ∀ t : Fin (cfgM m hO).N, ¬cond0_0 (grid0.coords t) → cond0_1 (grid0.coords t) → (cfgM m hO).fresh 14 t.val = false :=
  fun t h0 h1 => (fresh0_14_eq m hO t).trans ((by decide +kernel : ∀ t : Fin grid0.N, ¬cond0_0 (grid0.coords t) → cond0_1 (grid0.coords t) → freshTab0_14 t.val = false) t h0 h1)

abbrev VO0_12 : View sig .tc .vmem S512x1024 .f32 := (Memref.whole cc0_stg12_0 : Memref sig .tc .vmem S512x1024 .f32).view
abbrev VO0_13 : View sig .tc .vmem S1x1024 .f32 := (Memref.whole cc0_stg13_0 : Memref sig .tc .vmem S1x1024 .f32).view
abbrev VO0_14 : View sig .tc .vmem S1x1024 .f32 := (Memref.whole cc0_stg14_0 : Memref sig .tc .vmem S1x1024 .f32).view
abbrev ms0_0 (hO : Ok m) (t : Fin (cfgM m hO).N) : Memref sig .tc .vmem S512x1 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x3 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x4096 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4096x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1088x1024 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1024 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S512x64 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S512x1024 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x1024 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x1024 .f32 := spec0_14.stage ((cfgM m hO).slots t 14)
abbrev hs0_14 (hO : Ok m) (t : Fin (cfgM m hO).N) : (ms0_14 m hO t).IsWhole := hstage0_14 (((cfgM m hO).slots t 14).cast nbuf0_14)

def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S32) (k0_off1 (grid0.coords t)) S1.size (k0_off1_inb (grid0.coords t))).toLoadRect (tbl m 0) (Shape.Idx.first (numel1_S1.symm ▸ Nat.one_pos)))

abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S32) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S32) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t
end Cert.Kernel6Ideal.Call
end
end
-- ==== Proof.Interp6First.lean ====
/- The body's run at the first block of queries: the sums' rows are written anew. -/
module
public import proofs.«01_k».proof.Proof.Interp6Entry
@[expose] public section
set_option maxRecDepth 16384
noncomputable section
namespace Cert.Kernel6Ideal.Call
open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) :
    Σ' (L12 : List (View.Piece (Elt F) S512x1024 .f32)), Σ' (L13 : List (View.Piece (Elt F) S1x1024 .f32)), { L14 : List (View.Piece (Elt F) S1x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ tbPt0 c tbM0_0 xt0) -∗ K ⟨⟩))
          ⊢ wp frame (wpE (defs₀ (F := F)) Variants.none c none) E (cc0__interp_lin_body i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__interp_lin_body_eq_skeleton]; unfold cc0__interp_lin_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    iexact HT0
end Cert.Kernel6Ideal.Call
end
end
-- ==== Proof.Interp6Later.lean ====
/- The body's run at a later block of queries: the sums' rows are added to. -/
module
public import proofs.«01_k».proof.Proof.Interp6First
@[expose] public section
set_option maxRecDepth 16384
noncomputable section
namespace Cert.Kernel6Ideal.Call
open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (xo13 : Vec F S1x1024 .f32) (xo14 : Vec F S1x1024 .f32) (k0_hw1 : k0_chk1 (tbM0_0.view.readAt (Elt F) (Rect.unit (s := S32) (k0_off1 i) S1.size (k0_off1_inb i)).toLoadRect xt0 (Shape.Idx.first (numel1_S1.symm ▸ Nat.one_pos)))) :
    Σ' (L12 : List (View.Piece (Elt F) S512x1024 .f32)), Σ' (L13 : List (View.Piece (Elt F) S1x1024 .f32)), { L14 : List (View.Piece (Elt F) S1x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xo13 ∗ owns (c : Thread nD τ) arg16 fullShare xo14 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ tbPt0 c tbM0_0 xt0) -∗ K ⟨⟩))
          ⊢ wp frame (wpE (defs₀ (F := F)) Variants.none c none) E (cc0__interp_lin_body i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__interp_lin_body_eq_skeleton]; unfold cc0__interp_lin_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg16.eq_unread hf14
    sl_exec (disch := first | sl_exact hc0 | sl_exact hc1 | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    iexact HT0
end Cert.Kernel6Ideal.Call
end
end
-- ==== Proof.Interp6Frame.lean ====
/- The call's three results after each block of queries (`outsAt0`), the body against them, and the call's frame: it ends,
leaves its arguments as they were, and its results hold what `outsAt0` names (`dats`). -/
module
public import proofs.«01_k».proof.Proof.Interp6Later
public import Idealize.ShloMosaic.Lib.Claim
@[expose] public section
set_option maxRecDepth 16384
noncomputable section
namespace Cert.Kernel6Ideal.Call
open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
theorem cover0_A_12 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 k0_hw1).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 k0_hw1).1 S512x1024.size (by sl_kernel_rfl) y

def out0_A_12 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) : Vec F S512x1024 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 k0_hw1).1)

theorem cover0_A_13 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 k0_hw1).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 k0_hw1).2.1 S1x1024.size (by sl_kernel_rfl) y

def out0_A_13 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) : Vec F S1x1024 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 k0_hw1).2.1)

theorem cover0_A_14 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 k0_hw1).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 k0_hw1).2.2.1 S1x1024.size (by sl_kernel_rfl) y

def out0_A_14 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : cond0_0 i) (hc1 : ¬cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (k0_hw1 : k0_chk1 (tbM0_0.view.readAt (Elt F) (Rect.unit (s := S32) (k0_off1 i) S1.size (k0_off1_inb i)).toLoadRect xt0 (Shape.Idx.first (numel1_S1.symm ▸ Nat.one_pos)))) : Vec F S1x1024 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 k0_hw1).2.2.1)

theorem cover0_B_12 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (xo13 : Vec F S1x1024 .f32) (xo14 : Vec F S1x1024 .f32) (k0_hw1 : k0_chk1 (tbM0_0.view.readAt (Elt F) (Rect.unit (s := S32) (k0_off1 i) S1.size (k0_off1_inb i)).toLoadRect xt0 (Shape.Idx.first (numel1_S1.symm ▸ Nat.one_pos)))) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 xo13 xo14 k0_hw1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 xo13 xo14 k0_hw1).1 S512x1024.size (by sl_kernel_rfl) y

def out0_B_12 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (xo13 : Vec F S1x1024 .f32) (xo14 : Vec F S1x1024 .f32) (k0_hw1 : k0_chk1 (tbM0_0.view.readAt (Elt F) (Rect.unit (s := S32) (k0_off1 i) S1.size (k0_off1_inb i)).toLoadRect xt0 (Shape.Idx.first (numel1_S1.symm ▸ Nat.one_pos)))) : Vec F S512x1024 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 xo13 xo14 k0_hw1).1)

theorem cover0_B_13 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (xo13 : Vec F S1x1024 .f32) (xo14 : Vec F S1x1024 .f32) (k0_hw1 : k0_chk1 (tbM0_0.view.readAt (Elt F) (Rect.unit (s := S32) (k0_off1 i) S1.size (k0_off1_inb i)).toLoadRect xt0 (Shape.Idx.first (numel1_S1.symm ▸ Nat.one_pos)))) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 xo13 xo14 k0_hw1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 xo13 xo14 k0_hw1).2.1 S1x1024.size (by sl_kernel_rfl) y

def out0_B_13 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (xo13 : Vec F S1x1024 .f32) (xo14 : Vec F S1x1024 .f32) (k0_hw1 : k0_chk1 (tbM0_0.view.readAt (Elt F) (Rect.unit (s := S32) (k0_off1 i) S1.size (k0_off1_inb i)).toLoadRect xt0 (Shape.Idx.first (numel1_S1.symm ▸ Nat.one_pos)))) : Vec F S1x1024 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 xo13 xo14 k0_hw1).2.1)

theorem cover0_B_14 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (xo13 : Vec F S1x1024 .f32) (xo14 : Vec F S1x1024 .f32) (k0_hw1 : k0_chk1 (tbM0_0.view.readAt (Elt F) (Rect.unit (s := S32) (k0_off1 i) S1.size (k0_off1_inb i)).toLoadRect xt0 (Shape.Idx.first (numel1_S1.symm ▸ Nat.one_pos)))) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 xo13 xo14 k0_hw1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 xo13 xo14 k0_hw1).2.2.1 S1x1024.size (by sl_kernel_rfl) y

def out0_B_14 (c : Dev nD) (i : grid0.Coords) (arg2 : Memref sig .tc .vmem S512x1 .i32) (harg2 : arg2.IsWhole) (arg3 : Memref sig .tc .vmem S512x3 .f32) (harg3 : arg3.IsWhole) (arg4 : Memref sig .tc .vmem S1x4096 .i32) (harg4 : arg4.IsWhole) (arg5 : Memref sig .tc .vmem S3x4096 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1088x1024 .f32) (harg11 : arg11.IsWhole) (arg12 : Memref sig .tc .vmem S1x1024 .f32) (harg12 : arg12.IsWhole) (arg13 : Memref sig .tc .vmem S512x64 .f32) (harg13 : arg13.IsWhole) (arg14 : Memref sig .tc .vmem S512x1024 .f32) (harg14 : arg14.IsWhole) (arg15 : Memref sig .tc .vmem S1x1024 .f32) (harg15 : arg15.IsWhole) (arg16 : Memref sig .tc .vmem S1x1024 .f32) (harg16 : arg16.IsWhole) (hc0 : ¬cond0_0 i) (hc1 : cond0_1 i)
    (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32) (xt0 : TbBuf0 (F := F) c tbM0_0) (xo13 : Vec F S1x1024 .f32) (xo14 : Vec F S1x1024 .f32) (k0_hw1 : k0_chk1 (tbM0_0.view.readAt (Elt F) (Rect.unit (s := S32) (k0_off1 i) S1.size (k0_off1_inb i)).toLoadRect xt0 (Shape.Idx.first (numel1_S1.symm ▸ Nat.one_pos)))) : Vec F S1x1024 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xt0 xo13 xo14 k0_hw1).2.2.1)

def outsAt0 (hO : Ok m) (hH : Hyps m hO) (c : Dev nD) : (n : ℕ) → n < (cfgM m hO).N → Vec F S512x1024 .f32 × Vec F S1x1024 .f32 × Vec F S1x1024 .f32
  | 0, hn => (out0_A_12 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) (ms0_14 m hO ⟨0, hn⟩) (hs0_14 m hO ⟨0, hn⟩) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (tbl m 0) (Hyps.c0 hH c ⟨0, hn⟩), out0_A_13 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) (ms0_14 m hO ⟨0, hn⟩) (hs0_14 m hO ⟨0, hn⟩) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (tbl m 0) (Hyps.c0 hH c ⟨0, hn⟩), out0_A_14 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) (ms0_14 m hO ⟨0, hn⟩) (hs0_14 m hO ⟨0, hn⟩) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (tbl m 0) (Hyps.c0 hH c ⟨0, hn⟩))
  | n + 1, hn =>
    if h0 : (n + 1) % 32 = 0 then
      if h1 : 1 ≤ (n + 1) then
        False.elim (by have hN : n + 1 < 32 := lt_of_lt_of_eq hn (show (cfgM m hO).N = 32 from N_0); omega)
      else
        (out0_A_12 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (tbl m 0) (Hyps.c0 hH c ⟨n + 1, hn⟩), out0_A_13 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (tbl m 0) (Hyps.c0 hH c ⟨n + 1, hn⟩), out0_A_14 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (tbl m 0) (Hyps.c0 hH c ⟨n + 1, hn⟩))
    else
      if h1 : 1 ≤ (n + 1) then
        (out0_B_12 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (tbl m 0) (outsAt0 hO hH c n (Nat.lt_of_succ_lt hn)).2.1 (outsAt0 hO hH c n (Nat.lt_of_succ_lt hn)).2.2 (Hyps.c0 hH c ⟨n + 1, hn⟩), out0_B_13 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (tbl m 0) (outsAt0 hO hH c n (Nat.lt_of_succ_lt hn)).2.1 (outsAt0 hO hH c n (Nat.lt_of_succ_lt hn)).2.2 (Hyps.c0 hH c ⟨n + 1, hn⟩), out0_B_14 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (tbl m 0) (outsAt0 hO hH c n (Nat.lt_of_succ_lt hn)).2.1 (outsAt0 hO hH c n (Nat.lt_of_succ_lt hn)).2.2 (Hyps.c0 hH c ⟨n + 1, hn⟩))
      else
        False.elim (by have hN : n + 1 < 32 := lt_of_lt_of_eq hn (show (cfgM m hO).N = 32 from N_0); omega)

theorem outsAt0_A (hO : Ok m) (hH : Hyps m hO) (c : Dev nD) (t : Fin (cfgM m hO).N) (h0 : t.val % 32 = 0) (h1 : ¬1 ≤ t.val) :
    outsAt0 m hO hH c t.val t.isLt = (out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (Hyps.c0 hH c t), out0_A_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (Hyps.c0 hH c t), out0_A_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (Hyps.c0 hH c t)) := by
  obtain ⟨n, hn⟩ := t
  cases n with
  | zero => exact rfl
  | succ n => exact (dif_pos h0).trans ((dif_neg h1).trans rfl)

theorem outsAt0_B (hO : Ok m) (hH : Hyps m hO) (c : Dev nD) (t : Fin (cfgM m hO).N) (h0 : ¬t.val % 32 = 0) (h1 : 1 ≤ t.val) :
    outsAt0 m hO hH c t.val t.isLt = (out0_B_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2 (Hyps.c0 hH c t), out0_B_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2 (Hyps.c0 hH c t), out0_B_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (outsAt0 m hO hH c (t.val - 1) (Nat.lt_of_le_of_lt (Nat.sub_le _ _) t.isLt)).2.1 (outsAt0 m hO hH c (t.val - 1) (Nat.lt_of_le_of_lt (Nat.sub_le _ _) t.isLt)).2.2 (Hyps.c0 hH c t)) := by
  obtain ⟨n, hn⟩ := t
  cases n with
  | zero => exact (by exfalso; (try dsimp only at h0); exact absurd (Nat.zero_mod _) h0)
  | succ n => exact (dif_neg h0).trans ((dif_pos h1).trans rfl)

def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => (outsAt0 m hO hH c t.val t.isLt).1
    | ⟨13, _⟩ => (outsAt0 m hO hH c t.val t.isLt).2.1
    | ⟨14, _⟩ => (outsAt0 m hO hH c t.val t.isLt).2.2
  Φ _ := iprop(Pipeline.ΦA spec0 c ∗ Pipeline.ΦT pre0 (tbl m) c)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = iblk m hO c 9 t := by dsimp only [dats]; try rfl
theorem after0_10 (hO : Ok m) (hH : Hyps m hO) (c : Dev nD) (t : Fin (cfgM m hO).N) : (dats m hO hH 0 c).after 10 t = iblk m hO c 10 t := by dsimp only [dats]; try rfl
theorem after0_11 (hO : Ok m) (hH : Hyps m hO) (c : Dev nD) (t : Fin (cfgM m hO).N) : (dats m hO hH 0 c).after 11 t = iblk m hO c 11 t := by dsimp only [dats]; try rfl
theorem after0_12 (hO : Ok m) (hH : Hyps m hO) (c : Dev nD) (t : Fin (cfgM m hO).N) : (dats m hO hH 0 c).after 12 t = (outsAt0 m hO hH c t.val t.isLt).1 := by dsimp only [dats]; try rfl
theorem after0_13 (hO : Ok m) (hH : Hyps m hO) (c : Dev nD) (t : Fin (cfgM m hO).N) : (dats m hO hH 0 c).after 13 t = (outsAt0 m hO hH c t.val t.isLt).2.1 := by dsimp only [dats]; try rfl
theorem after0_14 (hO : Ok m) (hH : Hyps m hO) (c : Dev nD) (t : Fin (cfgM m hO).N) : (dats m hO hH 0 c).after 14 t = (outsAt0 m hO hH c t.val t.isLt).2.2 := by dsimp only [dats]; try rfl

theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m hO) (c : Dev nD) (t : Fin (cfgM m hO).N) (d) : (dats m hO hH 0 c).before 9 t d = iblk m hO c 9 t :=
  before0_9_of m hO (dats m hO hH 0 c) (A_eq m hO hH c 9) (after0_9 m hO hH c) t d
theorem before0_10 (hO : Ok m) (hH : Hyps m hO) (c : Dev nD) (t : Fin (cfgM m hO).N) (d) : (dats m hO hH 0 c).before 10 t d = iblk m hO c 10 t :=
  before0_10_of m hO (dats m hO hH 0 c) (A_eq m hO hH c 10) (after0_10 m hO hH c) t d
theorem before0_11 (hO : Ok m) (hH : Hyps m hO) (c : Dev nD) (t : Fin (cfgM m hO).N) (d) : (dats m hO hH 0 c).before 11 t d = iblk m hO c 11 t :=
  before0_11_of m hO (dats m hO hH 0 c) (A_eq m hO hH c 11) (after0_11 m hO hH c) t d

theorem hcarry0_13 (hO : Ok m) (hH : Hyps m hO) (c : Dev nD) : ∀ (t : Fin (cfgM m hO).N) (_ : t.val ≠ 0), (cfgM m hO).idle 13 (grid0.coords t) = true → (cfgM m hO).fresh 13 t.val = false →
    (dats m hO hH 0 c).after 13 t = (dats m hO hH 0 c).after 13 ⟨t.val - 1, by omega⟩ := by
  intro t _ hi _
  have hN : t.val < 32 := lt_of_lt_of_eq t.isLt (show (cfgM m hO).N = 32 from N_0)
  rw [after0_13, after0_13]
  by_cases h0 : t.val % 32 = 0
  · by_cases h1 : 1 ≤ t.val
    · exfalso; omega
    · rw [liveAt0_13_A m hO t ((hcond0_0 t).mpr h0) (fun h => h1 ((hcond0_1 t).mp h))] at hi
      exact absurd hi Bool.false_ne_true
  · by_cases h1 : 1 ≤ t.val
    · rw [liveAt0_13_B m hO t (fun h => h0 ((hcond0_0 t).mp h)) ((hcond0_1 t).mpr h1)] at hi
      exact absurd hi Bool.false_ne_true
    · exfalso; omega

theorem hcarry0_14 (hO : Ok m) (hH : Hyps m hO) (c : Dev nD) : ∀ (t : Fin (cfgM m hO).N) (_ : t.val ≠ 0), (cfgM m hO).idle 14 (grid0.coords t) = true → (cfgM m hO).fresh 14 t.val = false →
    (dats m hO hH 0 c).after 14 t = (dats m hO hH 0 c).after 14 ⟨t.val - 1, by omega⟩ := by
  intro t _ hi _
  have hN : t.val < 32 := lt_of_lt_of_eq t.isLt (show (cfgM m hO).N = 32 from N_0)
  rw [after0_14, after0_14]
  by_cases h0 : t.val % 32 = 0
  · by_cases h1 : 1 ≤ t.val
    · exfalso; omega
    · rw [liveAt0_14_A m hO t ((hcond0_0 t).mpr h0) (fun h => h1 ((hcond0_1 t).mp h))] at hi
      exact absurd hi Bool.false_ne_true
  · by_cases h1 : 1 ≤ t.val
    · rw [liveAt0_14_B m hO t (fun h => h0 ((hcond0_0 t).mp h)) ((hcond0_1 t).mpr h1)] at hi
      exact absurd hi Bool.false_ne_true
    · exfalso; omega
theorem before0_13_B (hO : Ok m) (hH : Hyps m hO) (c : Dev nD) (t : Fin (cfgM m hO).N) (h0 : ¬t.val % 32 = 0) (h1 : 1 ≤ t.val) (d) :
    (dats m hO hH 0 c).before 13 t d = (outsAt0 m hO hH c (t.val - 1) (Nat.lt_of_le_of_lt (Nat.sub_le _ _) t.isLt)).2.1 := by
  rw [Dat.before_out_traj _ 13 rfl (fun _ _ => rfl) (hcarry0_13 m hO hH c) t.val t rfl d,
    if_neg (by rw [notFresh0_13_B m hO t (fun h => h0 ((hcond0_0 t).mp h)) ((hcond0_1 t).mpr h1)]; exact Bool.false_ne_true)]
  dsimp only [dats]
  rfl
theorem before0_14_B (hO : Ok m) (hH : Hyps m hO) (c : Dev nD) (t : Fin (cfgM m hO).N) (h0 : ¬t.val % 32 = 0) (h1 : 1 ≤ t.val) (d) :
    (dats m hO hH 0 c).before 14 t d = (outsAt0 m hO hH c (t.val - 1) (Nat.lt_of_le_of_lt (Nat.sub_le _ _) t.isLt)).2.2 := by
  rw [Dat.before_out_traj _ 14 rfl (fun _ _ => rfl) (hcarry0_14 m hO hH c) t.val t rfl d,
    if_neg (by rw [notFresh0_14_B m hO t (fun h => h0 ((hcond0_0 t).mp h)) ((hcond0_1 t).mpr h1)]; exact Bool.false_ne_true)]
  dsimp only [dats]
  rfl

def bodyPre (hO : Ok m) (hH : Hyps m hO) (c : Dev nD) (t : Fin (cfgM m hO).N) : sProp (MT nD τ sig Unit (Elt F) ℕ (UR sig nD τ) ℕ) :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d))
    ∗ (∃ d, owns (c : Thread nD τ) (ms0_13 m hO t) fullShare ((dats m hO hH 0 c).before 13 t d))
    ∗ (∃ d, owns (c : Thread nD τ) (ms0_14 m hO t) fullShare ((dats m hO hH 0 c).before 14 t d)))

def bodyPost (hO : Ok m) (hH : Hyps m hO) (c : Dev nD) (t : Fin (cfgM m hO).N) : sProp (MT nD τ sig Unit (Elt F) ℕ (UR sig nD τ) ℕ) :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (dats m hO hH 0 c).leavesExact 5 t
    ∗ (dats m hO hH 0 c).leavesExact 6 t
    ∗ (dats m hO hH 0 c).leavesExact 7 t
    ∗ (dats m hO hH 0 c).leavesExact 8 t
    ∗ (dats m hO hH 0 c).leavesExact 9 t
    ∗ (dats m hO hH 0 c).leavesExact 10 t
    ∗ (dats m hO hH 0 c).leavesExact 11 t
    ∗ (dats m hO hH 0 c).leavesExact 12 t
    ∗ (dats m hO hH 0 c).leavesExact 13 t
    ∗ (dats m hO hH 0 c).leavesExact 14 t)

set_option maxHeartbeats 2400000 in
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9, before0_10, before0_11]
  rw [show (dats m hO hH 0 c).Φ t.succ = (dats m hO hH 0 c).Φ t.castSucc from rfl,
    show (dats m hO hH 0 c).owesAt () t.succ = (dats m hO hH 0 c).owesAt () t.castSucc from rfl]
  rw [show (dats m hO hH 0 c).Φ t.castSucc = iprop(Pipeline.ΦA spec0 c ∗ Pipeline.ΦT pre0 (tbl m) c) from rfl, PhiT0_eq]
  have hN : t.val < 32 := lt_of_lt_of_eq t.isLt (show (cfgM m hO).N = 32 from N_0)
  by_cases h0 : t.val % 32 = 0
  · by_cases h1 : 1 ≤ t.val
    · exfalso; omega
    · rw [show (dats m hO hH 0 c).leavesExact 0 t = owns (c : Thread nD τ) (ms0_0 m hO t) fullShare ((dats m hO hH 0 c).after 0 t) from by
      unfold Dat.leavesExact; rw [liveAt0_0 m hO t]; try rfl, after0_0]
      rw [show (dats m hO hH 0 c).leavesExact 1 t = owns (c : Thread nD τ) (ms0_1 m hO t) fullShare ((dats m hO hH 0 c).after 1 t) from by
      unfold Dat.leavesExact; rw [liveAt0_1 m hO t]; try rfl, after0_1]
      rw [show (dats m hO hH 0 c).leavesExact 2 t = owns (c : Thread nD τ) (ms0_2 m hO t) fullShare ((dats m hO hH 0 c).after 2 t) from by
      unfold Dat.leavesExact; rw [liveAt0_2 m hO t]; try rfl, after0_2]
      rw [show (dats m hO hH 0 c).leavesExact 3 t = owns (c : Thread nD τ) (ms0_3 m hO t) fullShare ((dats m hO hH 0 c).after 3 t) from by
      unfold Dat.leavesExact; rw [liveAt0_3 m hO t]; try rfl, after0_3]
      rw [show (dats m hO hH 0 c).leavesExact 4 t = owns (c : Thread nD τ) (ms0_4 m hO t) fullShare ((dats m hO hH 0 c).after 4 t) from by
      unfold Dat.leavesExact; rw [liveAt0_4 m hO t]; try rfl, after0_4]
      rw [show (dats m hO hH 0 c).leavesExact 5 t = owns (c : Thread nD τ) (ms0_5 m hO t) fullShare ((dats m hO hH 0 c).after 5 t) from by
      unfold Dat.leavesExact; rw [liveAt0_5 m hO t]; try rfl, after0_5]
      rw [show (dats m hO hH 0 c).leavesExact 6 t = owns (c : Thread nD τ) (ms0_6 m hO t) fullShare ((dats m hO hH 0 c).after 6 t) from by
      unfold Dat.leavesExact; rw [liveAt0_6 m hO t]; try rfl, after0_6]
      rw [show (dats m hO hH 0 c).leavesExact 7 t = owns (c : Thread nD τ) (ms0_7 m hO t) fullShare ((dats m hO hH 0 c).after 7 t) from by
      unfold Dat.leavesExact; rw [liveAt0_7 m hO t]; try rfl, after0_7]
      rw [show (dats m hO hH 0 c).leavesExact 8 t = owns (c : Thread nD τ) (ms0_8 m hO t) fullShare ((dats m hO hH 0 c).after 8 t) from by
      unfold Dat.leavesExact; rw [liveAt0_8 m hO t]; try rfl, after0_8]
      rw [show (dats m hO hH 0 c).leavesExact 9 t = owns (c : Thread nD τ) (ms0_9 m hO t) fullShare ((dats m hO hH 0 c).after 9 t) from by
      unfold Dat.leavesExact; rw [liveAt0_9 m hO t]; try rfl, after0_9]
      rw [show (dats m hO hH 0 c).leavesExact 10 t = owns (c : Thread nD τ) (ms0_10 m hO t) fullShare ((dats m hO hH 0 c).after 10 t) from by
      unfold Dat.leavesExact; rw [liveAt0_10 m hO t]; try rfl, after0_10]
      rw [show (dats m hO hH 0 c).leavesExact 11 t = owns (c : Thread nD τ) (ms0_11 m hO t) fullShare ((dats m hO hH 0 c).after 11 t) from by
      unfold Dat.leavesExact; rw [liveAt0_11 m hO t]; try rfl, after0_11]
      rw [show (dats m hO hH 0 c).leavesExact 12 t = owns (c : Thread nD τ) (ms0_12 m hO t) fullShare ((dats m hO hH 0 c).after 12 t) from by
      unfold Dat.leavesExact; rw [liveAt0_12 m hO t]; try rfl, after0_12]
      rw [show (dats m hO hH 0 c).leavesExact 13 t = owns (c : Thread nD τ) (ms0_13 m hO t) fullShare ((dats m hO hH 0 c).after 13 t) from by
      unfold Dat.leavesExact; rw [liveAt0_13_A m hO t ((hcond0_0 t).mpr h0) (fun h => h1 ((hcond0_1 t).mp h))]; try rfl, after0_13]
      rw [show (dats m hO hH 0 c).leavesExact 14 t = owns (c : Thread nD τ) (ms0_14 m hO t) fullShare ((dats m hO hH 0 c).after 14 t) from by
      unfold Dat.leavesExact; rw [liveAt0_14_A m hO t ((hcond0_0 t).mpr h0) (fun h => h1 ((hcond0_1 t).mp h))]; try rfl, after0_14]
      rw [outsAt0_A m hO hH c t h0 h1]
      unfold out0_A_12 out0_A_13 out0_A_14; (try dsimp only)
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (Hyps.c0 hH c t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [HT0]; · iexact HT0
      iintro ⟨H0, H1, H2, H3, H4, H5, H6, H7, H8, H9, H10, H11, ⟨%e12, H12⟩, ⟨%e13, H13⟩, ⟨%e14, H14⟩, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _)
  · by_cases h1 : 1 ≤ t.val
    · rw [show (dats m hO hH 0 c).leavesExact 0 t = owns (c : Thread nD τ) (ms0_0 m hO t) fullShare ((dats m hO hH 0 c).after 0 t) from by
      unfold Dat.leavesExact; rw [liveAt0_0 m hO t]; try rfl, after0_0]
      rw [show (dats m hO hH 0 c).leavesExact 1 t = owns (c : Thread nD τ) (ms0_1 m hO t) fullShare ((dats m hO hH 0 c).after 1 t) from by
      unfold Dat.leavesExact; rw [liveAt0_1 m hO t]; try rfl, after0_1]
      rw [show (dats m hO hH 0 c).leavesExact 2 t = owns (c : Thread nD τ) (ms0_2 m hO t) fullShare ((dats m hO hH 0 c).after 2 t) from by
      unfold Dat.leavesExact; rw [liveAt0_2 m hO t]; try rfl, after0_2]
      rw [show (dats m hO hH 0 c).leavesExact 3 t = owns (c : Thread nD τ) (ms0_3 m hO t) fullShare ((dats m hO hH 0 c).after 3 t) from by
      unfold Dat.leavesExact; rw [liveAt0_3 m hO t]; try rfl, after0_3]
      rw [show (dats m hO hH 0 c).leavesExact 4 t = owns (c : Thread nD τ) (ms0_4 m hO t) fullShare ((dats m hO hH 0 c).after 4 t) from by
      unfold Dat.leavesExact; rw [liveAt0_4 m hO t]; try rfl, after0_4]
      rw [show (dats m hO hH 0 c).leavesExact 5 t = owns (c : Thread nD τ) (ms0_5 m hO t) fullShare ((dats m hO hH 0 c).after 5 t) from by
      unfold Dat.leavesExact; rw [liveAt0_5 m hO t]; try rfl, after0_5]
      rw [show (dats m hO hH 0 c).leavesExact 6 t = owns (c : Thread nD τ) (ms0_6 m hO t) fullShare ((dats m hO hH 0 c).after 6 t) from by
      unfold Dat.leavesExact; rw [liveAt0_6 m hO t]; try rfl, after0_6]
      rw [show (dats m hO hH 0 c).leavesExact 7 t = owns (c : Thread nD τ) (ms0_7 m hO t) fullShare ((dats m hO hH 0 c).after 7 t) from by
      unfold Dat.leavesExact; rw [liveAt0_7 m hO t]; try rfl, after0_7]
      rw [show (dats m hO hH 0 c).leavesExact 8 t = owns (c : Thread nD τ) (ms0_8 m hO t) fullShare ((dats m hO hH 0 c).after 8 t) from by
      unfold Dat.leavesExact; rw [liveAt0_8 m hO t]; try rfl, after0_8]
      rw [show (dats m hO hH 0 c).leavesExact 9 t = owns (c : Thread nD τ) (ms0_9 m hO t) fullShare ((dats m hO hH 0 c).after 9 t) from by
      unfold Dat.leavesExact; rw [liveAt0_9 m hO t]; try rfl, after0_9]
      rw [show (dats m hO hH 0 c).leavesExact 10 t = owns (c : Thread nD τ) (ms0_10 m hO t) fullShare ((dats m hO hH 0 c).after 10 t) from by
      unfold Dat.leavesExact; rw [liveAt0_10 m hO t]; try rfl, after0_10]
      rw [show (dats m hO hH 0 c).leavesExact 11 t = owns (c : Thread nD τ) (ms0_11 m hO t) fullShare ((dats m hO hH 0 c).after 11 t) from by
      unfold Dat.leavesExact; rw [liveAt0_11 m hO t]; try rfl, after0_11]
      rw [show (dats m hO hH 0 c).leavesExact 12 t = owns (c : Thread nD τ) (ms0_12 m hO t) fullShare ((dats m hO hH 0 c).after 12 t) from by
      unfold Dat.leavesExact; rw [liveAt0_12 m hO t]; try rfl, after0_12]
      rw [show (dats m hO hH 0 c).leavesExact 13 t = owns (c : Thread nD τ) (ms0_13 m hO t) fullShare ((dats m hO hH 0 c).after 13 t) from by
      unfold Dat.leavesExact; rw [liveAt0_13_B m hO t (fun h => h0 ((hcond0_0 t).mp h)) ((hcond0_1 t).mpr h1)]; try rfl, after0_13]
      rw [show (dats m hO hH 0 c).leavesExact 14 t = owns (c : Thread nD τ) (ms0_14 m hO t) fullShare ((dats m hO hH 0 c).after 14 t) from by
      unfold Dat.leavesExact; rw [liveAt0_14_B m hO t (fun h => h0 ((hcond0_0 t).mp h)) ((hcond0_1 t).mpr h1)]; try rfl, after0_14]
      rw [outsAt0_B m hO hH c t h0 h1]
      simp only [before0_13_B m hO hH c t h0 h1, before0_14_B m hO hH c t h0 h1]
      unfold out0_B_12 out0_B_13 out0_B_14; (try dsimp only)
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) _ _ (Hyps.c0 hH c t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexact H13
      isplitl [H14]; · iexact H14
      isplitl [HT0]; · iexact HT0
      iintro ⟨H0, H1, H2, H3, H4, H5, H6, H7, H8, H9, H10, H11, ⟨%e12, H12⟩, ⟨%e13, H13⟩, ⟨%e14, H14⟩, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _)
    · exfalso; omega

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

set_option backward.isDefEq.respectTransparency.types false in
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ hO (dats m hO hH) (A_eq m hO hH) (run_main m ρ hO hH)

theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ hO hH) ((θ_run defs _ _).mono (fun _ h => h.2) (run_main_quiescent m ρ hO hH))
end Cert.Kernel6Ideal.Call
end
end
-- ==== Proof.BatchNorm.lean ====
module
public import Idealize.ShloMosaic.Lib.IdealHost
public import Idealize.ShloMosaic.Lib.Pointwise
@[expose] public section
set_option maxRecDepth 16384
noncomputable section
open Idealize.ShloMosaic
open scoped BigOperators

/-! # Batch normalisation, folded and plain

The kernels normalise a column from its sum and its sum of squares, folded into one multiply and one add
(`folded`); the reference subtracts the mean, divides by the root of the two-pass variance and scales (`plain`).
This module states the two forms over the extended reals and shows that they agree on finite columns. -/

namespace Cert.BatchNorm

/-- The mean of a column, its sum divided by the number of rows `N`. -/
def mean {n : Nat} (N : EReal) (h : Fin n → EReal) : EReal := Ideal.div (∑ i, h i) N

/-- The two-pass variance of a column: the sum of the squared distances from the mean, divided by `N`. -/
def variance {n : Nat} (N : EReal) (h : Fin n → EReal) : EReal :=
  Ideal.div (∑ i, (h i - mean N h) * (h i - mean N h)) N

/-- The reference's batch normalisation of one entry `x` of the column `h`. -/
def plain {n : Nat} (N eps : EReal) (h : Fin n → EReal) (g be x : EReal) : EReal :=
  Ideal.div (g * (x - mean N h)) (Ideal.sqrt (variance N h + eps)) + be

/-- The factor the kernels multiply a column by, from its sum `s` and sum of squares `ss`; `c` is one over the number of rows. -/
def scale (c eps s ss g : EReal) : EReal := Ideal.div g (Ideal.sqrt (ss * c - s * c * (s * c) + eps))

/-- The kernels' batch normalisation of one entry `x`: one multiply and one add. -/
def folded (c eps s ss g be x : EReal) : EReal := x * scale c eps s ss g + (be - s * c * scale c eps s ss g)

/-- One entry of a linear layer with a skip input: a row `x` of features and a row `y` of skip features, each times its
    part of the weights' column `w`, plus the bias, cut at 0. -/
def skipEntry {kx ks kk : Nat} (hk : kx + ks = kk) (x : Fin kx → EReal) (y : Fin ks → EReal) (w : Fin kk → EReal) (b : EReal) : EReal :=
  max ((∑ k : Fin kx, x k * w ⟨k.val, by omega⟩) + (∑ k : Fin ks, y k * w ⟨kx + k.val, by omega⟩) + b) 0

/-- The literal the variance is raised by, as a real. -/
theorem eps_real : ∃ e : ℝ, 0 < e ∧ Ideal.ofBits .f32 925353388#32 = (e : EReal) := by
  refine ⟨(2 ^ 23 + 2606508 : Nat) * (2 : ℝ) ^ ((110 : Int) - 127 - 23), by positivity, ?_⟩
  simp [Ideal.ofBits, Ideal.ieee, -EReal.coe_mul]

/-- The pattern of 16384. -/
theorem rows_16384 : Ideal.ofBits .f32 1182793728#32 = ((16384 : ℝ) : EReal) := by
  simp [Ideal.ofBits, Ideal.ieee, -EReal.coe_mul]; norm_num
/-- The pattern of 1/16384. -/
theorem inv_16384 : Ideal.ofBits .f32 947912704#32 = ((1 / 16384 : ℝ) : EReal) := by
  simp [Ideal.ofBits, Ideal.ieee, -EReal.coe_mul]; norm_num
/-- The pattern of 4096. -/
theorem rows_4096 : Ideal.ofBits .f32 1166016512#32 = ((4096 : ℝ) : EReal) := by
  simp [Ideal.ofBits, Ideal.ieee, -EReal.coe_mul]; norm_num
/-- The pattern of 1/4096. -/
theorem inv_4096 : Ideal.ofBits .f32 964689920#32 = ((1 / 4096 : ℝ) : EReal) := by
  simp [Ideal.ofBits, Ideal.ieee, -EReal.coe_mul]; norm_num
/-- The pattern of 1024. -/
theorem rows_1024 : Ideal.ofBits .f32 1149239296#32 = ((1024 : ℝ) : EReal) := by
  simp [Ideal.ofBits, Ideal.ieee, -EReal.coe_mul]; norm_num
/-- The pattern of 1/1024. -/
theorem inv_1024 : Ideal.ofBits .f32 981467136#32 = ((1 / 1024 : ℝ) : EReal) := by
  simp [Ideal.ofBits, Ideal.ieee, -EReal.coe_mul]; norm_num
/-- The integer 0 read as a float. -/
theorem zero_word : FloatOps.sitofp (F := Ideal) .f32 0#32 = (0 : EReal) := by
  show (((0#32 : BitVec 32).toInt : ℝ) : EReal) = 0
  norm_num
theorem rows_pos_16384 : (0 < Ideal.ofBits .f32 1182793728#32) = True := by
  refine eq_true ?_; rw [rows_16384]; exact_mod_cast (by norm_num : (0 : ℝ) < 16384)
theorem rows_pos_4096 : (0 < Ideal.ofBits .f32 1166016512#32) = True := by
  refine eq_true ?_; rw [rows_4096]; exact_mod_cast (by norm_num : (0 : ℝ) < 4096)
theorem rows_pos_1024 : (0 < Ideal.ofBits .f32 1149239296#32) = True := by
  refine eq_true ?_; rw [rows_1024]; exact_mod_cast (by norm_num : (0 : ℝ) < 1024)
/-- The pattern of infinity. -/
theorem inf_f32 : Ideal.ofBits .f32 2139095040#32 = ⊤ := by
  simp [Ideal.ofBits, Ideal.ieee]

/-- The sum of finitely many reals, read as an extended real, is the sum of their readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A comparison's bit is 1 only when the comparison holds. -/
theorem ofBool_one {p : Prop} [Decidable p] (h : BitVec.ofBool (decide p) = 1#1) : p := by
  by_contra hp
  simp [hp] at h

/-- An extended real of finite size is a real. -/
theorem real_of_abs_lt {x : EReal} (h : max x (-x) < ⊤) : ∃ r : ℝ, x = (r : EReal) := by
  induction x with
  | bot => simp at h
  | top => simp at h
  | coe r => exact ⟨r, rfl⟩

/-- Mean of squares minus squared mean is the mean of the squared distances from the mean. -/
theorem variance_identity {n : Nat} (hn : n ≠ 0) (h : Fin n → ℝ) :
    (∑ i, h i * h i) * (1 / n) - (∑ i, h i) * (1 / n) * ((∑ i, h i) * (1 / n))
      = (∑ i, (h i - (∑ i, h i) * (1 / n)) * (h i - (∑ i, h i) * (1 / n))) * (1 / n) := by
  have hn' : (n : ℝ) ≠ 0 := by exact_mod_cast hn
  generalize hS : ∑ i, h i = S
  have e : ∀ i, (h i - S * (1 / n)) * (h i - S * (1 / n)) = h i * h i - 2 * (S * (1 / n)) * h i + S * (1 / n) * (S * (1 / n)) := fun i => by ring
  simp only [e, Finset.sum_add_distrib, Finset.sum_sub_distrib, ← Finset.mul_sum, hS, Finset.sum_const, Finset.card_univ,
    Fintype.card_fin, nsmul_eq_mul]
  field_simp
  ring

/-- On a finite column with its exact sum and sum of squares, the folded form is the plain one. -/
theorem folded_eq_plain {n : Nat} (hn : n ≠ 0) {c N eps s ss g be : EReal} {h : Fin n → EReal}
    (hN : N = ((n : ℝ) : EReal)) (hc : c = ((1 / n : ℝ) : EReal)) (he : ∃ e : ℝ, 0 < e ∧ eps = (e : EReal))
    (hs : s = ∑ i, h i) (hss : ss = ∑ i, h i * h i)
    (hh : ∀ i, ∃ r : ℝ, h i = (r : EReal)) (hg : ∃ r : ℝ, g = (r : EReal)) (hb : ∃ r : ℝ, be = (r : EReal)) (i : Fin n) :
    folded c eps s ss g be (h i) = plain N eps h g be (h i) := by
  choose f hf using hh
  obtain rfl : h = fun i => (f i : EReal) := funext hf
  obtain ⟨g, rfl⟩ := hg
  obtain ⟨be, rfl⟩ := hb
  obtain ⟨e, he, rfl⟩ := he
  subst hN hc hs hss
  have hn' : (n : ℝ) ≠ 0 := by exact_mod_cast hn
  have hnp : (0 : ℝ) < n := by positivity
  have hv := variance_identity hn f
  have hpos : 0 < (∑ i, (f i - (∑ i, f i) * (1 / n)) * (f i - (∑ i, f i) * (1 / n))) * (1 / n) + e := by
    have : 0 ≤ ∑ i, (f i - (∑ i, f i) * (1 / n)) * (f i - (∑ i, f i) * (1 / n)) :=
      Finset.sum_nonneg fun i _ => mul_self_nonneg _
    positivity
  simp only [folded, plain, scale, variance, mean, Ideal.div_coe hn', ← EReal.coe_mul, ← coe_sum, ← EReal.coe_sub, ← EReal.coe_add, hv,
    Ideal.sqrt_coe]
  rw [if_neg (not_lt.2 hpos.le)]
  have hr := (Real.sqrt_pos.2 hpos).ne'
  simp only [Ideal.div_coe hr, ← EReal.coe_mul, ← EReal.coe_sub, ← EReal.coe_add]
  congr 1
  ring

/-- A sum over `T` blocks of `B` rows, taken block after block from row 0 on, is the sum over the first `B * T` rows. -/
theorem sum_blocks {M : Type} [AddCommMonoid M] (B : Nat) (f : Nat → M) :
    ∀ T : Nat, ∑ t ∈ Finset.range T, ∑ r : Fin B, f (B * t + r.val) = ∑ i ∈ Finset.range (B * T), f i
  | 0 => by simp
  | T + 1 => by
    rw [Finset.sum_range_succ, sum_blocks B f T, Nat.mul_succ, Finset.sum_range_add, Finset.sum_range (n := B)]

/-- A function on `Fin n` continued by 0. -/
def ext {M : Type} [Zero M] {n : Nat} (f : Fin n → M) (i : Nat) : M := if h : i < n then f ⟨i, h⟩ else 0

/-- A sum over `T` blocks of `B` rows of a function on `Fin n`, `n = B * T`, is its sum. -/
theorem sum_blocks_fin {M : Type} [AddCommMonoid M] {B T n : Nat} (hn : n = B * T) (f : Fin n → M) :
    ∑ t ∈ Finset.range T, ∑ r : Fin B, ext f (B * t + r.val) = ∑ i, f i := by
  rw [sum_blocks, ← hn, Finset.sum_range]
  exact Finset.sum_congr rfl fun i _ => dif_pos i.isLt

end Cert.BatchNorm
-- ==== Proof.StartsPre.lean ====
module
public import proofs.«01_k».proof.Defs
public import proofs.«01_k».proof.Proof.BatchNorm
public import Idealize.ShloMosaic.Lib.ReduceAll
@[expose] public section
noncomputable section
open Idealize.ShloMosaic Idealize.ShloMosaic.TcCoe Idealize.SL.Sem

/-! # What the precondition on the window starts says of each word -/

namespace Cert.Nearest6

/-- A bit made of a truth value reads it. -/
theorem of_bit {b : Bool} (h : BitVec.ofBool b = 1#1) : b = true := by
  cases b
  · exact absurd h (by decide)
  · rfl

theorem eq_of_cmpi {x y : BitVec 32} (h : IntOp.cmpi .eq x y = 1#1) : x = y := by
  unfold IntOp.cmpi at h
  simpa using of_bit h
theorem le_of_cmpi {x y : BitVec 32} (h : IntOp.cmpi .sle x y = 1#1) : x.toInt ≤ y.toInt := by
  unfold IntOp.cmpi at h
  exact BitVec.sle_iff_toInt_le.1 (of_bit h)
theorem ge_of_cmpi {x y : BitVec 32} (h : IntOp.cmpi .sge x y = 1#1) : y.toInt ≤ x.toInt := by
  unfold IntOp.cmpi at h
  exact BitVec.sle_iff_toInt_le.1 (of_bit h)
theorem lt_of_cmpi {x y : BitVec 32} (h : IntOp.cmpi .slt x y = 1#1) : x.toInt < y.toInt := by
  unfold IntOp.cmpi at h
  exact BitVec.slt_iff_toInt_lt.1 (of_bit h)

/-- A start: a multiple of 128 from which 2560 sources remain below 4096. -/
def IsStart (w : BitVec 32) : Prop := w.toNat % 128 = 0 ∧ w.toNat ≤ 1536

theorem isStart {w : BitVec 32} (he : w &&& 127#32 = 0#32) (h0 : 0 ≤ w.toInt) (h1 : w.toInt ≤ 1536) : IsStart w := by
  constructor
  · have e := congrArg BitVec.toNat he
    rw [BitVec.toNat_and] at e
    have e' : w.toNat &&& (2 ^ 7 - 1) = 0 := e
    rwa [Nat.and_two_pow_sub_one_eq_mod] at e'
  · rw [BitVec.toInt_eq_toNat_cond] at h0 h1
    have := w.isLt
    split at h0 <;> omega

open Cert.Pre_starts_pre in
/-- Where the precondition holds, every word is a start. -/
theorem starts_facts [Cert.Pre_starts_pre.Facts] {F : FTy → Type} [FloatOps F] {st : IVec S32 32} {a1 : FVec F S4096x1024 .f32} {a2 a3 : FVec F S1x1024 .f32}
    {a4 a5 : FVec F S1024 .f32} {a6 : FVec F S16384x64 .f32} {a7 : FVec F S4096x3 .f32} {a8 : FVec F S16384x3 .f32} {a9 : IVec S4096 32}
    {a10 : IVec S16384 32} {a11 : FVec F S1088x1024 .f32} {a12 : FVec F S1024 .f32}
    (e : Cert.Pre_starts_pre.fn st a1 a2 a3 a4 a5 a6 a7 a8 a9 a10 a11 a12 = fun _ => 1#1) (t : Fin 32) : IsStart (st (ix1 t)) := by
  have e := congrFun e ix0
  unfold fn at e
  dsimp only at e
  have e := Host.reduce_andi_all _ _ _ _ _ e (ix1 t)
  obtain ⟨e, e2⟩ := IntOp.andi_eq_one.1 e
  obtain ⟨e0, e1⟩ := IntOp.andi_eq_one.1 e
  pointwise at e0 e1 e2
  exact isStart (eq_of_cmpi e0) (ge_of_cmpi e1) (le_of_cmpi e2)
end Cert.Nearest6
end
end
-- ==== Proof.Starts6.lean ====
module
public import proofs.«01_k».proof.Proof.Interp6Frame
public import proofs.«01_k».proof.Proof.StartsPre
@[expose] public section
set_option maxRecDepth 16384
noncomputable section
open Idealize.ShloMosaic Idealize.ShloMosaic.TcCoe Idealize.SL.Sem

/-! # The interpolation call's window starts: where every word is a start, every window lies inside its array (over the extended reals) -/

namespace Cert.Kernel6Ideal.Hand

open Cert.Kernel6Ideal Cert.Kernel6Ideal.Gen Cert.Kernel6Ideal.Call Cert.Nearest6

variable (m : (ℓ : Loc nD τ sig) → Buf (Elt Ideal) ℓ) (hO : Ok m)

theorem coords_val : ∀ t : Fin grid0.N, (grid0.coords t 0).val = t.val := by decide +kernel

theorem point_lt (t : Fin (cfgM m hO).N) : t.val < 32 := by
  have := t.isLt; have hN : (cfgM m hO).N = 32 := N_0; omega

/-- The word a point reads is the start of its block of queries. -/
theorem word_eq (t : Fin (cfgM m hO).N) :
    (tbM0_0.view.readAt (Elt Ideal) (Rect.unit (s := S32) (k0_off1 (grid0.coords t)) S1.size (k0_off1_inb (grid0.coords t))).toLoadRect (tbl m 0) (Shape.Idx.first (numel1_S1.symm ▸ Nat.one_pos)) : BitVec 32)
      = m (((0 : Dev nD).tc : Thread nD τ).loc main_arg0) (ix1 ⟨t.val, point_lt m hO t⟩) := by
  refine Eq.trans ?_ (congrFun (V_main_arg0 m (0 : Dev nD)) (ix1 ⟨t.val, point_lt m hO t⟩))
  refine congrArg (V m (0 : Dev nD) main_arg0 : Vec Ideal S32 .i32) (funext fun a => Fin.ext ?_)
  match a with
  | ⟨0, _⟩ =>
    show (k0_off1 (grid0.coords t)) 0 + 1 * 0 = t.val
    show (BitVec.ofNat 32 (grid0.coords t 0).val).toNat + 1 * 0 = t.val
    have := point_lt m hO t
    rw [coords_val t, BitVec.toNat_ofNat, Nat.mod_eq_of_lt (by omega)]; omega

/-- A start passes the program's own check. -/
theorem check_of_start {w : BitVec 32} (h : IsStart w) : k0_chk1 w := by
  obtain ⟨h0, h1⟩ := h
  refine ⟨Nat.dvd_of_mod_eq_zero h0, fun a => ?_, fun a => ?_, fun a => ?_⟩
  · match a with
    | ⟨0, _⟩ => show 0 + 3 ≤ 3; omega
    | ⟨1, _⟩ => show w.toNat + 2560 ≤ 4096; omega
  · match a with
    | ⟨0, _⟩ => show 0 + 1 ≤ 1; omega
    | ⟨1, _⟩ => show w.toNat + 2560 ≤ 4096; omega
  · match a with
    | ⟨0, _⟩ => show w.toNat + 2560 ≤ 4096; omega
    | ⟨1, _⟩ => show 0 + 1024 ≤ 1024; omega

/-- Where every word is a start, every point's check passes. -/
theorem hyps_of (hs : ∀ t : Fin 32, IsStart (m (((0 : Dev nD).tc : Thread nD τ).loc main_arg0) (ix1 t))) : Hyps m hO :=
  fun _ t => by
    rw [word_eq m hO t]
    exact check_of_start (hs _)

theorem ok : Ok m := by trivial

end Cert.Kernel6Ideal.Hand
end
end
-- ==== Proof.StartsBits6.lean ====
module
public import proofs.«01_k».proof.Proof.Bits6Frame
public import proofs.«01_k».proof.Proof.StartsPre
@[expose] public section
set_option maxRecDepth 16384
noncomputable section
open Idealize.ShloMosaic Idealize.ShloMosaic.TcCoe Idealize.SL.Sem

/-! # The interpolation call's window starts: where every word is a start, every window lies inside its array (on the machine's words) -/

namespace Cert.Kernel6.Hand

open Cert.Kernel6 Cert.Kernel6.Gen Cert.Kernel6.Call Cert.Nearest6

variable (m : (ℓ : Loc nD τ sig) → Buf (Elt Bits) ℓ) (hO : Ok m)

theorem coords_val : ∀ t : Fin grid0.N, (grid0.coords t 0).val = t.val := by decide +kernel

theorem point_lt (t : Fin (cfgM m hO).N) : t.val < 32 := by
  have := t.isLt; have hN : (cfgM m hO).N = 32 := N_0; omega

/-- The word a point reads is the start of its block of queries. -/
theorem word_eq (t : Fin (cfgM m hO).N) :
    (tbM0_0.view.readAt (Elt Bits) (Rect.unit (s := S32) (k0_off1 (grid0.coords t)) S1.size (k0_off1_inb (grid0.coords t))).toLoadRect (tbl m 0) (Shape.Idx.first (numel1_S1.symm ▸ Nat.one_pos)) : BitVec 32)
      = m (((0 : Dev nD).tc : Thread nD τ).loc main_arg0) (ix1 ⟨t.val, point_lt m hO t⟩) := by
  refine Eq.trans ?_ (congrFun (V_main_arg0 m (0 : Dev nD)) (ix1 ⟨t.val, point_lt m hO t⟩))
  refine congrArg (V m (0 : Dev nD) main_arg0 : Vec Bits S32 .i32) (funext fun a => Fin.ext ?_)
  match a with
  | ⟨0, _⟩ =>
    show (k0_off1 (grid0.coords t)) 0 + 1 * 0 = t.val
    show (BitVec.ofNat 32 (grid0.coords t 0).val).toNat + 1 * 0 = t.val
    have := point_lt m hO t
    rw [coords_val t, BitVec.toNat_ofNat, Nat.mod_eq_of_lt (by omega)]; omega

/-- A start passes the program's own check. -/
theorem check_of_start {w : BitVec 32} (h : IsStart w) : k0_chk1 w := by
  obtain ⟨h0, h1⟩ := h
  refine ⟨Nat.dvd_of_mod_eq_zero h0, fun a => ?_, fun a => ?_, fun a => ?_⟩
  · match a with
    | ⟨0, _⟩ => show 0 + 3 ≤ 3; omega
    | ⟨1, _⟩ => show w.toNat + 2560 ≤ 4096; omega
  · match a with
    | ⟨0, _⟩ => show 0 + 1 ≤ 1; omega
    | ⟨1, _⟩ => show w.toNat + 2560 ≤ 4096; omega
  · match a with
    | ⟨0, _⟩ => show w.toNat + 2560 ≤ 4096; omega
    | ⟨1, _⟩ => show 0 + 1024 ≤ 1024; omega

/-- Where every word is a start, every point's check passes. -/
theorem hyps_of (hs : ∀ t : Fin 32, IsStart (m (((0 : Dev nD).tc : Thread nD τ).loc main_arg0) (ix1 t))) : Hyps m hO :=
  fun _ t => by
    rw [word_eq m hO t]
    exact check_of_start (hs _)

theorem ok : Ok m := by trivial

end Cert.Kernel6.Hand
end
end
-- ==== Proof.Nearest.lean ====
/- The nearest sources of a query, as a kernel finds them (round by round: the least distance, the first source at it,
   that source's distance raised out of the way) and as a stable sort does (the first entries of the sorted row). Both
   are `IsPick`: the first source among those not yet taken at which the distance is least, which is one source only. -/
module
public import Mathlib.Data.EReal.Operations
public import Idealize.ShloMosaic.PureOps
public import Idealize.ShloMosaic.Lib.SortPrefix
public import Idealize.ShloMosaic.Lib.SortNet.Extract
@[expose] public section
noncomputable section
namespace Cert.Nearest
open Idealize.ShloMosaic

/-! ## A stable sort, ties by position -/

/-- A stable sort of a list in increasing order asks its comparator only of a later element against an earlier one. -/
theorem stableSort_of_later {n : ℕ} (R R' : Fin n → Fin n → Bool) (h : ∀ a b, a < b → R b a = R' b a) :
    ∀ l : List (Fin n), l.Pairwise (· < ·) → stableSort R l = stableSort R' l
  | [], _ => rfl
  | a :: l, hl => by
    have hp := List.pairwise_cons.mp hl
    unfold stableSort
    rw [stableSort_of_later R R' h l hp.2]
    exact insertBefore_congr R R' a _ fun b hb => h a b (hp.1 b ((perm_stableSort R' l).mem_iff.mp hb))

/-- So two comparators that agree there sort alike. -/
theorem sortedFrom_of_later {n : ℕ} (R R' : Fin n → Fin n → Bool) (h : ∀ a b, a < b → R b a = R' b a) :
    sortedFrom R = sortedFrom R' := by
  funext k
  unfold sortedFrom
  have e : sortPositions n R = sortPositions n R' := stableSort_of_later R R' h _ (List.pairwise_lt_finRange n)
  rw [List.get_of_eq e]
  rfl

/-! ## The first source at the least distance -/

/-- `a` is the first of the sources outside `T` whose distance is least among them. -/
structure IsPick {n : ℕ} (d : Fin n → EReal) (T : Finset (Fin n)) (a : Fin n) : Prop where
  new : a ∉ T
  le : ∀ j, j ∉ T → d a ≤ d j
  first : ∀ j, j ∉ T → d j = d a → a ≤ j

theorem IsPick.unique {n : ℕ} {d : Fin n → EReal} {T : Finset (Fin n)} {a b : Fin n} (ha : IsPick d T a) (hb : IsPick d T b) :
    a = b := by
  have e : d a = d b := le_antisymm (ha.le b hb.new) (hb.le a ha.new)
  exact le_antisymm (ha.first b hb.new e.symm) (hb.first a ha.new e)

theorem exists_pick {n : ℕ} (d : Fin n → EReal) (T : Finset (Fin n)) (h : ∃ j, j ∉ T) : ∃ a, IsPick d T a := by
  classical
  obtain ⟨j, hj⟩ := h
  obtain ⟨b, hb, hmin⟩ := Finset.exists_min_image (Finset.univ.filter (· ∉ T)) d ⟨j, by simpa using hj⟩
  simp only [Finset.mem_filter, Finset.mem_univ, true_and] at hb hmin
  obtain ⟨a, ha, hfirst⟩ := Finset.exists_min_image (Finset.univ.filter fun j => j ∉ T ∧ d j = d b) id ⟨b, by simpa using hb⟩
  simp only [Finset.mem_filter, Finset.mem_univ, true_and, id] at ha hfirst
  exact ⟨a, ha.1, fun j hj => ha.2 ▸ hmin j hj, fun j hj e => hfirst j ⟨hj, e.trans ha.2⟩⟩

/-- The three first, taken one after the other. -/
structure IsThree {n : ℕ} (d : Fin n → EReal) (σ : Fin 3 → Fin n) : Prop where
  zero : IsPick d ∅ (σ 0)
  one : IsPick d {σ 0} (σ 1)
  two : IsPick d {σ 0, σ 1} (σ 2)

theorem IsThree.unique {n : ℕ} {d : Fin n → EReal} {σ τ : Fin 3 → Fin n} (h : IsThree d σ) (k : IsThree d τ) : σ = τ := by
  have e0 := h.zero.unique k.zero
  have e1 : σ 1 = τ 1 := h.one.unique (e0 ▸ k.one)
  have e2 : σ 2 = τ 2 := h.two.unique (by rw [e0, e1]; exact k.two)
  funext r
  fin_cases r <;> assumption

/-! ## The sorted row's first entries -/

/-- The order of a row's sources by distance, equal distances by position. -/
def before {n : ℕ} (d : Fin n → EReal) (k k' : Fin n) : Bool :=
  decide (-d k > -d k') || (decide (-d k = -d k') && decide (k < k'))

theorem before_total {n : ℕ} (d : Fin n → EReal) : StrictTotalBefore (before d) :=
  StrictTotalBefore.of_key_then_position (fun a b : EReal => decide (a > b)) (fun k => -d k) (by simp)
    (fun a b c h₁ h₂ => by simp only [decide_eq_true_eq, gt_iff_lt] at *; exact h₂.trans h₁)
    (fun a b => by simp only [decide_eq_true_eq, gt_iff_lt]; exact (lt_trichotomy b a).imp id (Or.imp Eq.symm id))

/-- What a stable sort by the distances alone, greatest negated distance first, puts where is what that order does. -/
theorem sortedFrom_before {n : ℕ} (d : Fin n → EReal) :
    sortedFrom (fun k k' => decide (-d k > -d k')) = sortedFrom (before d) :=
  sortedFrom_of_later _ _ fun a b h => by simp [before, not_lt.mpr h.le]

theorem IsPick.not_before {n : ℕ} {d : Fin n → EReal} {T : Finset (Fin n)} {a : Fin n} (h : IsPick d T a) {p : Fin n} (hp : p ∉ T) :
    before d p a = false := by
  have h1 : ¬ d p < d a := not_lt.mpr (h.le p hp)
  by_cases e : d p = d a
  · simp [before, EReal.neg_lt_neg_iff, h1, not_lt.mpr (h.first p hp e)]
  · simp [before, EReal.neg_lt_neg_iff, h1, e]

/-- The first entry of the sorted row. -/
theorem sorted_one {n : ℕ} (d : Fin n → EReal) (hn : 1 ≤ n) {a : Fin n} (h : IsPick d ∅ a) (i : Fin 1) :
    sortedFrom (fun k k' => decide (-d k > -d k')) (i.castLE hn) = a := by
  rw [sortedFrom_before]
  exact (before_total d).sortedFrom_eq_of_prefix hn (fun _ => a) (fun x y _ => Subsingleton.elim x y)
    (fun i j hij => absurd (Subsingleton.elim i j) hij.ne) (fun _ p _ => h.not_before (Finset.notMem_empty p)) i

/-- The first three entries of the sorted row. -/
theorem sorted_three {n : ℕ} (d : Fin n → EReal) (hn : 3 ≤ n) {σ : Fin 3 → Fin n} (h : IsThree d σ) (i : Fin 3) :
    sortedFrom (fun k k' => decide (-d k > -d k')) (i.castLE hn) = σ i := by
  rw [sortedFrom_before]
  have h10 : σ 1 ≠ σ 0 := by simpa using h.one.new
  have h2 : σ 2 ≠ σ 0 ∧ σ 2 ≠ σ 1 := by simpa using h.two.new
  have later : ∀ (i : Fin 3) (p : Fin n), (∀ j, j < i → σ j ≠ p) → before d p (σ i) = false := by
    intro i p hp
    fin_cases i
    · exact h.zero.not_before (Finset.notMem_empty p)
    · exact h.one.not_before (by simpa using (hp 0 (by decide)).symm)
    · exact h.two.not_before (by simpa using ⟨(hp 0 (by decide)).symm, (hp 1 (by decide)).symm⟩)
  have hinj : Function.Injective σ := by
    intro x y e
    fin_cases x <;> fin_cases y
    all_goals first
      | rfl | exact absurd e h10 | exact absurd e.symm h10 | exact absurd e h2.1 | exact absurd e.symm h2.1
      | exact absurd e h2.2 | exact absurd e.symm h2.2
  exact (before_total d).sortedFrom_eq_of_prefix hn σ hinj
    (fun i j hij => later i _ fun k hk e => absurd (hinj e) (hk.trans hij).ne)
    (fun i p hp => later i p fun j _ => hp j) i

/-! ## A kernel's round -/

/-- The least value of a row. -/
theorem fold_min {n : ℕ} (e : Fin n → EReal) (a : Fin n) (h : ∀ j, e a ≤ e j) : Finset.univ.fold min ⊤ e = e a := by
  refine le_antisymm ?_ ?_
  · exact ((Finset.le_fold_min _).mp le_rfl).2 a (Finset.mem_univ a)
  · exact (Finset.le_fold_min _).mpr ⟨le_top, fun j _ => h j⟩

/-- The least word of a row, signed: a word that is met and is at most the start and every word met. -/
theorem fold_minsi {n : ℕ} (g : Fin n → BitVec 32) (init : BitVec 32) (a : Fin n) (hi : (g a).toInt ≤ init.toInt)
    (h : ∀ j, (g a).toInt ≤ (g j).toInt) : Finset.univ.fold IntOp.minsi init g = g a := by
  have key : ∀ s : Finset (Fin n), (s.fold IntOp.minsi init g).toInt = s.fold min init.toInt fun j => (g j).toInt := by
    intro s
    induction s using Finset.induction_on with
    | empty => rfl
    | insert b s hb ih => rw [Finset.fold_insert hb, Finset.fold_insert hb, SortNet.toInt_minsi, ih]
  refine BitVec.eq_of_toInt_eq ((key _).trans (le_antisymm ?_ ?_))
  · exact ((Finset.le_fold_min _).mp le_rfl).2 a (Finset.mem_univ a)
  · exact (Finset.le_fold_min _).mpr ⟨hi, fun j _ => h j⟩

/-- A position below `2 ^ 31` as a signed word. -/
theorem toInt_ofNat {k : ℕ} (hk : k < 2 ^ 31) : (BitVec.ofNat 32 k).toInt = k := by
  have e : (BitVec.ofNat 32 k).toNat = k := by rw [BitVec.toNat_ofNat]; omega
  rw [BitVec.toInt_eq_toNat_cond, e, if_pos (by omega)]

/-- The least position at which a row takes its least value, found as the least word among the positions there and the
    row's length elsewhere. -/
theorem index_of_least {n : ℕ} (hn : n < 2 ^ 31) (e : Fin n → EReal) (a : Fin n) (hfirst : ∀ j, e j = e a → a ≤ j) :
    Finset.univ.fold IntOp.minsi 2147483647#32 (fun j : Fin n => if e j = e a then BitVec.ofNat 32 j.val else BitVec.ofNat 32 n)
      = BitVec.ofNat 32 a.val := by
  have hj : ∀ j : Fin n, j.val < 2 ^ 31 := fun j => j.isLt.trans hn
  refine (fold_minsi _ _ a ?_ fun j => ?_).trans (if_pos rfl)
  · rw [if_pos rfl, toInt_ofNat (hj a)]
    have := hj a
    show (a.val : ℤ) ≤ 2147483647
    omega
  · rw [if_pos rfl, toInt_ofNat (hj a)]
    by_cases h : e j = e a
    · rw [if_pos h, toInt_ofNat (hj j)]
      exact_mod_cast hfirst j h
    · rw [if_neg h, toInt_ofNat hn]
      exact_mod_cast a.isLt.le

/-- Two positions are one if their words are. -/
theorem word_eq {n : ℕ} (hn : n < 2 ^ 31) (j a : Fin n) : (BitVec.ofNat 32 j.val = BitVec.ofNat 32 a.val) ↔ j = a := by
  have h : ∀ j : Fin n, j.val < 2 ^ 31 := fun j => j.isLt.trans hn
  refine ⟨fun e => Fin.ext ?_, fun e => e ▸ rfl⟩
  have := congrArg BitVec.toInt e
  rw [toInt_ofNat (h j), toInt_ofNat (h a)] at this
  exact_mod_cast this

/-- The row with the sources already taken raised to `B`. -/
def raised {n : ℕ} (B : EReal) (d : Fin n → EReal) (T : Finset (Fin n)) (j : Fin n) : EReal := if j ∈ T then B else d j

theorem raised_empty {n : ℕ} (B : EReal) (d : Fin n → EReal) : raised B d ∅ = d := by
  funext j
  exact if_neg (Finset.notMem_empty j)

theorem raised_insert {n : ℕ} (B : EReal) (d : Fin n → EReal) (T : Finset (Fin n)) (a j : Fin n) :
    (if j = a then B else raised B d T j) = raised B d (insert a T) j := by
  unfold raised
  by_cases e : j = a <;> simp [e]

/-- In the raised row the next source is the first one at the least value. -/
theorem IsPick.raised_least {n : ℕ} {B : EReal} {d : Fin n → EReal} {T : Finset (Fin n)} {a : Fin n} (h : IsPick d T a) (hB : d a < B) :
    raised B d T a = d a ∧ (∀ j, raised B d T a ≤ raised B d T j) ∧ ∀ j, raised B d T j = raised B d T a → a ≤ j := by
  have ha : raised B d T a = d a := if_neg h.new
  refine ⟨ha, fun j => ?_, fun j e => ?_⟩
  · rw [ha]
    unfold raised
    split_ifs with hj
    · exact hB.le
    · exact h.le j hj
  · rw [ha] at e
    unfold raised at e
    split_ifs at e with hj
    · exact absurd e hB.ne'
    · exact h.first j hj e

/-- A row of three sources or more has its three first. -/
theorem exists_three {n : ℕ} (d : Fin n → EReal) (hn : 3 ≤ n) : ∃ σ, IsThree d σ := by
  have room : ∀ T : Finset (Fin n), T.card ≤ 2 → ∃ j, j ∉ T := fun T hT => by
    by_contra hc
    push Not at hc
    have := Finset.card_le_card (fun j _ => hc j : (Finset.univ : Finset (Fin n)) ⊆ T)
    rw [Finset.card_univ, Fintype.card_fin] at this
    omega
  obtain ⟨a, ha⟩ := exists_pick d ∅ (room ∅ (by simp))
  obtain ⟨b, hb⟩ := exists_pick d {a} (room {a} (by simp))
  obtain ⟨c, hc⟩ := exists_pick d {a, b} (room {a, b} Finset.card_le_two)
  exact ⟨![a, b, c], ha, hb, hc⟩

/-! ## A window of the sources -/

/-- A pick among a window's sources is one among all, when outside the window every distance is at least `L` and inside
    it some source not yet taken is nearer. -/
theorem IsPick.shift {m n : ℕ} (f : Fin m ↪o Fin n) (d : Fin n → EReal) (L : EReal) (hout : ∀ j, j ∉ Set.range f → L ≤ d j)
    {T : Finset (Fin m)} {a : Fin m} (h : IsPick (fun i => d (f i)) T a) (hin : ∃ i, i ∉ T ∧ d (f i) < L) :
    IsPick d (T.map f.toEmbedding) (f a) := by
  obtain ⟨i, hi, hL⟩ := hin
  have low : d (f a) < L := (h.le i hi).trans_lt hL
  have mem : ∀ k, f k ∈ T.map f.toEmbedding ↔ k ∈ T := fun k => Finset.mem_map' f.toEmbedding
  refine ⟨fun hm => h.new ((mem a).mp hm), fun j hj => ?_, fun j hj e => ?_⟩
  · by_cases hr : j ∈ Set.range f
    · obtain ⟨k, rfl⟩ := hr
      exact h.le k fun hk => hj ((mem k).mpr hk)
    · exact low.le.trans (hout j hr)
  · by_cases hr : j ∈ Set.range f
    · obtain ⟨k, rfl⟩ := hr
      exact f.le_iff_le.mpr (h.first k (fun hk => hj ((mem k).mpr hk)) e)
    · exact absurd (e ▸ hout j hr) (not_le.mpr low)

/-- So the three first of a window with three near sources are the three first of all. -/
theorem IsThree.shift {m n : ℕ} (f : Fin m ↪o Fin n) (d : Fin n → EReal) (L : EReal) (hout : ∀ j, j ∉ Set.range f → L ≤ d j)
    (hin : 3 ≤ (Finset.univ.filter fun i => d (f i) < L).card) {σ : Fin 3 → Fin m} (h : IsThree (fun i => d (f i)) σ) :
    IsThree d fun r => f (σ r) := by
  have room : ∀ T : Finset (Fin m), T.card ≤ 2 → ∃ i, i ∉ T ∧ d (f i) < L := fun T hT => by
    by_contra hc
    push Not at hc
    have : (Finset.univ.filter fun i => d (f i) < L) ⊆ T := fun i hi => by
      by_contra ht
      exact absurd (Finset.mem_filter.mp hi).2 (not_lt.mpr (hc i ht))
    have := Finset.card_le_card this
    omega
  refine ⟨?_, ?_, ?_⟩
  · simpa using h.zero.shift f d L hout (room _ (by simp))
  · simpa using h.one.shift f d L hout (room _ (by simp))
  · simpa using h.two.shift f d L hout (room _ Finset.card_le_two)

end Cert.Nearest
end
end
-- ==== Proof.NearestMean.lean ====
/- The mean over the nearest sources, each weighted by the inverse of its distance, as both sides take it: the distances
(`dist`), the weights (`weight`), the quotient (`mean`), the product with a row that is zero off the picked sources, and
the normalisation folded into one multiplication and one addition, which commutes with the mean. -/
module
public import proofs.«01_k».proof.Proof.BatchNorm
public import proofs.«01_k».proof.Proof.Nearest
@[expose] public section
noncomputable section
open Idealize.ShloMosaic

namespace Cert.Nearest
open Cert.BatchNorm

/-- The distance two points of different batches are given. -/
def far : EReal := Ideal.ofBits .f32 1343554297#32

/-- The value the kernel raises a source to once it has been taken. -/
def taken : EReal := Ideal.ofBits .f32 1900671690#32

/-- The squared distance of `q` and `p`, expanded, where their batches agree. -/
def dist (b b' : BitVec 32) (q p : Fin 3 → EReal) : EReal :=
  if b = b' then (∑ k, q k * q k) - Ideal.ofBits .f32 1073741824#32 * (∑ k, q k * p k) + ∑ k, p k * p k else far

def weight (d : EReal) : EReal := Ideal.div 1 (max (Ideal.ofBits .f32 619091349#32) d)

def mean {k : ℕ} (w x : Fin k → EReal) : EReal := Ideal.div (∑ r, w r * x r) (∑ r, w r)

theorem far_real : far = ((10000000000 : ℝ) : EReal) := by
  simp [far, Ideal.ofBits, Ideal.ieee, -EReal.coe_mul]; norm_num

theorem taken_real : ∃ r : ℝ, 10000000000 < r ∧ taken = (r : EReal) := by
  refine ⟨(2 ^ 23 + 4846282 : Nat) * (2 : ℝ) ^ ((226 : Int) - 127 - 23), by norm_num, ?_⟩
  simp [taken, Ideal.ofBits, Ideal.ieee, -EReal.coe_mul]

theorem two_real : Ideal.ofBits .f32 1073741824#32 = ((2 : ℝ) : EReal) := by
  simp [Ideal.ofBits, Ideal.ieee, -EReal.coe_mul]; norm_num

theorem tiny_real : ∃ r : ℝ, 0 < r ∧ Ideal.ofBits .f32 619091349#32 = (r : EReal) := by
  refine ⟨(2 ^ 23 + 6722965 : Nat) * (2 : ℝ) ^ ((73 : Int) - 127 - 23), by positivity, ?_⟩
  simp [Ideal.ofBits, Ideal.ieee, -EReal.coe_mul]

theorem far_lt_taken : far < taken := by
  obtain ⟨r, hr, e⟩ := taken_real
  rw [far_real, e]
  exact_mod_cast hr

theorem select_far (b b' : BitVec 32) (x : EReal) :
    Scalar.select (IntOp.cmpi .ne b b') far x = if b = b' then x else far := by
  unfold Scalar.select IntOp.cmpi
  by_cases h : b = b'
  · simp [h]
  · simp [h, (by simpa using h : (b != b') = true)]

/-- A coordinate of modulus at most `C`. -/
def Small (C : ℝ) (x : EReal) : Prop := ∃ r : ℝ, |r| ≤ C ∧ x = (r : EReal)

/-- Points of one batch lie nearer than `far`. -/
theorem near_lt_far {b : BitVec 32} {q p : Fin 3 → EReal} (hq : ∀ k, Small 10000 (q k)) (hp : ∀ k, Small 10000 (p k)) :
    dist b b q p < far := by
  choose q' hq' eq using hq
  choose p' hp' ep using hp
  obtain rfl : q = fun i => (q' i : EReal) := funext eq
  obtain rfl : p = fun i => (p' i : EReal) := funext ep
  rw [dist, if_pos rfl, far_real, two_real]
  simp only [← EReal.coe_mul, ← coe_sum, ← EReal.coe_sub, ← EReal.coe_add]
  rw [EReal.coe_lt_coe_iff]
  simp only [Fin.sum_univ_three]
  have a0 := abs_le.1 (hq' 0)
  have a1 := abs_le.1 (hq' 1)
  have a2 := abs_le.1 (hq' 2)
  have b0 := abs_le.1 (hp' 0)
  have b1 := abs_le.1 (hp' 1)
  have b2 := abs_le.1 (hp' 2)
  have key : ∀ x y : ℝ, -10000 ≤ x → x ≤ 10000 → -10000 ≤ y → y ≤ 10000 → (x - y) * (x - y) ≤ 400000000 := fun x y h1 h2 h3 h4 => by
    nlinarith [abs_le.2 (⟨by linarith, by linarith⟩ : -20000 ≤ x - y ∧ x - y ≤ 20000), sq_abs (x - y), abs_nonneg (x - y)]
  have k0 := key _ _ a0.1 a0.2 b0.1 b0.2
  have k1 := key _ _ a1.1 a1.2 b1.1 b1.2
  have k2 := key _ _ a2.1 a2.2 b2.1 b2.2
  nlinarith

theorem far_le_dist {b b' : BitVec 32} (h : b ≠ b') (q p : Fin 3 → EReal) : far ≤ dist b b' q p := by
  rw [dist, if_neg h]

theorem dist_le_far {b b' : BitVec 32} {q p : Fin 3 → EReal} (hq : ∀ k, Small 10000 (q k)) (hp : ∀ k, Small 10000 (p k)) :
    dist b b' q p ≤ far := by
  by_cases h : b = b'
  · subst h
    exact (near_lt_far hq hp).le
  · rw [dist, if_neg h]

theorem weight_real {d : EReal} (h : d < taken) : ∃ r : ℝ, 0 < r ∧ weight d = (r : EReal) := by
  obtain ⟨e, he, ee⟩ := tiny_real
  have hm : ∃ m : ℝ, 0 < m ∧ max (Ideal.ofBits .f32 619091349#32) d = (m : EReal) := by
    rw [ee]
    induction d with
    | bot => exact ⟨e, he, by simp⟩
    | top => exact absurd h (not_lt.2 le_top)
    | coe r => exact ⟨max e r, lt_max_of_lt_left he, (EReal.coe_strictMono.monotone.map_max).symm⟩
  obtain ⟨m, hm, em⟩ := hm
  refine ⟨1 / m, by positivity, ?_⟩
  rw [weight, em, Ideal.div_coe hm.ne', one_mul]

/-- A row that is zero off one source. -/
theorem pick_sum {n : ℕ} (a : Fin n) (w : EReal) (x : Fin n → EReal) : ∑ j, (if j = a then w else 0) * x j = w * x a := by
  simp [ite_mul]

/-- A row that is zero off three sources. -/
theorem picks_sum {n : ℕ} (σ : Fin 3 → Fin n) (w : Fin 3 → EReal) (hw : ∀ r, 0 ≤ w r) (x : Fin n → EReal) :
    ∑ j, ((if j = σ 0 then w 0 else 0) + (if j = σ 1 then w 1 else 0) + (if j = σ 2 then w 2 else 0)) * x j
      = ∑ r, w r * x (σ r) := by
  have h0 : ∀ r j, 0 ≤ (if j = σ r then w r else 0) := fun r j => by split_ifs; exacts [hw r, le_rfl]
  have e : ∀ j, ((if j = σ 0 then w 0 else 0) + (if j = σ 1 then w 1 else 0) + (if j = σ 2 then w 2 else 0)) * x j
      = (if j = σ 0 then w 0 else 0) * x j + (if j = σ 1 then w 1 else 0) * x j + (if j = σ 2 then w 2 else 0) * x j := fun j => by
    rw [EReal.right_distrib_of_nonneg (add_nonneg (h0 0 j) (h0 1 j)) (h0 2 j), EReal.right_distrib_of_nonneg (h0 0 j) (h0 1 j)]
  simp only [e, Finset.sum_add_distrib, pick_sum, Fin.sum_univ_three]

theorem scale_real {n : Nat} (hn : n ≠ 0) {c eps s ss g : EReal} {h : Fin n → EReal}
    (hc : c = ((1 / n : ℝ) : EReal)) (he : ∃ e : ℝ, 0 < e ∧ eps = (e : EReal))
    (hs : s = ∑ i, h i) (hss : ss = ∑ i, h i * h i) (hh : ∀ i, ∃ r : ℝ, h i = (r : EReal)) (hg : ∃ r : ℝ, g = (r : EReal)) :
    (∃ r : ℝ, scale c eps s ss g = (r : EReal)) ∧ ∃ r : ℝ, s * c = (r : EReal) := by
  choose f hf using hh
  obtain rfl : h = fun i => (f i : EReal) := funext hf
  obtain ⟨g, rfl⟩ := hg
  obtain ⟨e, he, rfl⟩ := he
  subst hc hs hss
  have hv := variance_identity hn f
  have hpos : 0 < (∑ i, (f i - (∑ i, f i) * (1 / n)) * (f i - (∑ i, f i) * (1 / n))) * (1 / n) + e := by
    have : 0 ≤ ∑ i, (f i - (∑ i, f i) * (1 / n)) * (f i - (∑ i, f i) * (1 / n)) :=
      Finset.sum_nonneg fun i _ => mul_self_nonneg _
    positivity
  have hr := (Real.sqrt_pos.2 hpos).ne'
  constructor
  · simp only [scale, ← EReal.coe_mul, ← coe_sum, ← EReal.coe_sub, ← EReal.coe_add, hv, Ideal.sqrt_coe]
    rw [if_neg (not_lt.2 hpos.le), Ideal.div_coe hr, ← EReal.coe_mul]
    exact ⟨_, rfl⟩
  · simp only [← EReal.coe_mul, ← coe_sum]
    exact ⟨_, rfl⟩

/-- Folding the normalisation of the sources into the mean's result is taking the mean of the normalised sources. -/
theorem folded_mean {n k : Nat} (hn : n ≠ 0) (hk : 0 < k) {c N eps s ss g be : EReal} {h : Fin n → EReal}
    (hN : N = ((n : ℝ) : EReal)) (hc : c = ((1 / n : ℝ) : EReal)) (he : ∃ e : ℝ, 0 < e ∧ eps = (e : EReal))
    (hs : s = ∑ i, h i) (hss : ss = ∑ i, h i * h i)
    (hh : ∀ i, ∃ r : ℝ, h i = (r : EReal)) (hg : ∃ r : ℝ, g = (r : EReal)) (hb : ∃ r : ℝ, be = (r : EReal))
    (σ : Fin k → Fin n) (w : Fin k → EReal) (hw : ∀ r, ∃ x : ℝ, 0 < x ∧ w r = (x : EReal)) :
    folded c eps s ss g be (mean w fun r => h (σ r)) = mean w fun r => plain N eps h g be (h (σ r)) := by
  have e : (fun r => plain N eps h g be (h (σ r))) = fun r => folded c eps s ss g be (h (σ r)) :=
    funext fun r => (folded_eq_plain hn hN hc he hs hss hh hg hb (σ r)).symm
  rw [e]
  obtain ⟨⟨A, hA⟩, M, hM⟩ := scale_real hn hc he hs hss hh hg
  obtain ⟨b, rfl⟩ := hb
  choose f hf using hh
  choose v hv hwv using hw
  have hpos : 0 < ∑ r, v r := Finset.sum_pos (fun r _ => hv r) ⟨⟨0, hk⟩, Finset.mem_univ _⟩
  simp only [folded, mean, hA, hM, hf, hwv, ← EReal.coe_mul, ← coe_sum, ← EReal.coe_sub, ← EReal.coe_add, Ideal.div_coe hpos.ne']
  congr 1
  simp only [mul_add, Finset.sum_add_distrib, ← Finset.sum_mul, ← mul_assoc]
  field_simp

end Cert.Nearest
end
end
-- ==== Proof.NearestPre6.lean ====
module
public import proofs.«01_k».proof.Defs
public import proofs.«01_k».proof.Proof.StartsPre
public import proofs.«01_k».proof.Proof.NearestMean
public import Idealize.ShloMosaic.Lib.ReduceAll
@[expose] public section
set_option maxRecDepth 16384
noncomputable section
open Idealize.ShloMosaic Idealize.ShloMosaic.TcCoe Idealize.SL.Sem

/-! # What the interpolation layer's precondition says -/

namespace Cert.Nearest6
open Cert.BatchNorm Cert.Nearest

/-- The pattern of 10⁴. -/
theorem bound_real : Ideal.ofBits .f32 1176256512#32 = ((10000 : ℝ) : EReal) := by
  simp [Ideal.ofBits, Ideal.ieee, -EReal.coe_mul]; norm_num

/-- The pattern of 3. -/
theorem three_real : Ideal.ofBits .f32 1077936128#32 = ((3 : ℝ) : EReal) := by
  simp [Ideal.ofBits, Ideal.ieee, -EReal.coe_mul]; norm_num

theorem small_of_abs_le {x : EReal} (h : max x (-x) ≤ Ideal.ofBits .f32 1176256512#32) : Small 10000 x := by
  rw [bound_real] at h
  induction x with
  | bot => simp at h
  | top => simp at h
  | coe r =>
    refine ⟨r, abs_le'.2 ⟨?_, ?_⟩, rfl⟩
    · exact_mod_cast (le_max_left _ _).trans h
    · exact_mod_cast (le_max_right _ _).trans h

theorem bit_eq (x y : BitVec 32) : IntOp.cmpi .eq x y = BitVec.ofBool (decide (x = y)) := by
  unfold IntOp.cmpi
  by_cases h : x = y
  · simp [h]
  · simp [h, (by simpa using h : (x == y) = false)]

/-- Three bits set among many, counted as a sum. -/
theorem three_of_sum {n : Nat} {P : Fin n → Prop} [DecidablePred P]
    (h : Ideal.ofBits .f32 1077936128#32 ≤ ∑ x, FloatOps.uitofp (F := Ideal) .f32 (BitVec.ofBool (decide (P x)))) :
    3 ≤ (Finset.univ.filter P).card := by
  have e : ∀ x, FloatOps.uitofp (F := Ideal) .f32 (BitVec.ofBool (decide (P x))) = ((if P x then 1 else 0 : ℝ) : EReal) := fun x => by
    show (((BitVec.ofBool (decide (P x))).toNat : ℝ) : EReal) = _
    by_cases hx : P x <;> simp [hx]
  rw [Finset.sum_congr rfl fun x _ => e x, ← coe_sum, Finset.sum_boole, three_real] at h
  exact_mod_cast h

/-- A source of the query's batch lies in the query's window. -/
theorem inside_of {b b' w : BitVec 32} {j : Fin 4096} (hw : IsStart w) (hb : b = b')
    (h : IntOp.ori (~~~IntOp.cmpi .eq b b') (IntOp.andi (IntOp.cmpi .sle w (BitVec.ofNat 32 j.val))
      (IntOp.cmpi .slt (BitVec.ofNat 32 j.val) (IntOp.addi w 2560#32))) = 1#1) :
    w.toNat ≤ j.val ∧ j.val < w.toNat + 2560 := by
  have h' : IntOp.andi (IntOp.cmpi .sle w (BitVec.ofNat 32 j.val)) (IntOp.cmpi .slt (BitVec.ofNat 32 j.val) (IntOp.addi w 2560#32)) = 1#1 := by
    rw [bit_eq, decide_eq_true hb] at h
    refine Eq.trans ?_ h
    show _ = (~~~BitVec.ofBool true) ||| _
    rw [show (~~~BitVec.ofBool true : BitVec 1) = 0#1 by decide, BitVec.zero_or]
  obtain ⟨h1, h2⟩ := IntOp.andi_eq_one.1 h'
  have h1 := le_of_cmpi h1
  have h2 := lt_of_cmpi h2
  obtain ⟨-, hw⟩ := hw
  have hj := j.isLt
  have e : (BitVec.ofNat 32 j.val).toNat = j.val := by rw [BitVec.toNat_ofNat]; exact Nat.mod_eq_of_lt (by omega)
  have e2 : (IntOp.addi w 2560#32).toNat = w.toNat + 2560 := by
    show (w + 2560#32).toNat = _
    rw [BitVec.toNat_add]
    exact Nat.mod_eq_of_lt (by show w.toNat + 2560 < _; omega)
  rw [BitVec.toInt_eq_toNat_cond, BitVec.toInt_eq_toNat_cond, e] at h1 h2
  rw [e2] at h2
  rw [if_pos (by omega), if_pos (by omega)] at h1 h2
  omega

/-- The precondition read. The query rows come in blocks of 512, one window to a block. -/
structure Read (st : IVec ⟨1, ![32]⟩ 32) (h : FVec Ideal ⟨2, ![4096, 1024]⟩ .f32) (s ss : FVec Ideal ⟨2, ![1, 1024]⟩ .f32)
    (g be : FVec Ideal ⟨1, ![1024]⟩ .f32) (p : FVec Ideal ⟨2, ![4096, 3]⟩ .f32) (q : FVec Ideal ⟨2, ![16384, 3]⟩ .f32) (bs : IVec ⟨1, ![4096]⟩ 32)
    (bq : IVec ⟨1, ![16384]⟩ 32) : Prop where
  start : ∀ t : Fin 32, IsStart (st (ix1 t))
  fin_h : ∀ (j : Fin 4096) (k : Fin 1024), ∃ r : ℝ, h (ix2 j k) = (r : EReal)
  fin_g : ∀ k : Fin 1024, ∃ r : ℝ, g (ix1 k) = (r : EReal)
  fin_be : ∀ k : Fin 1024, ∃ r : ℝ, be (ix1 k) = (r : EReal)
  sums : ∀ k : Fin 1024, s (ix2 0 k) = ∑ j : Fin 4096, h (ix2 j k)
  squares : ∀ k : Fin 1024, ss (ix2 0 k) = ∑ j : Fin 4096, h (ix2 j k) * h (ix2 j k)
  near_p : ∀ (j : Fin 4096) (k : Fin 3), Small 10000 (p (ix2 j k))
  near_q : ∀ (i : Fin 16384) (k : Fin 3), Small 10000 (q (ix2 i k))
  three : ∀ i : Fin 16384, 3 ≤ (Finset.univ.filter fun j : Fin 4096 => bq (ix1 i) = bs (ix1 j)).card
  inside : ∀ (i : Fin 16384) (j : Fin 4096), bq (ix1 i) = bs (ix1 j) →
    (st (ix1 ⟨i.val / 512, by omega⟩)).toNat ≤ j.val ∧ j.val < (st (ix1 ⟨i.val / 512, by omega⟩)).toNat + 2560

open Cert.Pre_nearest_linear_pre in
/-- Where the precondition holds, it reads so. -/
theorem pre_facts [Cert.Pre_nearest_linear_pre.Facts] {st : IVec S32 32} {h : FVec Ideal S4096x1024 .f32} {s ss : FVec Ideal S1x1024 .f32}
    {g be : FVec Ideal S1024 .f32} {x : FVec Ideal S16384x64 .f32} {p : FVec Ideal S4096x3 .f32} {q : FVec Ideal S16384x3 .f32} {bs : IVec S4096 32}
    {bq : IVec S16384 32} {w : FVec Ideal S1088x1024 .f32} {b : FVec Ideal S1024 .f32}
    (e : Cert.Pre_nearest_linear_pre.fn (F := Ideal) st h s ss g be x p q bs bq w b = fun _ => 1#1) :
    Read st h s ss g be p q bs bq := by
  have e := congrFun e ix0
  unfold fn fn_part1 fn_part2 fn_part3 fn_part4 at e
  dsimp only at e
  obtain ⟨e, ws⟩ := IntOp.andi_eq_one.1 e
  obtain ⟨e, ei⟩ := IntOp.andi_eq_one.1 e
  obtain ⟨e, e3⟩ := IntOp.andi_eq_one.1 e
  obtain ⟨e, en⟩ := IntOp.andi_eq_one.1 e
  obtain ⟨ep, eq⟩ := IntOp.andi_eq_one.1 en
  obtain ⟨e, e'⟩ := IntOp.andi_eq_one.1 e
  obtain ⟨es, ess⟩ := IntOp.andi_eq_one.1 e'
  obtain ⟨e, eb⟩ := IntOp.andi_eq_one.1 e
  obtain ⟨e, eg⟩ := IntOp.andi_eq_one.1 e
  obtain ⟨-, eh⟩ := IntOp.andi_eq_one.1 e
  have start : ∀ t : Fin 32, IsStart (st (ix1 t)) := fun t => by
    have ws := Host.reduce_andi_all _ _ _ _ _ ws (ix1 t)
    obtain ⟨w0, w2⟩ := IntOp.andi_eq_one.1 ws
    obtain ⟨w0, w1⟩ := IntOp.andi_eq_one.1 w0
    pointwise at w0 w1 w2
    exact isStart (eq_of_cmpi w0) (ge_of_cmpi w1) (le_of_cmpi w2)
  refine ⟨start, fun j k => real_of_abs_lt ?_, fun k => real_of_abs_lt ?_, fun k => real_of_abs_lt ?_, fun k => ?_, fun k => ?_,
    fun j k => small_of_abs_le ?_, fun i k => small_of_abs_le ?_, fun i => three_of_sum ?_, fun i j hb => ?_⟩
  · have := Host.reduce_andi_all _ _ _ _ _ eh (ix2 j k)
    pointwise at this
    rw [inf_f32] at this
    exact ofBool_one this
  · have := Host.reduce_andi_all _ _ _ _ _ eg (ix1 k)
    pointwise at this
    rw [inf_f32] at this
    exact ofBool_one this
  · have := Host.reduce_andi_all _ _ _ _ _ eb (ix1 k)
    pointwise at this
    rw [inf_f32] at this
    exact ofBool_one this
  · have := Host.reduce_andi_all _ _ _ _ _ es (ix2 0 k)
    pointwise at this
    exact ofBool_one this
  · have := Host.reduce_andi_all _ _ _ _ _ ess (ix2 0 k)
    pointwise at this
    exact ofBool_one this
  · have := Host.reduce_andi_all _ _ _ _ _ ep (ix2 j k)
    pointwise at this
    exact ofBool_one this
  · have := Host.reduce_andi_all _ _ _ _ _ eq (ix2 i k)
    pointwise at this
    exact ofBool_one this
  · have := Host.reduce_andi_all _ _ _ _ _ e3 (ix1 i)
    pointwise at this
    simp only [bit_eq] at this
    exact ofBool_one this
  · have := Host.reduce_andi_all _ _ _ _ _ ei (ix2 i j)
    pointwise at this
    exact inside_of (start _) hb this

end Cert.Nearest6
end
end
-- ==== Proof.NearestFrames6.lean ====
module
public import proofs.«01_k».proof.Defs
public import proofs.«01_k».proof.Proof.Starts6
public import proofs.«01_k».proof.Proof.StartsBits6
public import proofs.«01_k».proof.Proof.NearestPre6
@[expose] public section
set_option maxRecDepth 16384
noncomputable section
open Idealize.ShloMosaic Idealize.ShloMosaic.TcCoe Idealize.SL.Sem

/-! # The interpolation call runs, leaves its arguments as they were and ends quiescent, where its starts are starts -/

namespace Cert.Nearest6

/-- On the machine's words. -/
theorem frame_bits [hP : Cert.Pre_starts_pre.Facts] : Cert.quiescent_Kernel6 := fun m ρ h =>
  Cert.Kernel6.Call.frame m ρ (Cert.Kernel6.Hand.ok m) (Cert.Kernel6.Hand.hyps_of m _ (starts_facts (h 0)))

/-- Over the extended reals. -/
theorem frame_ideal [hP : Cert.Pre_starts_pre.Facts] : Cert.quiescent_Kernel6Ideal := fun m ρ h =>
  Cert.Kernel6Ideal.Call.frame m ρ (Cert.Kernel6Ideal.Hand.ok m) (Cert.Kernel6Ideal.Hand.hyps_of m _ (starts_facts (h 0)))

/-- Over the extended reals, under the value claim's precondition. -/
theorem frame_value [hP : Cert.Pre_nearest_linear_pre.Facts] : Cert.quiescent_Kernel6Ideal_pre_nearest_linear_pre := fun m ρ h =>
  Cert.Kernel6Ideal.Call.frame m ρ (Cert.Kernel6Ideal.Hand.ok m) (Cert.Kernel6Ideal.Hand.hyps_of m _ (pre_facts (h 0)).start)

end Cert.Nearest6
end
end
-- ==== Proof.Layer.lean ====
module
public import proofs.«01_k».proof.Proof.BatchNorm
public import proofs.«01_k».proof.Proof.Gen.KernelIdeal.Value
public import Idealize.ShloMosaic.Lib.Pipeline.Value
public import Idealize.ShloMosaic.Lib.StableHlo.ReadAt
public import Idealize.ShloMosaic.Lib.Tactic
@[expose] public section
set_option maxRecDepth 16384
noncomputable section
open Idealize.ShloMosaic Idealize.ShloMosaic.TcCoe Idealize.SL.Sem
open Idealize.ShloMosaic.Pipeline (Dat)

/-! # What the fused linear layer with a normalised input leaves in its three result arrays (16384 rows) -/

namespace Cert.KernelIdeal.Hand

open Cert.KernelIdeal Cert.KernelIdeal.Gen Cert.BatchNorm

theorem hz : (![0, 0] : Fin 2 → Nat) = fun _ => 0 := funext fun a => by fin_cases a <;> rfl

/-! ## One grid point -/

section Point
variable {F : FTy → Type} [FloatOps F]
variable (c : Dev nD) (i : grid0.Coords)
  (a1 : Memref sig .tc .vmem S512x1024 .f32) (h1 : a1.IsWhole) (a2 : Memref sig .tc .vmem S1024x1024 .f32) (h2 : a2.IsWhole)
  (a3 : Memref sig .tc .vmem S1x1024 .f32) (h3 : a3.IsWhole) (a4 : Memref sig .tc .vmem S1x1024 .f32) (h4 : a4.IsWhole)
  (a5 : Memref sig .tc .vmem S1x1024 .f32) (h5 : a5.IsWhole) (a6 : Memref sig .tc .vmem S1x1024 .f32) (h6 : a6.IsWhole)
  (a7 : Memref sig .tc .vmem S1x1024 .f32) (h7 : a7.IsWhole) (a8 : Memref sig .tc .vmem S512x1024 .f32) (h8 : a8.IsWhole)
  (a9 : Memref sig .tc .vmem S1x1024 .f32) (h9 : a9.IsWhole) (a10 : Memref sig .tc .vmem S1x1024 .f32) (h10 : a10.IsWhole)
  (x : Vec F S512x1024 .f32) (w : Vec F S1024x1024 .f32) (b s ss g be : Vec F S1x1024 .f32) (p q : Vec F S1x1024 .f32)

/-- The first point stores the layer's block. -/
theorem first_block (hc0 : cond0_0 i) (hc1 : ¬cond0_1 i) :
    out0_A_7 c i a1 h1 a2 h2 a3 h3 a4 h4 a5 h5 a6 h6 a7 h7 a8 h8 a9 h9 a10 h10 hc0 hc1 x w b s ss g be = k0_pay4 x s ss g be w b := by
  unfold out0_A_7
  rw [View.read_writes_eq_canon _ _ _ (cover0_A_7 c i a1 h1 a2 h2 a3 h3 a4 h4 a5 h5 a6 h6 a7 h7 a8 h8 a9 h9 a10 h10 hc0 hc1 x w b s ss g be)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- The first point stores the block's column sums. -/
theorem first_sum (hc0 : cond0_0 i) (hc1 : ¬cond0_1 i) :
    out0_A_8 c i a1 h1 a2 h2 a3 h3 a4 h4 a5 h5 a6 h6 a7 h7 a8 h8 a9 h9 a10 h10 hc0 hc1 x w b s ss g be = k0_pay5 x s ss g be w b := by
  unfold out0_A_8
  rw [View.read_writes_eq_canon _ _ _ (cover0_A_8 c i a1 h1 a2 h2 a3 h3 a4 h4 a5 h5 a6 h6 a7 h7 a8 h8 a9 h9 a10 h10 hc0 hc1 x w b s ss g be)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- The first point stores the column sums of the block's squares. -/
theorem first_square (hc0 : cond0_0 i) (hc1 : ¬cond0_1 i) :
    out0_A_9 c i a1 h1 a2 h2 a3 h3 a4 h4 a5 h5 a6 h6 a7 h7 a8 h8 a9 h9 a10 h10 hc0 hc1 x w b s ss g be = k0_pay1 (k0_pay6 x s ss g be w b) := by
  unfold out0_A_9
  rw [View.read_writes_eq_canon _ _ _ (cover0_A_9 c i a1 h1 a2 h2 a3 h3 a4 h4 a5 h5 a6 h6 a7 h7 a8 h8 a9 h9 a10 h10 hc0 hc1 x w b s ss g be)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- A later point stores the layer's block. -/
theorem later_block (hc0 : ¬cond0_0 i) (hc1 : cond0_1 i) :
    out0_B_7 c i a1 h1 a2 h2 a3 h3 a4 h4 a5 h5 a6 h6 a7 h7 a8 h8 a9 h9 a10 h10 hc0 hc1 x w b s ss g be p q = k0_pay4 x s ss g be w b := by
  unfold out0_B_7
  rw [View.read_writes_eq_canon _ _ _ (cover0_B_7 c i a1 h1 a2 h2 a3 h3 a4 h4 a5 h5 a6 h6 a7 h7 a8 h8 a9 h9 a10 h10 hc0 hc1 x w b s ss g be p q)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- A later point adds the block's column sums to what the point before left. -/
theorem later_sum (hc0 : ¬cond0_0 i) (hc1 : cond0_1 i) :
    out0_B_8 c i a1 h1 a2 h2 a3 h3 a4 h4 a5 h5 a6 h6 a7 h7 a8 h8 a9 h9 a10 h10 hc0 hc1 x w b s ss g be p q = k0_pay2 (k0_pay5 x s ss g be w b) p := by
  unfold out0_B_8
  rw [View.read_writes_eq_canon _ _ _ (cover0_B_8 c i a1 h1 a2 h2 a3 h3 a4 h4 a5 h5 a6 h6 a7 h7 a8 h8 a9 h9 a10 h10 hc0 hc1 x w b s ss g be p q)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h9.read_unread, View.ld_unit_zero (S := S512x1024) hz, View.ld_unit_zero (S := S1024x1024) hz, View.ld_unit_zero (S := S1x1024) hz]

/-- A later point adds the column sums of the block's squares to what the point before left. -/
theorem later_square (hc0 : ¬cond0_0 i) (hc1 : cond0_1 i) :
    out0_B_9 c i a1 h1 a2 h2 a3 h3 a4 h4 a5 h5 a6 h6 a7 h7 a8 h8 a9 h9 a10 h10 hc0 hc1 x w b s ss g be p q = k0_pay3 (k0_pay6 x s ss g be w b) q := by
  unfold out0_B_9
  rw [View.read_writes_eq_canon _ _ _ (cover0_B_9 c i a1 h1 a2 h2 a3 h3 a4 h4 a5 h5 a6 h6 a7 h7 a8 h8 a9 h9 a10 h10 hc0 hc1 x w b s ss g be p q)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h10.read_unread, View.ld_unit_zero (S := S512x1024) hz, View.ld_unit_zero (S := S1024x1024) hz, View.ld_unit_zero (S := S1x1024) hz]

end Point

/-! ## The blocks the windows fetch -/

section Fetch
variable {F : FTy → Type} [FloatOps F]
variable (m : (ℓ : Loc nD τ sig) → Buf (Elt F) ℓ) (c : Dev nD)

theorem row_index : ∀ t : Fin cfg0.N, win0_0.index t 0 = t.val ∧ win0_0.index t 1 = 0 :=
  (by decide +kernel : ∀ t : Fin grid0.N, win0_0.index t 0 = t.val ∧ win0_0.index t 1 = 0)
theorem out_index : ∀ t : Fin cfg0.N, win0_7.index t 0 = t.val ∧ win0_7.index t 1 = 0 :=
  (by decide +kernel : ∀ t : Fin grid0.N, win0_7.index t 0 = t.val ∧ win0_7.index t 1 = 0)
theorem w_index : ∀ t : Fin cfg0.N, win0_1.index t 0 = 0 ∧ win0_1.index t 1 = 0 :=
  (by decide +kernel : ∀ t : Fin grid0.N, win0_1.index t 0 = 0 ∧ win0_1.index t 1 = 0)
theorem b_index : ∀ t : Fin cfg0.N, win0_2.index t 0 = 0 ∧ win0_2.index t 1 = 0 :=
  (by decide +kernel : ∀ t : Fin grid0.N, win0_2.index t 0 = 0 ∧ win0_2.index t 1 = 0)
theorem s_index : ∀ t : Fin cfg0.N, win0_3.index t 0 = 0 ∧ win0_3.index t 1 = 0 :=
  (by decide +kernel : ∀ t : Fin grid0.N, win0_3.index t 0 = 0 ∧ win0_3.index t 1 = 0)
theorem ss_index : ∀ t : Fin cfg0.N, win0_4.index t 0 = 0 ∧ win0_4.index t 1 = 0 :=
  (by decide +kernel : ∀ t : Fin grid0.N, win0_4.index t 0 = 0 ∧ win0_4.index t 1 = 0)
theorem g_index : ∀ t : Fin cfg0.N, win0_5.index t 0 = 0 ∧ win0_5.index t 1 = 0 :=
  (by decide +kernel : ∀ t : Fin grid0.N, win0_5.index t 0 = 0 ∧ win0_5.index t 1 = 0)
theorem be_index : ∀ t : Fin cfg0.N, win0_6.index t 0 = 0 ∧ win0_6.index t 1 = 0 :=
  (by decide +kernel : ∀ t : Fin grid0.N, win0_6.index t 0 = 0 ∧ win0_6.index t 1 = 0)

theorem row_lt (t : Fin cfg0.N) (r : Fin 512) : 512 * t.val + r.val < 16384 := by
  have := t.isLt; have hN : cfg0.N = 32 := N_0; omega

/-- Point `t`'s block of the activations is rows `512 t …` of them. -/
theorem x_block (t : Fin cfg0.N) (r : Fin 512) (k : Fin 1024) :
    (iblk m c 0 t : Vec F S512x1024 .f32) (ix2 r k) = m ((c.tc : Thread nD τ).loc main_arg0) (ix2 ⟨512 * t.val + r.val, row_lt t r⟩ k) := by
  unfold iblk
  rw [View.read_apply]
  show V m c main_arg0 _ = _
  rw [V_main_arg0]
  congr 1; funext a; apply Fin.ext
  match a with
  | ⟨0, _⟩ => show win0_0.index t 0 * 512 + 1 * r.val = 512 * t.val + r.val; rw [(row_index t).1]; omega
  | ⟨1, _⟩ => show win0_0.index t 1 * 1024 + 1 * k.val = k.val; rw [(row_index t).2]; omega

/-- Every point fetches the whole weight matrix. -/
theorem w_block (t : Fin cfg0.N) (r k : Fin 1024) :
    (iblk m c 1 t : Vec F S1024x1024 .f32) (ix2 r k) = m ((c.tc : Thread nD τ).loc main_arg5) (ix2 r k) := by
  unfold iblk
  rw [View.read_apply]
  show V m c main_arg5 _ = _
  rw [V_main_arg5]
  congr 1; funext a; apply Fin.ext
  match a with
  | ⟨0, _⟩ => show win0_1.index t 0 * 1024 + 1 * r.val = r.val; rw [(w_index t).1]; omega
  | ⟨1, _⟩ => show win0_1.index t 1 * 1024 + 1 * k.val = k.val; rw [(w_index t).2]; omega

/-- Every point fetches the row of column sums. -/
theorem s_block (t : Fin cfg0.N) (k : Fin 1024) :
    (iblk m c 3 t : Vec F S1x1024 .f32) (ix2 0 k) = m ((c.tc : Thread nD τ).loc main_arg1) (ix2 0 k) := by
  unfold iblk
  rw [View.read_apply]
  show V m c main_arg1 _ = _
  rw [V_main_arg1]
  congr 1; funext a; apply Fin.ext
  match a with
  | ⟨0, _⟩ => show win0_3.index t 0 * 1 + 1 * 0 = 0; rw [(s_index t).1]
  | ⟨1, _⟩ => show win0_3.index t 1 * 1024 + 1 * k.val = k.val; rw [(s_index t).2]; omega

/-- Every point fetches the row of column sums of squares. -/
theorem ss_block (t : Fin cfg0.N) (k : Fin 1024) :
    (iblk m c 4 t : Vec F S1x1024 .f32) (ix2 0 k) = m ((c.tc : Thread nD τ).loc main_arg2) (ix2 0 k) := by
  unfold iblk
  rw [View.read_apply]
  show V m c main_arg2 _ = _
  rw [V_main_arg2]
  congr 1; funext a; apply Fin.ext
  match a with
  | ⟨0, _⟩ => show win0_4.index t 0 * 1 + 1 * 0 = 0; rw [(ss_index t).1]
  | ⟨1, _⟩ => show win0_4.index t 1 * 1024 + 1 * k.val = k.val; rw [(ss_index t).2]; omega

/-- The bias as the region finds it: the argument as one row. -/
theorem b_entry (k : Fin 1024) : (V m c main_v0 : Vec F S1x1024 .f32) (ix2 0 k) = m ((c.tc : Thread nD τ).loc main_arg6) (ix1 k) := by
  unfold V
  after_reads_at
/-- The factor `g` as the region finds it: the argument as one row. -/
theorem g_entry (k : Fin 1024) : (V m c main_v1 : Vec F S1x1024 .f32) (ix2 0 k) = m ((c.tc : Thread nD τ).loc main_arg3) (ix1 k) := by
  unfold V
  after_reads_at
/-- The shift `be` as the region finds it: the argument as one row. -/
theorem be_entry (k : Fin 1024) : (V m c main_v2 : Vec F S1x1024 .f32) (ix2 0 k) = m ((c.tc : Thread nD τ).loc main_arg4) (ix1 k) := by
  unfold V
  after_reads_at

/-- Every point fetches the bias row. -/
theorem b_block (t : Fin cfg0.N) (k : Fin 1024) :
    (iblk m c 2 t : Vec F S1x1024 .f32) (ix2 0 k) = m ((c.tc : Thread nD τ).loc main_arg6) (ix1 k) := by
  rw [← b_entry m c k]
  unfold iblk
  rw [View.read_apply]
  show V m c main_v0 _ = V m c main_v0 _
  congr 1; funext a; apply Fin.ext
  match a with
  | ⟨0, _⟩ => show win0_2.index t 0 * 1 + 1 * 0 = 0; rw [(b_index t).1]
  | ⟨1, _⟩ => show win0_2.index t 1 * 1024 + 1 * k.val = k.val; rw [(b_index t).2]; omega
/-- Every point fetches the row of factors `g`. -/
theorem g_block (t : Fin cfg0.N) (k : Fin 1024) :
    (iblk m c 5 t : Vec F S1x1024 .f32) (ix2 0 k) = m ((c.tc : Thread nD τ).loc main_arg3) (ix1 k) := by
  rw [← g_entry m c k]
  unfold iblk
  rw [View.read_apply]
  show V m c main_v1 _ = V m c main_v1 _
  congr 1; funext a; apply Fin.ext
  match a with
  | ⟨0, _⟩ => show win0_5.index t 0 * 1 + 1 * 0 = 0; rw [(g_index t).1]
  | ⟨1, _⟩ => show win0_5.index t 1 * 1024 + 1 * k.val = k.val; rw [(g_index t).2]; omega
/-- Every point fetches the row of shifts `be`. -/
theorem be_block (t : Fin cfg0.N) (k : Fin 1024) :
    (iblk m c 6 t : Vec F S1x1024 .f32) (ix2 0 k) = m ((c.tc : Thread nD τ).loc main_arg4) (ix1 k) := by
  rw [← be_entry m c k]
  unfold iblk
  rw [View.read_apply]
  show V m c main_v2 _ = V m c main_v2 _
  congr 1; funext a; apply Fin.ext
  match a with
  | ⟨0, _⟩ => show win0_6.index t 0 * 1 + 1 * 0 = 0; rw [(be_index t).1]
  | ⟨1, _⟩ => show win0_6.index t 1 * 1024 + 1 * k.val = k.val; rw [(be_index t).2]; omega

end Fetch

/-! ## Over the extended reals -/

variable (m : (ℓ : Loc nD τ sig) → Buf (Elt Ideal) ℓ) (ρ : Dev nD → PrngReg) (c : Dev nD)

/-- The layer's entry at row `i` and column `l`: the folded normalisation of the row times the weights' column, plus
    the bias, cut at 0. -/
def layer (i : Fin 16384) (l : Fin 1024) : EReal :=
  max ((∑ k : Fin 1024, folded (Ideal.ofBits .f32 947912704#32) (Ideal.ofBits .f32 925353388#32)
      (m ((c.tc : Thread nD τ).loc main_arg1) (ix2 0 k)) (m ((c.tc : Thread nD τ).loc main_arg2) (ix2 0 k))
      (m ((c.tc : Thread nD τ).loc main_arg3) (ix1 k)) (m ((c.tc : Thread nD τ).loc main_arg4) (ix1 k))
      (m ((c.tc : Thread nD τ).loc main_arg0) (ix2 i k)) * m ((c.tc : Thread nD τ).loc main_arg5) (ix2 k l))
    + m ((c.tc : Thread nD τ).loc main_arg6) (ix1 l)) 0

/-- The block point `t` computes. -/
abbrev block (t : Fin cfg0.N) : FVec Ideal S512x1024 .f32 :=
  k0_pay4 (iblk m c 0 t) (iblk m c 3 t) (iblk m c 4 t) (iblk m c 5 t) (iblk m c 6 t) (iblk m c 1 t) (iblk m c 2 t)

/-- … is rows `512 t …` of the layer. -/
theorem block_apply (t : Fin cfg0.N) (r : Fin 512) (l : Fin 1024) :
    block m c t (ix2 r l) = layer m c ⟨512 * t.val + r.val, row_lt t r⟩ l := by
  unfold block
  pointwise [k0_pay4]
  simp only [x_block, w_block, s_block, ss_block, b_block, g_block, be_block]
  rfl

/-- What point `n` leaves of the column sums. -/
def sums (n : Nat) (l : Fin 1024) : EReal := ∑ t ∈ Finset.range (n + 1), ∑ r : Fin 512, ext (fun i => layer m c i l) (512 * t + r.val)
/-- What point `n` leaves of the column sums of squares. -/
def squares (n : Nat) (l : Fin 1024) : EReal :=
  ∑ t ∈ Finset.range (n + 1), ∑ r : Fin 512, ext (fun i => layer m c i l * layer m c i l) (512 * t + r.val)

theorem block_ext (t : Fin cfg0.N) (r : Fin 512) (l : Fin 1024) : block m c t (ix2 r l) = ext (fun i => layer m c i l) (512 * t.val + r.val) := by
  rw [block_apply, ext, dif_pos (row_lt t r)]
theorem block_sq (t : Fin cfg0.N) (r : Fin 512) (l : Fin 1024) :
    block m c t (ix2 r l) * block m c t (ix2 r l) = ext (fun i => layer m c i l * layer m c i l) (512 * t.val + r.val) := by
  rw [block_apply, ext, dif_pos (row_lt t r)]

/-- The column sums of one block. -/
theorem pay5_apply (t : Fin cfg0.N) (l : Fin 1024) :
    k0_pay5 (iblk m c 0 t) (iblk m c 3 t) (iblk m c 4 t) (iblk m c 5 t) (iblk m c 6 t) (iblk m c 1 t) (iblk m c 2 t) (ix2 0 l)
      = ∑ r : Fin 512, ext (fun i => layer m c i l) (512 * t.val + r.val) := by
  simp only [← block_ext]
  show k0_pay1 (block m c t) (ix2 0 l) = _
  generalize block m c t = B
  pointwise [k0_pay1]
/-- The column sums of the squares of one block. -/
theorem pay6_apply (t : Fin cfg0.N) (l : Fin 1024) :
    k0_pay1 (k0_pay6 (iblk m c 0 t) (iblk m c 3 t) (iblk m c 4 t) (iblk m c 5 t) (iblk m c 6 t) (iblk m c 1 t) (iblk m c 2 t)) (ix2 0 l)
      = ∑ r : Fin 512, ext (fun i => layer m c i l * layer m c i l) (512 * t.val + r.val) := by
  simp only [← block_sq]
  show k0_pay1 (mulf (block m c t) (block m c t)) (ix2 0 l) = _
  generalize block m c t = B
  pointwise [k0_pay1]

/-- A later point's sum is the old one plus the block's. -/
theorem pay2_apply (x q : FVec Ideal S1x1024 .f32) (l : Fin 1024) : k0_pay2 x q (ix2 0 l) = q (ix2 0 l) + x (ix2 0 l) := by
  pointwise [k0_pay2]
/-- A later point's sum of squares is the old one plus the block's. -/
theorem pay3_apply (x : FVec Ideal S512x1024 .f32) (q : FVec Ideal S1x1024 .f32) (l : Fin 1024) :
    k0_pay3 x q (ix2 0 l) = q (ix2 0 l) + k0_pay1 x (ix2 0 l) := by
  pointwise [k0_pay3, k0_pay1]

/-- After point `n` the staging buffers hold the point's block and the sums so far. -/
theorem outs_eq : ∀ (n : ℕ) (h : n < cfg0.N), (outsAt0 m c n h).1 = block m c ⟨n, h⟩
    ∧ (∀ l, (outsAt0 m c n h).2.1 (ix2 0 l) = sums m c n l) ∧ ∀ l, (outsAt0 m c n h).2.2 (ix2 0 l) = squares m c n l
  | 0, h => by
    rw [outsAt0_A m c ⟨0, h⟩ rfl (by simp), first_block, first_sum, first_square]
    refine ⟨rfl, fun l => ?_, fun l => ?_⟩
    · dsimp only; rw [pay5_apply, sums, Finset.sum_range_one]
    · dsimp only; rw [pay6_apply, squares, Finset.sum_range_one]
  | n + 1, h => by
    have hN : cfg0.N = 32 := N_0
    obtain ⟨-, ih1, ih2⟩ := outs_eq n (Nat.lt_of_succ_lt h)
    rw [outsAt0_B m c ⟨n + 1, h⟩ (by dsimp only; omega) (by simp), later_block, later_sum, later_square]
    refine ⟨rfl, fun l => ?_, fun l => ?_⟩
    · show k0_pay2 _ (outsAt0 m c n _).2.1 (ix2 0 l) = _
      rw [sums, Finset.sum_range_succ, ← sums, ← ih1, ← pay5_apply m c ⟨n + 1, h⟩]
      exact pay2_apply _ _ l
    · show k0_pay3 _ (outsAt0 m c n _).2.2 (ix2 0 l) = _
      rw [squares, Finset.sum_range_succ, ← squares, ← ih2, ← pay6_apply m c ⟨n + 1, h⟩]
      exact pay3_apply _ _ l

/-- The layer as one array. -/
def result : Vec Ideal S16384x1024 .f32 := fun j => layer m c (j 0) (j 1)

/-- Every point writes back its block of the layer. -/
theorem flushed_out (t : Fin cfg0.N) : (dats m 0 c).flushed 7 t = ((cfg0.win 7).blk t).view.read (Elt Ideal) (result m c) := by
  rw [Value.flushed7, (outs_eq m c t.val t.isLt).1]
  funext j
  obtain ⟨r, k, rfl⟩ : ∃ (r : Fin 512) (k : Fin 1024), j = ix2 r k := ⟨j 0, j 1, eq_ix2 (n0 := 512) (n1 := 1024) j⟩
  rw [View.read_apply]
  refine (block_apply m c t r k).trans ?_
  show layer m c _ _ = layer m c _ _
  congr 1
  · apply Fin.ext
    show 512 * t.val + r.val = win0_7.index t 0 * 512 + 1 * r.val; rw [(out_index t).1]; omega
  · apply Fin.ext
    show k.val = win0_7.index t 1 * 1024 + 1 * k.val; rw [(out_index t).2]; omega

/-- The blocks cover the first result array. -/
theorem cover_out (i : S16384x1024.Idx) : ∃ t : Fin cfg0.N, (cfg0.win 7).flush t = true ∧ i ∈ ((cfg0.win 7).blk t).view.set := by
  have hN : cfg0.N = 32 := N_0
  have h0 : (i 0 : Nat) < 16384 := (i 0).isLt
  have h1 : (i 1 : Nat) < 1024 := (i 1).isLt
  obtain ⟨t, ht⟩ : ∃ t : Fin cfg0.N, t.val = (i 0).val / 512 := ⟨⟨(i 0).val / 512, by omega⟩, rfl⟩
  refine ⟨t, flush0_7 t, ?_⟩
  show i ∈ ((View.whole main_v3_0).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [(out_index t).1, ht]; omega
  | ⟨1, _⟩ => show win0_7.index t 1 * 1024 ≤ (i 1 : Nat) ∧ (i 1 : Nat) < win0_7.index t 1 * 1024 + 1024
              rw [(out_index t).2]; omega

/-- The first result array ends holding the layer. -/
theorem out_apply (i : Fin 16384) (l : Fin 1024) : (dats m 0 c).arrAt 7 cfg0.N (ix2 i l) = layer m c i l :=
  congrFun ((dats m 0 c).arrAt_eq_of_cover 7 (result m c) (fun t _ => flushed_out m c t) cover_out) (ix2 i l)

theorem last_lt : 32 - 1 < cfg0.N := by rw [show cfg0.N = 32 from N_0]; decide
theorem sum_index : ∀ t : Fin cfg0.N, win0_8.index t 0 = 0 ∧ win0_8.index t 1 = 0 :=
  (by decide +kernel : ∀ t : Fin grid0.N, win0_8.index t 0 = 0 ∧ win0_8.index t 1 = 0)
theorem square_index : ∀ t : Fin cfg0.N, win0_9.index t 0 = 0 ∧ win0_9.index t 1 = 0 :=
  (by decide +kernel : ∀ t : Fin grid0.N, win0_9.index t 0 = 0 ∧ win0_9.index t 1 = 0)

/-- The column sums, as one row. -/
def sumRow : Vec Ideal S1x1024 .f32 := fun j => sums m c (32 - 1) (j 1)

/-- The one write-back, after the last point, writes the row. -/
theorem flushed_sum (t : Fin cfg0.N) (hf : (cfg0.win 8).flush t = true) :
    (dats m 0 c).flushed 8 t = ((cfg0.win 8).blk t).view.read (Elt Ideal) (sumRow m c) := by
  have hN : cfg0.N = 32 := N_0
  have h3 : t.val = 32 - 1 := by have := (flush0_8 t).mp hf; have := t.isLt; omega
  rw [Value.flushed8]
  funext j
  obtain ⟨r, k, rfl⟩ : ∃ (r : Fin 1) (k : Fin 1024), j = ix2 r k := ⟨j 0, j 1, eq_ix2 (n0 := 1) (n1 := 1024) j⟩
  obtain rfl : r = 0 := Subsingleton.elim _ _
  rw [View.read_apply]
  refine ((outs_eq m c t.val t.isLt).2.1 k).trans ?_
  rw [h3]
  show sums m c (32 - 1) k = sums m c (32 - 1) _
  congr 1
  apply Fin.ext
  show k.val = win0_8.index t 1 * 1024 + 1 * k.val; rw [(sum_index t).2]; omega

/-- Its block is the whole row. -/
theorem cover_sum (i : S1x1024.Idx) : ∃ t : Fin cfg0.N, (cfg0.win 8).flush t = true ∧ i ∈ ((cfg0.win 8).blk t).view.set := by
  have h0 : (i 0 : Nat) < 1 := (i 0).isLt
  have h1 : (i 1 : Nat) < 1024 := (i 1).isLt
  obtain ⟨t, ht⟩ : ∃ t : Fin cfg0.N, t.val = 32 - 1 := ⟨⟨_, last_lt⟩, rfl⟩
  refine ⟨t, (flush0_8 t).mpr (by rw [ht]), ?_⟩
  show i ∈ ((View.whole main_v3_1).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1
              rw [(sum_index t).1]; omega
  | ⟨1, _⟩ => show win0_8.index t 1 * 1024 ≤ (i 1 : Nat) ∧ (i 1 : Nat) < win0_8.index t 1 * 1024 + 1024
              rw [(sum_index t).2]; omega

/-- The second result array ends holding the layer's column sums. -/
theorem sum_apply (l : Fin 1024) : (dats m 0 c).arrAt 8 cfg0.N (ix2 0 l) = ∑ i : Fin 16384, layer m c i l := by
  rw [(dats m 0 c).arrAt_eq_of_cover 8 (sumRow m c) (flushed_sum m c) cover_sum]
  show sums m c (32 - 1) l = _
  rw [sums, sum_blocks_fin (by decide)]

/-- The column sums of squares, as one row. -/
def squareRow : Vec Ideal S1x1024 .f32 := fun j => squares m c (32 - 1) (j 1)

/-- The one write-back, after the last point, writes the row. -/
theorem flushed_square (t : Fin cfg0.N) (hf : (cfg0.win 9).flush t = true) :
    (dats m 0 c).flushed 9 t = ((cfg0.win 9).blk t).view.read (Elt Ideal) (squareRow m c) := by
  have hN : cfg0.N = 32 := N_0
  have h3 : t.val = 32 - 1 := by have := (flush0_9 t).mp hf; have := t.isLt; omega
  rw [Value.flushed9]
  funext j
  obtain ⟨r, k, rfl⟩ : ∃ (r : Fin 1) (k : Fin 1024), j = ix2 r k := ⟨j 0, j 1, eq_ix2 (n0 := 1) (n1 := 1024) j⟩
  obtain rfl : r = 0 := Subsingleton.elim _ _
  rw [View.read_apply]
  refine ((outs_eq m c t.val t.isLt).2.2 k).trans ?_
  rw [h3]
  show squares m c (32 - 1) k = squares m c (32 - 1) _
  congr 1
  apply Fin.ext
  show k.val = win0_9.index t 1 * 1024 + 1 * k.val; rw [(square_index t).2]; omega

/-- Its block is the whole row. -/
theorem cover_square (i : S1x1024.Idx) : ∃ t : Fin cfg0.N, (cfg0.win 9).flush t = true ∧ i ∈ ((cfg0.win 9).blk t).view.set := by
  have h0 : (i 0 : Nat) < 1 := (i 0).isLt
  have h1 : (i 1 : Nat) < 1024 := (i 1).isLt
  obtain ⟨t, ht⟩ : ∃ t : Fin cfg0.N, t.val = 32 - 1 := ⟨⟨_, last_lt⟩, rfl⟩
  refine ⟨t, (flush0_9 t).mpr (by rw [ht]), ?_⟩
  show i ∈ ((View.whole main_v3_2).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1
              rw [(square_index t).1]; omega
  | ⟨1, _⟩ => show win0_9.index t 1 * 1024 ≤ (i 1 : Nat) ∧ (i 1 : Nat) < win0_9.index t 1 * 1024 + 1024
              rw [(square_index t).2]; omega

/-- The third result array ends holding the layer's column sums of squares. -/
theorem square_apply (l : Fin 1024) : (dats m 0 c).arrAt 9 cfg0.N (ix2 0 l) = ∑ i : Fin 16384, layer m c i l * layer m c i l := by
  rw [(dats m 0 c).arrAt_eq_of_cover 9 (squareRow m c) (flushed_square m c) cover_square]
  show squares m c (32 - 1) l = _
  rw [squares, sum_blocks_fin (by decide)]

end Cert.KernelIdeal.Hand
-- ==== Proof.LayerReference.lean ====
module
public import proofs.«01_k».proof.Proof.BatchNorm
public import proofs.«01_k».proof.Proof.Gen.ReferenceIdeal.Run
@[expose] public section
set_option maxRecDepth 16384
noncomputable section
open Idealize.ShloMosaic Idealize.ShloMosaic.TcCoe Idealize.SL.Sem

/-! # What the reference of the linear layer leaves (16384 rows) -/

namespace Cert.ReferenceIdeal.Hand
open Cert.ReferenceIdeal Cert.ReferenceIdeal.Gen Cert.BatchNorm
variable (m : (ℓ : Loc nD τ sig) → Buf (Elt Ideal) ℓ) (ρ : Dev nD → PrngReg)

/-- The reference's entry at row `i` and column `l`: the plain normalisation of the row times the weights' column, plus
    the bias, cut at 0. -/
def layer (c : Dev nD) (i : Fin 16384) (l : Fin 1024) : EReal :=
  max ((∑ k : Fin 1024, plain (Ideal.ofBits .f32 1182793728#32) (Ideal.ofBits .f32 925353388#32)
      (fun i : Fin 16384 => m ((c.tc : Thread nD τ).loc main_arg0) (ix2 i k))
      (m ((c.tc : Thread nD τ).loc main_arg3) (ix1 k)) (m ((c.tc : Thread nD τ).loc main_arg4) (ix1 k))
      (m ((c.tc : Thread nD τ).loc main_arg0) (ix2 i k)) * m ((c.tc : Thread nD τ).loc main_arg5) (ix2 k l))
    + m ((c.tc : Thread nD τ).loc main_arg6) (ix1 l)) 0

/-- The run: the layer, its column sums and its column sums of squares; the arguments are unchanged. -/
theorem run_layer : θ_run defs (onTc (τ := τ) (main (F := Ideal))) ⟨m, fun _ => 0, ρ⟩ fun r => ∀ c : Dev nD,
      (∀ (i : Fin 16384) (l : Fin 1024), r.2.mem ((c.tc : Thread nD τ).loc main_v23) (ix2 i l) = layer m c i l)
      ∧ (∀ l : Fin 1024, r.2.mem ((c.tc : Thread nD τ).loc main_v25) (ix2 0 l) = ∑ i : Fin 16384, layer m c i l)
      ∧ (∀ l : Fin 1024, r.2.mem ((c.tc : Thread nD τ).loc main_v28) (ix2 0 l) = ∑ i : Fin 16384, layer m c i l * layer m c i l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.ReferenceIdeal.Value.run (F := Ideal) m ρ)
  obtain ⟨h1, h2, h3, h4⟩ := h c
  refine ⟨fun i l => ?_, fun l => ?_, fun l => ?_, h4⟩
  · rw [h1]; clear h1 h2 h3 h4
    pointwise
    simp only [zero_word, sub_zero, rows_pos_16384, if_true]
    rfl
  · rw [h2]; clear h1 h2 h3 h4
    pointwise
    simp only [zero_word, sub_zero, rows_pos_16384, if_true]
    rfl
  · rw [h3]; clear h1 h2 h3 h4
    unfold Cert.ReferenceIdeal.Value.res_main_v28
    pointwise
    simp only [zero_word, sub_zero, rows_pos_16384, if_true]
    rfl

end Cert.ReferenceIdeal.Hand
-- ==== Proof.LayerClaim.lean ====
module
public import proofs.«01_k».proof.Defs
public import proofs.«01_k».proof.Proof.Layer
public import proofs.«01_k».proof.Proof.LayerReference
public import Idealize.ShloMosaic.Lib.ReduceAll
@[expose] public section
set_option maxRecDepth 16384
noncomputable section
open Idealize.ShloMosaic Idealize.ShloMosaic.TcCoe Idealize.SL.Sem

/-! # The linear layer's kernel computes its reference (16384 rows) -/

namespace Cert.Layer
open Cert.BatchNorm

variable [hP : Cert.Pre_linear_bn_pre.Facts]

open Cert.Pre_linear_bn_pre in
/-- The precondition read: the activations, the factors and the shifts are finite, and the two rows are the
    activations' exact column sums and column sums of squares. -/
theorem pre_facts {h : FVec Ideal S16384x1024 .f32} {s ss : FVec Ideal S1x1024 .f32} {g be : FVec Ideal S1024 .f32}
    {w : FVec Ideal S1024x1024 .f32} {b : FVec Ideal S1024 .f32}
    (e : Cert.Pre_linear_bn_pre.fn (F := Ideal) h s ss g be w b = fun _ => 1#1) :
    (∀ (i : Fin 16384) (k : Fin 1024), ∃ r : ℝ, h (ix2 i k) = (r : EReal)) ∧ (∀ k : Fin 1024, ∃ r : ℝ, g (ix1 k) = (r : EReal))
      ∧ (∀ k : Fin 1024, ∃ r : ℝ, be (ix1 k) = (r : EReal))
      ∧ (∀ k : Fin 1024, s (ix2 0 k) = ∑ i : Fin 16384, h (ix2 i k))
      ∧ ∀ k : Fin 1024, ss (ix2 0 k) = ∑ i : Fin 16384, h (ix2 i k) * h (ix2 i k) := by
  have e := congrFun e ix0
  unfold fn fn_part1 at e
  dsimp only at e
  obtain ⟨e, e'⟩ := IntOp.andi_eq_one.1 e
  obtain ⟨es, ess⟩ := IntOp.andi_eq_one.1 e'
  obtain ⟨e, eb⟩ := IntOp.andi_eq_one.1 e
  obtain ⟨e, eg⟩ := IntOp.andi_eq_one.1 e
  obtain ⟨-, eh⟩ := IntOp.andi_eq_one.1 e
  refine ⟨fun i k => real_of_abs_lt ?_, fun k => real_of_abs_lt ?_, fun k => real_of_abs_lt ?_, fun k => ?_, fun k => ?_⟩
  · have := Host.reduce_andi_all _ _ _ _ _ eh (ix2 i k)
    pointwise at this
    rw [inf_f32] at this
    exact ofBool_one this
  · have := Host.reduce_andi_all _ _ _ _ _ eg (ix1 k)
    pointwise at this
    rw [inf_f32] at this
    exact ofBool_one this
  · have := Host.reduce_andi_all _ _ _ _ _ eb (ix1 k)
    pointwise at this
    rw [inf_f32] at this
    exact ofBool_one this
  · have := Host.reduce_andi_all _ _ _ _ _ es (ix2 0 k)
    pointwise at this
    exact ofBool_one this
  · have := Host.reduce_andi_all _ _ _ _ _ ess (ix2 0 k)
    pointwise at this
    exact ofBool_one this

variable [hK : Cert.KernelIdeal.Facts] [hR : Cert.ReferenceIdeal.Facts]

/-- On finite activations with their exact sums, the kernel's layer is the reference's. -/
theorem layer_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hpre : Cert.Pre_KernelIdeal_linear_bn_pre m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (i : Fin 16384) (l : Fin 1024) : Cert.KernelIdeal.Hand.layer m c i l = Cert.ReferenceIdeal.Hand.layer m' c i l := by
  obtain ⟨fh, fg, fb, hs, hss⟩ := pre_facts (hpre c)
  unfold Cert.KernelIdeal.Hand.layer Cert.ReferenceIdeal.Hand.layer
  rw [h0, h3, h4, h5, h6]
  congr 2
  refine Finset.sum_congr rfl fun k _ => ?_
  congr 1
  exact folded_eq_plain (n := 16384) (by decide) (rows_16384.trans (by norm_num)) (inv_16384.trans (by norm_num)) eps_real (hs k) (hss k)
    (fun i => fh i k) (fg k) (fb k) i

/-- The kernel's three results are the reference's: the layer, its column sums and its column sums of squares. -/
theorem algebraic : Cert.algebraic_KernelIdeal_ReferenceIdeal_pre_linear_bn_pre := by
  intro m ρ m' ρ' hpre hagree
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, Cert.KernelIdeal.Value.run_blocks m ρ, ?_⟩
  refine (θ_run Cert.ReferenceIdeal.defs _ _).mono (fun r h c => ?_) (Cert.ReferenceIdeal.Hand.run_layer m' ρ')
  obtain ⟨h1, h2, h3, h4⟩ := h c
  obtain ⟨a0, -, -, a3, a4, a5, a6⟩ := hagree c
  have key := layer_eq hpre c a0 a3 a4 a5 a6
  refine ⟨?_, ?_, ?_, h4⟩
  · funext j
    obtain ⟨i, l, rfl⟩ : ∃ (i : Fin 16384) (l : Fin 1024), j = ix2 i l := ⟨j 0, j 1, eq_ix2 (n0 := 16384) (n1 := 1024) j⟩
    exact (h1 i l).trans ((key i l).symm.trans (Cert.KernelIdeal.Hand.out_apply m c i l).symm)
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    refine (h2 l).trans (Eq.trans ?_ (Cert.KernelIdeal.Hand.sum_apply m c l).symm)
    simp only [key]
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    refine (h3 l).trans (Eq.trans ?_ (Cert.KernelIdeal.Hand.square_apply m c l).symm)
    simp only [key]

end Cert.Layer
-- ==== Proof.Layer1.lean ====
module
public import proofs.«01_k».proof.Proof.BatchNorm
public import proofs.«01_k».proof.Proof.Gen.Kernel1Ideal.Value
public import Idealize.ShloMosaic.Lib.Pipeline.Value
public import Idealize.ShloMosaic.Lib.StableHlo.ReadAt
public import Idealize.ShloMosaic.Lib.Tactic
@[expose] public section
set_option maxRecDepth 16384
noncomputable section
open Idealize.ShloMosaic Idealize.ShloMosaic.TcCoe Idealize.SL.Sem
open Idealize.ShloMosaic.Pipeline (Dat)

/-! # What the fused linear layer with a skip input leaves in its three result arrays (1024 rows) -/

namespace Cert.Kernel1Ideal.Hand

open Cert.Kernel1Ideal Cert.Kernel1Ideal.Gen Cert.BatchNorm

theorem hz : (![0, 0] : Fin 2 → Nat) = fun _ => 0 := funext fun a => by fin_cases a <;> rfl

/-! ## One grid point -/

section Point
variable {F : FTy → Type} [FloatOps F]
variable (c : Dev nD) (i : grid0.Coords)
  (a1 : Memref sig .tc .vmem S512x2048 .bf16) (h1 : a1.IsWhole) (a2 : Memref sig .tc .vmem S3072x1024 .f32) (h2 : a2.IsWhole)
  (a3 : Memref sig .tc .vmem S1x1024 .f32) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (a7 : Memref sig .tc .vmem S1x1024 .f32) (h7 : a7.IsWhole)
  (x : Vec F S512x2048 .bf16) (w : Vec F S3072x1024 .f32) (b : Vec F S1x1024 .f32) (y : Vec F S512x1024 .f32) (p q : Vec F S1x1024 .f32)

/-- The weights' rows that meet the interpolated features. -/
abbrev top (w : Vec F S3072x1024 .f32) : Vec F S2048x1024 .f32 := View.ld w (Rect.unit (s := S3072x1024) ![0, 0] S2048x1024.size inb_S3072x1024_S2048x1024_0_0)
/-- The weights' rows that meet the skip features. -/
abbrev tail (w : Vec F S3072x1024 .f32) : Vec F S1024x1024 .f32 := View.ld w (Rect.unit (s := S3072x1024) ![2048, 0] S1024x1024.size inb_S3072x1024_S1024x1024_2048_0)

/-- The first point stores the layer's block. -/
theorem first_block (hc0 : cond0_0 i) (hc1 : ¬cond0_1 i) :
    out0_A_4 c i a1 h1 a2 h2 a3 h3 a4 h4 a5 h5 a6 h6 a7 h7 hc0 hc1 x w b y = k0_pay1 x (top w) y (tail w) b := by
  unfold out0_A_4
  rw [View.read_writes_eq_canon _ _ _ (cover0_A_4 c i a1 h1 a2 h2 a3 h3 a4 h4 a5 h5 a6 h6 a7 h7 hc0 hc1 x w b y)]
  unfold kernelRun0_A
  dsimp only
  sl_unfold_words
  rw [View.canon_unit_zero hz]
  simp only [View.readAt_eq_ld, h1.read_unread, h2.read_unread, h3.read_unread, h4.read_unread, View.ld_unit_zero (S := S512x2048) hz, View.ld_unit_zero (S := S512x1024) hz, View.ld_unit_zero (S := S1x1024) hz]

/-- The first point stores the block's column sums. -/
theorem first_sum (hc0 : cond0_0 i) (hc1 : ¬cond0_1 i) :
    out0_A_5 c i a1 h1 a2 h2 a3 h3 a4 h4 a5 h5 a6 h6 a7 h7 hc0 hc1 x w b y = k0_pay2 x (top w) y (tail w) b := by
  unfold out0_A_5
  rw [View.read_writes_eq_canon _ _ _ (cover0_A_5 c i a1 h1 a2 h2 a3 h3 a4 h4 a5 h5 a6 h6 a7 h7 hc0 hc1 x w b y)]
  unfold kernelRun0_A
  dsimp only
  sl_unfold_words
  rw [View.canon_unit_zero hz]
  simp only [View.readAt_eq_ld, h1.read_unread, h2.read_unread, h3.read_unread, h4.read_unread, View.ld_unit_zero (S := S512x2048) hz, View.ld_unit_zero (S := S512x1024) hz, View.ld_unit_zero (S := S1x1024) hz]

/-- The first point stores the column sums of the block's squares. -/
theorem first_square (hc0 : cond0_0 i) (hc1 : ¬cond0_1 i) :
    out0_A_6 c i a1 h1 a2 h2 a3 h3 a4 h4 a5 h5 a6 h6 a7 h7 hc0 hc1 x w b y = k0_pay3 x (top w) y (tail w) b := by
  unfold out0_A_6
  rw [View.read_writes_eq_canon _ _ _ (cover0_A_6 c i a1 h1 a2 h2 a3 h3 a4 h4 a5 h5 a6 h6 a7 h7 hc0 hc1 x w b y)]
  unfold kernelRun0_A
  dsimp only
  sl_unfold_words
  rw [View.canon_unit_zero hz]
  simp only [View.readAt_eq_ld, h1.read_unread, h2.read_unread, h3.read_unread, h4.read_unread, View.ld_unit_zero (S := S512x2048) hz, View.ld_unit_zero (S := S512x1024) hz, View.ld_unit_zero (S := S1x1024) hz]

/-- A later point stores the layer's block. -/
theorem later_block (hc0 : ¬cond0_0 i) (hc1 : cond0_1 i) :
    out0_B_4 c i a1 h1 a2 h2 a3 h3 a4 h4 a5 h5 a6 h6 a7 h7 hc0 hc1 x w b y p q = k0_pay1 x (top w) y (tail w) b := by
  unfold out0_B_4
  rw [View.read_writes_eq_canon _ _ _ (cover0_B_4 c i a1 h1 a2 h2 a3 h3 a4 h4 a5 h5 a6 h6 a7 h7 hc0 hc1 x w b y p q)]
  unfold kernelRun0_B
  dsimp only
  sl_unfold_words
  rw [View.canon_unit_zero hz]
  simp only [View.readAt_eq_ld, h1.read_unread, h2.read_unread, h3.read_unread, h4.read_unread, View.ld_unit_zero (S := S512x2048) hz, View.ld_unit_zero (S := S512x1024) hz, View.ld_unit_zero (S := S1x1024) hz]

/-- A later point adds the block's column sums to what the point before left. -/
theorem later_sum (hc0 : ¬cond0_0 i) (hc1 : cond0_1 i) :
    out0_B_5 c i a1 h1 a2 h2 a3 h3 a4 h4 a5 h5 a6 h6 a7 h7 hc0 hc1 x w b y p q = k0_pay4 x (top w) y (tail w) b p := by
  unfold out0_B_5
  rw [View.read_writes_eq_canon _ _ _ (cover0_B_5 c i a1 h1 a2 h2 a3 h3 a4 h4 a5 h5 a6 h6 a7 h7 hc0 hc1 x w b y p q)]
  unfold kernelRun0_B
  dsimp only
  sl_unfold_words
  rw [View.canon_unit_zero hz]
  simp only [View.readAt_eq_ld, h1.read_unread, h2.read_unread, h3.read_unread, h4.read_unread, h6.read_unread, View.ld_unit_zero (S := S512x2048) hz, View.ld_unit_zero (S := S512x1024) hz, View.ld_unit_zero (S := S1x1024) hz]

/-- A later point adds the column sums of the block's squares to what the point before left. -/
theorem later_square (hc0 : ¬cond0_0 i) (hc1 : cond0_1 i) :
    out0_B_6 c i a1 h1 a2 h2 a3 h3 a4 h4 a5 h5 a6 h6 a7 h7 hc0 hc1 x w b y p q = k0_pay5 x (top w) y (tail w) b q := by
  unfold out0_B_6
  rw [View.read_writes_eq_canon _ _ _ (cover0_B_6 c i a1 h1 a2 h2 a3 h3 a4 h4 a5 h5 a6 h6 a7 h7 hc0 hc1 x w b y p q)]
  unfold kernelRun0_B
  dsimp only
  sl_unfold_words
  rw [View.canon_unit_zero hz]
  simp only [View.readAt_eq_ld, h1.read_unread, h2.read_unread, h3.read_unread, h4.read_unread, h7.read_unread, View.ld_unit_zero (S := S512x2048) hz, View.ld_unit_zero (S := S512x1024) hz, View.ld_unit_zero (S := S1x1024) hz]

end Point

/-! ## The blocks the windows fetch -/

section Fetch
variable {F : FTy → Type} [FloatOps F]
variable (m : (ℓ : Loc nD τ sig) → Buf (Elt F) ℓ) (c : Dev nD)

theorem row_index : ∀ t : Fin cfg0.N, win0_0.index t 0 = t.val ∧ win0_0.index t 1 = 0 :=
  (by decide +kernel : ∀ t : Fin grid0.N, win0_0.index t 0 = t.val ∧ win0_0.index t 1 = 0)
theorem skip_index : ∀ t : Fin cfg0.N, win0_3.index t 0 = t.val ∧ win0_3.index t 1 = 0 :=
  (by decide +kernel : ∀ t : Fin grid0.N, win0_3.index t 0 = t.val ∧ win0_3.index t 1 = 0)
theorem out_index : ∀ t : Fin cfg0.N, win0_4.index t 0 = t.val ∧ win0_4.index t 1 = 0 :=
  (by decide +kernel : ∀ t : Fin grid0.N, win0_4.index t 0 = t.val ∧ win0_4.index t 1 = 0)
theorem w_index : ∀ t : Fin cfg0.N, win0_1.index t 0 = 0 ∧ win0_1.index t 1 = 0 :=
  (by decide +kernel : ∀ t : Fin grid0.N, win0_1.index t 0 = 0 ∧ win0_1.index t 1 = 0)
theorem b_index : ∀ t : Fin cfg0.N, win0_2.index t 0 = 0 ∧ win0_2.index t 1 = 0 :=
  (by decide +kernel : ∀ t : Fin grid0.N, win0_2.index t 0 = 0 ∧ win0_2.index t 1 = 0)

theorem row_lt (t : Fin cfg0.N) (r : Fin 512) : 512 * t.val + r.val < 1024 := by
  have := t.isLt; have hN : cfg0.N = 2 := N_0; omega

/-- Point `t`'s block of the interpolated features is rows `512 t …` of them. -/
theorem x_block (t : Fin cfg0.N) (r : Fin 512) (k : Fin 2048) :
    (iblk m c 0 t : Vec F S512x2048 .bf16) (ix2 r k) = m ((c.tc : Thread nD τ).loc main_arg0) (ix2 ⟨512 * t.val + r.val, row_lt t r⟩ k) := by
  unfold iblk
  rw [View.read_apply]
  show V m c main_arg0 _ = _
  rw [V_main_arg0]
  congr 1; funext a; apply Fin.ext
  match a with
  | ⟨0, _⟩ => show win0_0.index t 0 * 512 + 1 * r.val = 512 * t.val + r.val; rw [(row_index t).1]; omega
  | ⟨1, _⟩ => show win0_0.index t 1 * 2048 + 1 * k.val = k.val; rw [(row_index t).2]; omega

/-- Point `t`'s block of the skip features is rows `512 t …` of them. -/
theorem y_block (t : Fin cfg0.N) (r : Fin 512) (k : Fin 1024) :
    (iblk m c 3 t : Vec F S512x1024 .f32) (ix2 r k) = m ((c.tc : Thread nD τ).loc main_arg1) (ix2 ⟨512 * t.val + r.val, row_lt t r⟩ k) := by
  unfold iblk
  rw [View.read_apply]
  show V m c main_arg1 _ = _
  rw [V_main_arg1]
  congr 1; funext a; apply Fin.ext
  match a with
  | ⟨0, _⟩ => show win0_3.index t 0 * 512 + 1 * r.val = 512 * t.val + r.val; rw [(skip_index t).1]; omega
  | ⟨1, _⟩ => show win0_3.index t 1 * 1024 + 1 * k.val = k.val; rw [(skip_index t).2]; omega

/-- Every point fetches the whole weight matrix. -/
theorem w_block (t : Fin cfg0.N) (r : Fin 3072) (k : Fin 1024) :
    (iblk m c 1 t : Vec F S3072x1024 .f32) (ix2 r k) = m ((c.tc : Thread nD τ).loc main_arg2) (ix2 r k) := by
  unfold iblk
  rw [View.read_apply]
  show V m c main_arg2 _ = _
  rw [V_main_arg2]
  congr 1; funext a; apply Fin.ext
  match a with
  | ⟨0, _⟩ => show win0_1.index t 0 * 3072 + 1 * r.val = r.val; rw [(w_index t).1]; omega
  | ⟨1, _⟩ => show win0_1.index t 1 * 1024 + 1 * k.val = k.val; rw [(w_index t).2]; omega

/-- The bias as the region finds it: the argument as one row. -/
theorem b_entry (k : Fin 1024) : (V m c main_v0 : Vec F S1x1024 .f32) (ix2 0 k) = m ((c.tc : Thread nD τ).loc main_arg3) (ix1 k) := by
  unfold V
  after_reads_at

/-- Every point fetches the bias row. -/
theorem b_block (t : Fin cfg0.N) (k : Fin 1024) :
    (iblk m c 2 t : Vec F S1x1024 .f32) (ix2 0 k) = m ((c.tc : Thread nD τ).loc main_arg3) (ix1 k) := by
  rw [← b_entry m c k]
  unfold iblk
  rw [View.read_apply]
  show V m c main_v0 _ = V m c main_v0 _
  congr 1; funext a; apply Fin.ext
  match a with
  | ⟨0, _⟩ => show win0_2.index t 0 * 1 + 1 * 0 = 0; rw [(b_index t).1]
  | ⟨1, _⟩ => show win0_2.index t 1 * 1024 + 1 * k.val = k.val; rw [(b_index t).2]; omega

end Fetch

/-! ## Over the extended reals -/

variable (m : (ℓ : Loc nD τ sig) → Buf (Elt Ideal) ℓ) (ρ : Dev nD → PrngReg) (c : Dev nD)

/-- The layer's entry at row `i` and column `l`: the row of interpolated features and the row of skip features, each
    times its part of the weights' column, plus the bias, cut at 0. -/
def layer (i : Fin 1024) (l : Fin 1024) : EReal :=
  skipEntry (kk := 3072) rfl (fun k : Fin 2048 => m ((c.tc : Thread nD τ).loc main_arg0) (ix2 i k))
    (fun k : Fin 1024 => m ((c.tc : Thread nD τ).loc main_arg1) (ix2 i k)) (fun k => m ((c.tc : Thread nD τ).loc main_arg2) (ix2 k l))
    (m ((c.tc : Thread nD τ).loc main_arg3) (ix1 l))

/-- The block point `t` computes. -/
abbrev block (t : Fin cfg0.N) : FVec Ideal S512x1024 .f32 :=
  k0_pay1 (iblk m c 0 t) (top (iblk m c 1 t)) (iblk m c 3 t) (tail (iblk m c 1 t)) (iblk m c 2 t)

theorem top_apply (w : Vec Ideal S3072x1024 .f32) (k : Fin 2048) (l : Fin 1024) : top w (ix2 k l) = w (ix2 ⟨k.val, by omega⟩ l) := by
  pointwise [top]
theorem tail_apply (w : Vec Ideal S3072x1024 .f32) (k : Fin 1024) (l : Fin 1024) : tail w (ix2 k l) = w (ix2 ⟨2048 + k.val, by omega⟩ l) := by
  pointwise [tail]

theorem top_block (t : Fin cfg0.N) (k : Fin 2048) (l : Fin 1024) :
    top (iblk m c 1 t) (ix2 k l) = m ((c.tc : Thread nD τ).loc main_arg2) (ix2 (⟨k.val, by omega⟩ : Fin 3072) l) :=
  (top_apply _ k l).trans (w_block m c t _ l)
theorem tail_block (t : Fin cfg0.N) (k : Fin 1024) (l : Fin 1024) :
    tail (iblk m c 1 t) (ix2 k l) = m ((c.tc : Thread nD τ).loc main_arg2) (ix2 (⟨2048 + k.val, by omega⟩ : Fin 3072) l) :=
  (tail_apply _ k l).trans (w_block m c t _ l)

/-- … read at an index, over any operands. -/
theorem pay1_apply (x : Vec Ideal S512x2048 .bf16) (u : Vec Ideal S2048x1024 .f32) (y : Vec Ideal S512x1024 .f32) (v : Vec Ideal S1024x1024 .f32)
    (b : Vec Ideal S1x1024 .f32) (r : Fin 512) (l : Fin 1024) : k0_pay1 (F := Ideal) x u y v b (ix2 r l)
      = max ((∑ k : Fin 2048, x (ix2 r k) * u (ix2 k l)) + (∑ k : Fin 1024, y (ix2 r k) * v (ix2 k l)) + b (ix2 0 l)) 0 := by
  pointwise [k0_pay1]

/-- … is rows `512 t …` of the layer. -/
theorem block_apply (t : Fin cfg0.N) (r : Fin 512) (l : Fin 1024) :
    block m c t (ix2 r l) = layer m c ⟨512 * t.val + r.val, row_lt t r⟩ l := by
  unfold block
  rw [pay1_apply]
  simp only [top_block, tail_block, x_block, y_block, b_block]
  rfl

/-- What point `n` leaves of the column sums. -/
def sums (n : Nat) (l : Fin 1024) : EReal := ∑ t ∈ Finset.range (n + 1), ∑ r : Fin 512, ext (fun i => layer m c i l) (512 * t + r.val)
/-- What point `n` leaves of the column sums of squares. -/
def squares (n : Nat) (l : Fin 1024) : EReal :=
  ∑ t ∈ Finset.range (n + 1), ∑ r : Fin 512, ext (fun i => layer m c i l * layer m c i l) (512 * t + r.val)

theorem block_ext (t : Fin cfg0.N) (r : Fin 512) (l : Fin 1024) : block m c t (ix2 r l) = ext (fun i => layer m c i l) (512 * t.val + r.val) := by
  rw [block_apply, ext, dif_pos (row_lt t r)]
theorem block_sq (t : Fin cfg0.N) (r : Fin 512) (l : Fin 1024) :
    block m c t (ix2 r l) * block m c t (ix2 r l) = ext (fun i => layer m c i l * layer m c i l) (512 * t.val + r.val) := by
  rw [block_apply, ext, dif_pos (row_lt t r)]

/-- The column sums of one block. -/
theorem pay2_apply (t : Fin cfg0.N) (l : Fin 1024) :
    k0_pay2 (iblk m c 0 t) (top (iblk m c 1 t)) (iblk m c 3 t) (tail (iblk m c 1 t)) (iblk m c 2 t) (ix2 0 l) = ∑ r : Fin 512, ext (fun i => layer m c i l) (512 * t.val + r.val) := by
  simp only [← block_ext]
  unfold k0_pay2
  show shapeCast S1x1024 (multiReduction (F := Ideal) .add [0] S1024 (block m c t) 0x00000000#32 reduces_S512x1024_S1024 (.inl rfl) rfl) _ (ix2 0 l) = _
  generalize block m c t = B
  pointwise
/-- The column sums of the squares of one block. -/
theorem pay3_apply (t : Fin cfg0.N) (l : Fin 1024) :
    k0_pay3 (iblk m c 0 t) (top (iblk m c 1 t)) (iblk m c 3 t) (tail (iblk m c 1 t)) (iblk m c 2 t) (ix2 0 l) = ∑ r : Fin 512, ext (fun i => layer m c i l * layer m c i l) (512 * t.val + r.val) := by
  simp only [← block_sq]
  unfold k0_pay3
  show shapeCast S1x1024 (multiReduction (F := Ideal) .add [0] S1024 (mulf (block m c t) (block m c t)) 0x00000000#32 reduces_S512x1024_S1024 (.inl rfl) rfl) _ (ix2 0 l) = _
  generalize block m c t = B
  pointwise

/-- A later point's sum is the old one plus the block's. -/
theorem pay4_apply (x : Vec Ideal S512x2048 .bf16) (u : Vec Ideal S2048x1024 .f32) (y : Vec Ideal S512x1024 .f32) (v : Vec Ideal S1024x1024 .f32)
    (b q : Vec Ideal S1x1024 .f32) (l : Fin 1024) : k0_pay4 (F := Ideal) x u y v b q (ix2 0 l) = q (ix2 0 l) + k0_pay2 (F := Ideal) x u y v b (ix2 0 l) := by
  unfold k0_pay4
  generalize k0_pay2 x u y v b = B
  pointwise
/-- A later point's sum of squares is the old one plus the block's. -/
theorem pay5_apply (x : Vec Ideal S512x2048 .bf16) (u : Vec Ideal S2048x1024 .f32) (y : Vec Ideal S512x1024 .f32) (v : Vec Ideal S1024x1024 .f32)
    (b q : Vec Ideal S1x1024 .f32) (l : Fin 1024) : k0_pay5 (F := Ideal) x u y v b q (ix2 0 l) = q (ix2 0 l) + k0_pay3 (F := Ideal) x u y v b (ix2 0 l) := by
  unfold k0_pay5
  generalize k0_pay3 x u y v b = B
  pointwise

/-- After point `n` the staging buffers hold the point's block and the sums so far. -/
theorem outs_eq : ∀ (n : ℕ) (h : n < cfg0.N), (outsAt0 m c n h).1 = block m c ⟨n, h⟩
    ∧ (∀ l, (outsAt0 m c n h).2.1 (ix2 0 l) = sums m c n l) ∧ ∀ l, (outsAt0 m c n h).2.2 (ix2 0 l) = squares m c n l
  | 0, h => by
    rw [outsAt0_A m c ⟨0, h⟩ rfl (by simp), first_block, first_sum, first_square]
    refine ⟨rfl, fun l => ?_, fun l => ?_⟩
    · dsimp only; rw [pay2_apply, sums, Finset.sum_range_one]
    · dsimp only; rw [pay3_apply, squares, Finset.sum_range_one]
  | n + 1, h => by
    have hN : cfg0.N = 2 := N_0
    obtain ⟨-, ih1, ih2⟩ := outs_eq n (Nat.lt_of_succ_lt h)
    rw [outsAt0_B m c ⟨n + 1, h⟩ (by dsimp only; omega) (by simp <;> omega), later_block, later_sum, later_square]
    refine ⟨rfl, fun l => ?_, fun l => ?_⟩
    · show k0_pay4 _ _ _ _ _ (outsAt0 m c n _).2.1 (ix2 0 l) = _
      rw [sums, Finset.sum_range_succ, ← sums, ← ih1, ← pay2_apply m c ⟨n + 1, h⟩]
      exact pay4_apply _ _ _ _ _ _ l
    · show k0_pay5 _ _ _ _ _ (outsAt0 m c n _).2.2 (ix2 0 l) = _
      rw [squares, Finset.sum_range_succ, ← squares, ← ih2, ← pay3_apply m c ⟨n + 1, h⟩]
      exact pay5_apply _ _ _ _ _ _ l

/-- The layer as one array. -/
def result : Vec Ideal S1024x1024 .f32 := fun j => layer m c (j 0) (j 1)

/-- Every point writes back its block of the layer. -/
theorem flushed_out (t : Fin cfg0.N) : (dats m 0 c).flushed 4 t = ((cfg0.win 4).blk t).view.read (Elt Ideal) (result m c) := by
  rw [Value.flushed4, (outs_eq m c t.val t.isLt).1]
  funext j
  obtain ⟨r, k, rfl⟩ : ∃ (r : Fin 512) (k : Fin 1024), j = ix2 r k := ⟨j 0, j 1, eq_ix2 (n0 := 512) (n1 := 1024) j⟩
  rw [View.read_apply]
  refine (block_apply m c t r k).trans ?_
  show layer m c _ _ = layer m c _ _
  congr 1
  · apply Fin.ext
    show 512 * t.val + r.val = win0_4.index t 0 * 512 + 1 * r.val; rw [(out_index t).1]; omega
  · apply Fin.ext
    show k.val = win0_4.index t 1 * 1024 + 1 * k.val; rw [(out_index t).2]; omega

/-- The blocks cover the first result array. -/
theorem cover_out (i : S1024x1024.Idx) : ∃ t : Fin cfg0.N, (cfg0.win 4).flush t = true ∧ i ∈ ((cfg0.win 4).blk t).view.set := by
  have hN : cfg0.N = 2 := N_0
  have h0 : (i 0 : Nat) < 1024 := (i 0).isLt
  have h1 : (i 1 : Nat) < 1024 := (i 1).isLt
  obtain ⟨t, ht⟩ : ∃ t : Fin cfg0.N, t.val = (i 0).val / 512 := ⟨⟨(i 0).val / 512, by omega⟩, rfl⟩
  refine ⟨t, flush0_4 t, ?_⟩
  show i ∈ ((View.whole main_v1_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [(out_index t).1, ht]; omega
  | ⟨1, _⟩ => show win0_4.index t 1 * 1024 ≤ (i 1 : Nat) ∧ (i 1 : Nat) < win0_4.index t 1 * 1024 + 1024
              rw [(out_index t).2]; omega

/-- The first result array ends holding the layer. -/
theorem out_apply (i : Fin 1024) (l : Fin 1024) : (dats m 0 c).arrAt 4 cfg0.N (ix2 i l) = layer m c i l :=
  congrFun ((dats m 0 c).arrAt_eq_of_cover 4 (result m c) (fun t _ => flushed_out m c t) cover_out) (ix2 i l)

theorem last_lt : 2 - 1 < cfg0.N := by rw [show cfg0.N = 2 from N_0]; decide
theorem sum_index : ∀ t : Fin cfg0.N, win0_5.index t 0 = 0 ∧ win0_5.index t 1 = 0 :=
  (by decide +kernel : ∀ t : Fin grid0.N, win0_5.index t 0 = 0 ∧ win0_5.index t 1 = 0)
theorem square_index : ∀ t : Fin cfg0.N, win0_6.index t 0 = 0 ∧ win0_6.index t 1 = 0 :=
  (by decide +kernel : ∀ t : Fin grid0.N, win0_6.index t 0 = 0 ∧ win0_6.index t 1 = 0)

/-- The column sums, as one row. -/
def sumRow : Vec Ideal S1x1024 .f32 := fun j => sums m c (2 - 1) (j 1)

/-- The one write-back, after the last point, writes the row. -/
theorem flushed_sum (t : Fin cfg0.N) (hf : (cfg0.win 5).flush t = true) :
    (dats m 0 c).flushed 5 t = ((cfg0.win 5).blk t).view.read (Elt Ideal) (sumRow m c) := by
  have hN : cfg0.N = 2 := N_0
  have h3 : t.val = 2 - 1 := by have := (flush0_5 t).mp hf; have := t.isLt; omega
  rw [Value.flushed5]
  funext j
  obtain ⟨r, k, rfl⟩ : ∃ (r : Fin 1) (k : Fin 1024), j = ix2 r k := ⟨j 0, j 1, eq_ix2 (n0 := 1) (n1 := 1024) j⟩
  obtain rfl : r = 0 := Subsingleton.elim _ _
  rw [View.read_apply]
  refine ((outs_eq m c t.val t.isLt).2.1 k).trans ?_
  rw [h3]
  show sums m c (2 - 1) k = sums m c (2 - 1) _
  congr 1
  apply Fin.ext
  show k.val = win0_5.index t 1 * 1024 + 1 * k.val; rw [(sum_index t).2]; omega

/-- Its block is the whole row. -/
theorem cover_sum (i : S1x1024.Idx) : ∃ t : Fin cfg0.N, (cfg0.win 5).flush t = true ∧ i ∈ ((cfg0.win 5).blk t).view.set := by
  have h0 : (i 0 : Nat) < 1 := (i 0).isLt
  have h1 : (i 1 : Nat) < 1024 := (i 1).isLt
  obtain ⟨t, ht⟩ : ∃ t : Fin cfg0.N, t.val = 2 - 1 := ⟨⟨_, last_lt⟩, rfl⟩
  refine ⟨t, (flush0_5 t).mpr (by rw [ht]), ?_⟩
  show i ∈ ((View.whole main_v1_1).slice (win0_5.rect t)).set
  rw [View.set_slice_whole, Rect.mem_set_unit]
  intro a
  match a with
  | ⟨0, _⟩ => show win0_5.index t 0 * 1 ≤ (i 0 : Nat) ∧ (i 0 : Nat) < win0_5.index t 0 * 1 + 1
              rw [(sum_index t).1]; omega
  | ⟨1, _⟩ => show win0_5.index t 1 * 1024 ≤ (i 1 : Nat) ∧ (i 1 : Nat) < win0_5.index t 1 * 1024 + 1024
              rw [(sum_index t).2]; omega

/-- The second result array ends holding the layer's column sums. -/
theorem sum_apply (l : Fin 1024) : (dats m 0 c).arrAt 5 cfg0.N (ix2 0 l) = ∑ i : Fin 1024, layer m c i l := by
  rw [(dats m 0 c).arrAt_eq_of_cover 5 (sumRow m c) (flushed_sum m c) cover_sum]
  show sums m c (2 - 1) l = _
  rw [sums, sum_blocks_fin (by decide)]

/-- The column sums of squares, as one row. -/
def squareRow : Vec Ideal S1x1024 .f32 := fun j => squares m c (2 - 1) (j 1)

/-- The one write-back, after the last point, writes the row. -/
theorem flushed_square (t : Fin cfg0.N) (hf : (cfg0.win 6).flush t = true) :
    (dats m 0 c).flushed 6 t = ((cfg0.win 6).blk t).view.read (Elt Ideal) (squareRow m c) := by
  have hN : cfg0.N = 2 := N_0
  have h3 : t.val = 2 - 1 := by have := (flush0_6 t).mp hf; have := t.isLt; omega
  rw [Value.flushed6]
  funext j
  obtain ⟨r, k, rfl⟩ : ∃ (r : Fin 1) (k : Fin 1024), j = ix2 r k := ⟨j 0, j 1, eq_ix2 (n0 := 1) (n1 := 1024) j⟩
  obtain rfl : r = 0 := Subsingleton.elim _ _
  rw [View.read_apply]
  refine ((outs_eq m c t.val t.isLt).2.2 k).trans ?_
  rw [h3]
  show squares m c (2 - 1) k = squares m c (2 - 1) _
  congr 1
  apply Fin.ext
  show k.val = win0_6.index t 1 * 1024 + 1 * k.val; rw [(square_index t).2]; omega

/-- Its block is the whole row. -/
theorem cover_square (i : S1x1024.Idx) : ∃ t : Fin cfg0.N, (cfg0.win 6).flush t = true ∧ i ∈ ((cfg0.win 6).blk t).view.set := by
  have h0 : (i 0 : Nat) < 1 := (i 0).isLt
  have h1 : (i 1 : Nat) < 1024 := (i 1).isLt
  obtain ⟨t, ht⟩ : ∃ t : Fin cfg0.N, t.val = 2 - 1 := ⟨⟨_, last_lt⟩, rfl⟩
  refine ⟨t, (flush0_6 t).mpr (by rw [ht]), ?_⟩
  show i ∈ ((View.whole main_v1_2).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1
              rw [(square_index t).1]; omega
  | ⟨1, _⟩ => show win0_6.index t 1 * 1024 ≤ (i 1 : Nat) ∧ (i 1 : Nat) < win0_6.index t 1 * 1024 + 1024
              rw [(square_index t).2]; omega

/-- The third result array ends holding the layer's column sums of squares. -/
theorem square_apply (l : Fin 1024) : (dats m 0 c).arrAt 6 cfg0.N (ix2 0 l) = ∑ i : Fin 1024, layer m c i l * layer m c i l := by
  rw [(dats m 0 c).arrAt_eq_of_cover 6 (squareRow m c) (flushed_square m c) cover_square]
  show squares m c (2 - 1) l = _
  rw [squares, sum_blocks_fin (by decide)]

end Cert.Kernel1Ideal.Hand
-- ==== Proof.LayerReference1.lean ====
module
public import proofs.«01_k».proof.Proof.BatchNorm
public import proofs.«01_k».proof.Proof.Gen.Reference1Ideal.Run
@[expose] public section
set_option maxRecDepth 16384
noncomputable section
open Idealize.ShloMosaic Idealize.ShloMosaic.TcCoe Idealize.SL.Sem

/-! # What the reference of the linear layer leaves (1024 rows) -/

namespace Cert.Reference1Ideal.Hand
open Cert.Reference1Ideal Cert.Reference1Ideal.Gen Cert.BatchNorm
variable (m : (ℓ : Loc nD τ sig) → Buf (Elt Ideal) ℓ) (ρ : Dev nD → PrngReg)

/-- The reference's entry at row `i` and column `l`: the row of interpolated features and the row of skip features,
    side by side, times the weights' column, plus the bias, cut at 0. -/
def layer (c : Dev nD) (i : Fin 1024) (l : Fin 1024) : EReal :=
  skipEntry (kk := 3072) rfl (fun k : Fin 2048 => m ((c.tc : Thread nD τ).loc main_arg0) (ix2 i k))
    (fun k : Fin 1024 => m ((c.tc : Thread nD τ).loc main_arg1) (ix2 i k)) (fun k => m ((c.tc : Thread nD τ).loc main_arg2) (ix2 k l))
    (m ((c.tc : Thread nD τ).loc main_arg3) (ix1 l))

/-- The run: the layer, its column sums and its column sums of squares; the arguments are unchanged. -/
theorem run_layer : θ_run defs (onTc (τ := τ) (main (F := Ideal))) ⟨m, fun _ => 0, ρ⟩ fun r => ∀ c : Dev nD,
      (∀ (i : Fin 1024) (l : Fin 1024), r.2.mem ((c.tc : Thread nD τ).loc main_v6) (ix2 i l) = layer m c i l)
      ∧ (∀ l : Fin 1024, r.2.mem ((c.tc : Thread nD τ).loc main_v8) (ix2 0 l) = ∑ i : Fin 1024, layer m c i l)
      ∧ (∀ l : Fin 1024, r.2.mem ((c.tc : Thread nD τ).loc main_v11) (ix2 0 l) = ∑ i : Fin 1024, layer m c i l * layer m c i l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference1Ideal.Value.run (F := Ideal) m ρ)
  obtain ⟨h1, h2, h3, h4⟩ := h c
  refine ⟨fun i l => ?_, fun l => ?_, fun l => ?_, h4⟩
  · rw [h1]; clear h1 h2 h3 h4
    pointwise
    rfl
  · rw [h2]; clear h1 h2 h3 h4
    pointwise
    rfl
  · rw [h3]; clear h1 h2 h3 h4
    pointwise
    rfl

end Cert.Reference1Ideal.Hand
-- ==== Proof.LayerClaim1.lean ====
module
public import proofs.«01_k».proof.Defs
public import proofs.«01_k».proof.Proof.Layer1
public import proofs.«01_k».proof.Proof.LayerReference1
public import Idealize.ShloMosaic.Lib.ReduceAll
@[expose] public section
set_option maxRecDepth 16384
noncomputable section
open Idealize.ShloMosaic Idealize.ShloMosaic.TcCoe Idealize.SL.Sem

/-! # The linear layer's kernel computes its reference (1024 rows) -/

namespace Cert.Layer1
open Cert.BatchNorm

variable [hK : Cert.Kernel1Ideal.Facts] [hR : Cert.Reference1Ideal.Facts]

/-- The kernel's three results are the reference's: the layer, its column sums and its column sums of squares. -/
theorem algebraic : Cert.algebraic_Kernel1Ideal_Reference1Ideal := by
  intro m ρ m' ρ' _ hagree
  refine ⟨fun c => (Cert.Kernel1Ideal.Gen.dats m 0 c).arrAt 4 Cert.Kernel1Ideal.cfg0.N, fun c => (Cert.Kernel1Ideal.Gen.dats m 0 c).arrAt 5 Cert.Kernel1Ideal.cfg0.N,
    fun c => (Cert.Kernel1Ideal.Gen.dats m 0 c).arrAt 6 Cert.Kernel1Ideal.cfg0.N, Cert.Kernel1Ideal.Value.run_blocks m ρ, ?_⟩
  refine (θ_run Cert.Reference1Ideal.defs _ _).mono (fun r h c => ?_) (Cert.Reference1Ideal.Hand.run_layer m' ρ')
  obtain ⟨h1, h2, h3, h4⟩ := h c
  obtain ⟨a0, a1, a2, a3⟩ := hagree c
  have key : ∀ (i : Fin 1024) (l : Fin 1024), Cert.Kernel1Ideal.Hand.layer m c i l = Cert.Reference1Ideal.Hand.layer m' c i l := fun i l => by
    unfold Cert.Kernel1Ideal.Hand.layer Cert.Reference1Ideal.Hand.layer
    rw [a0, a1, a2, a3]
  refine ⟨?_, ?_, ?_, h4⟩
  · funext j
    obtain ⟨i, l, rfl⟩ : ∃ (i : Fin 1024) (l : Fin 1024), j = ix2 i l := ⟨j 0, j 1, eq_ix2 (n0 := 1024) (n1 := 1024) j⟩
    exact (h1 i l).trans ((key i l).symm.trans (Cert.Kernel1Ideal.Hand.out_apply m c i l).symm)
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    refine (h2 l).trans (Eq.trans ?_ (Cert.Kernel1Ideal.Hand.sum_apply m c l).symm)
    simp only [key]
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    refine (h3 l).trans (Eq.trans ?_ (Cert.Kernel1Ideal.Hand.square_apply m c l).symm)
    simp only [key]

end Cert.Layer1
-- ==== Proof.Layer2.lean ====
module
public import proofs.«01_k».proof.Proof.BatchNorm
public import proofs.«01_k».proof.Proof.Gen.Kernel2Ideal.Value
public import Idealize.ShloMosaic.Lib.Pipeline.Value
public import Idealize.ShloMosaic.Lib.StableHlo.ReadAt
public import Idealize.ShloMosaic.Lib.Tactic
@[expose] public section
set_option maxRecDepth 16384
noncomputable section
open Idealize.ShloMosaic Idealize.ShloMosaic.TcCoe Idealize.SL.Sem
open Idealize.ShloMosaic.Pipeline (Dat)

/-! # What the fused linear layer with a normalised input leaves in its three result arrays (1024 rows) -/

namespace Cert.Kernel2Ideal.Hand

open Cert.Kernel2Ideal Cert.Kernel2Ideal.Gen Cert.BatchNorm

theorem hz : (![0, 0] : Fin 2 → Nat) = fun _ => 0 := funext fun a => by fin_cases a <;> rfl

/-! ## One grid point -/

section Point
variable {F : FTy → Type} [FloatOps F]
variable (c : Dev nD) (i : grid0.Coords)
  (a1 : Memref sig .tc .vmem S512x1024 .f32) (h1 : a1.IsWhole) (a2 : Memref sig .tc .vmem S1024x1024 .f32) (h2 : a2.IsWhole)
  (a3 : Memref sig .tc .vmem S1x1024 .f32) (h3 : a3.IsWhole) (a4 : Memref sig .tc .vmem S1x1024 .f32) (h4 : a4.IsWhole)
  (a5 : Memref sig .tc .vmem S1x1024 .f32) (h5 : a5.IsWhole) (a6 : Memref sig .tc .vmem S1x1024 .f32) (h6 : a6.IsWhole)
  (a7 : Memref sig .tc .vmem S1x1024 .f32) (h7 : a7.IsWhole) (a8 : Memref sig .tc .vmem S512x1024 .f32) (h8 : a8.IsWhole)
  (a9 : Memref sig .tc .vmem S1x1024 .f32) (h9 : a9.IsWhole) (a10 : Memref sig .tc .vmem S1x1024 .f32) (h10 : a10.IsWhole)
  (x : Vec F S512x1024 .f32) (w : Vec F S1024x1024 .f32) (b s ss g be : Vec F S1x1024 .f32) (p q : Vec F S1x1024 .f32)

/-- The first point stores the layer's block. -/
theorem first_block (hc0 : cond0_0 i) (hc1 : ¬cond0_1 i) :
    out0_A_7 c i a1 h1 a2 h2 a3 h3 a4 h4 a5 h5 a6 h6 a7 h7 a8 h8 a9 h9 a10 h10 hc0 hc1 x w b s ss g be = k0_pay4 x s ss g be w b := by
  unfold out0_A_7
  rw [View.read_writes_eq_canon _ _ _ (cover0_A_7 c i a1 h1 a2 h2 a3 h3 a4 h4 a5 h5 a6 h6 a7 h7 a8 h8 a9 h9 a10 h10 hc0 hc1 x w b s ss g be)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- The first point stores the block's column sums. -/
theorem first_sum (hc0 : cond0_0 i) (hc1 : ¬cond0_1 i) :
    out0_A_8 c i a1 h1 a2 h2 a3 h3 a4 h4 a5 h5 a6 h6 a7 h7 a8 h8 a9 h9 a10 h10 hc0 hc1 x w b s ss g be = k0_pay5 x s ss g be w b := by
  unfold out0_A_8
  rw [View.read_writes_eq_canon _ _ _ (cover0_A_8 c i a1 h1 a2 h2 a3 h3 a4 h4 a5 h5 a6 h6 a7 h7 a8 h8 a9 h9 a10 h10 hc0 hc1 x w b s ss g be)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- The first point stores the column sums of the block's squares. -/
theorem first_square (hc0 : cond0_0 i) (hc1 : ¬cond0_1 i) :
    out0_A_9 c i a1 h1 a2 h2 a3 h3 a4 h4 a5 h5 a6 h6 a7 h7 a8 h8 a9 h9 a10 h10 hc0 hc1 x w b s ss g be = k0_pay1 (k0_pay6 x s ss g be w b) := by
  unfold out0_A_9
  rw [View.read_writes_eq_canon _ _ _ (cover0_A_9 c i a1 h1 a2 h2 a3 h3 a4 h4 a5 h5 a6 h6 a7 h7 a8 h8 a9 h9 a10 h10 hc0 hc1 x w b s ss g be)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- A later point stores the layer's block. -/
theorem later_block (hc0 : ¬cond0_0 i) (hc1 : cond0_1 i) :
    out0_B_7 c i a1 h1 a2 h2 a3 h3 a4 h4 a5 h5 a6 h6 a7 h7 a8 h8 a9 h9 a10 h10 hc0 hc1 x w b s ss g be p q = k0_pay4 x s ss g be w b := by
  unfold out0_B_7
  rw [View.read_writes_eq_canon _ _ _ (cover0_B_7 c i a1 h1 a2 h2 a3 h3 a4 h4 a5 h5 a6 h6 a7 h7 a8 h8 a9 h9 a10 h10 hc0 hc1 x w b s ss g be p q)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- A later point adds the block's column sums to what the point before left. -/
theorem later_sum (hc0 : ¬cond0_0 i) (hc1 : cond0_1 i) :
    out0_B_8 c i a1 h1 a2 h2 a3 h3 a4 h4 a5 h5 a6 h6 a7 h7 a8 h8 a9 h9 a10 h10 hc0 hc1 x w b s ss g be p q = k0_pay2 (k0_pay5 x s ss g be w b) p := by
  unfold out0_B_8
  rw [View.read_writes_eq_canon _ _ _ (cover0_B_8 c i a1 h1 a2 h2 a3 h3 a4 h4 a5 h5 a6 h6 a7 h7 a8 h8 a9 h9 a10 h10 hc0 hc1 x w b s ss g be p q)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h9.read_unread, View.ld_unit_zero (S := S512x1024) hz, View.ld_unit_zero (S := S1024x1024) hz, View.ld_unit_zero (S := S1x1024) hz]

/-- A later point adds the column sums of the block's squares to what the point before left. -/
theorem later_square (hc0 : ¬cond0_0 i) (hc1 : cond0_1 i) :
    out0_B_9 c i a1 h1 a2 h2 a3 h3 a4 h4 a5 h5 a6 h6 a7 h7 a8 h8 a9 h9 a10 h10 hc0 hc1 x w b s ss g be p q = k0_pay3 (k0_pay6 x s ss g be w b) q := by
  unfold out0_B_9
  rw [View.read_writes_eq_canon _ _ _ (cover0_B_9 c i a1 h1 a2 h2 a3 h3 a4 h4 a5 h5 a6 h6 a7 h7 a8 h8 a9 h9 a10 h10 hc0 hc1 x w b s ss g be p q)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h10.read_unread, View.ld_unit_zero (S := S512x1024) hz, View.ld_unit_zero (S := S1024x1024) hz, View.ld_unit_zero (S := S1x1024) hz]

end Point

/-! ## The blocks the windows fetch -/

section Fetch
variable {F : FTy → Type} [FloatOps F]
variable (m : (ℓ : Loc nD τ sig) → Buf (Elt F) ℓ) (c : Dev nD)

theorem row_index : ∀ t : Fin cfg0.N, win0_0.index t 0 = t.val ∧ win0_0.index t 1 = 0 :=
  (by decide +kernel : ∀ t : Fin grid0.N, win0_0.index t 0 = t.val ∧ win0_0.index t 1 = 0)
theorem out_index : ∀ t : Fin cfg0.N, win0_7.index t 0 = t.val ∧ win0_7.index t 1 = 0 :=
  (by decide +kernel : ∀ t : Fin grid0.N, win0_7.index t 0 = t.val ∧ win0_7.index t 1 = 0)
theorem w_index : ∀ t : Fin cfg0.N, win0_1.index t 0 = 0 ∧ win0_1.index t 1 = 0 :=
  (by decide +kernel : ∀ t : Fin grid0.N, win0_1.index t 0 = 0 ∧ win0_1.index t 1 = 0)
theorem b_index : ∀ t : Fin cfg0.N, win0_2.index t 0 = 0 ∧ win0_2.index t 1 = 0 :=
  (by decide +kernel : ∀ t : Fin grid0.N, win0_2.index t 0 = 0 ∧ win0_2.index t 1 = 0)
theorem s_index : ∀ t : Fin cfg0.N, win0_3.index t 0 = 0 ∧ win0_3.index t 1 = 0 :=
  (by decide +kernel : ∀ t : Fin grid0.N, win0_3.index t 0 = 0 ∧ win0_3.index t 1 = 0)
theorem ss_index : ∀ t : Fin cfg0.N, win0_4.index t 0 = 0 ∧ win0_4.index t 1 = 0 :=
  (by decide +kernel : ∀ t : Fin grid0.N, win0_4.index t 0 = 0 ∧ win0_4.index t 1 = 0)
theorem g_index : ∀ t : Fin cfg0.N, win0_5.index t 0 = 0 ∧ win0_5.index t 1 = 0 :=
  (by decide +kernel : ∀ t : Fin grid0.N, win0_5.index t 0 = 0 ∧ win0_5.index t 1 = 0)
theorem be_index : ∀ t : Fin cfg0.N, win0_6.index t 0 = 0 ∧ win0_6.index t 1 = 0 :=
  (by decide +kernel : ∀ t : Fin grid0.N, win0_6.index t 0 = 0 ∧ win0_6.index t 1 = 0)

theorem row_lt (t : Fin cfg0.N) (r : Fin 512) : 512 * t.val + r.val < 1024 := by
  have := t.isLt; have hN : cfg0.N = 2 := N_0; omega

/-- Point `t`'s block of the activations is rows `512 t …` of them. -/
theorem x_block (t : Fin cfg0.N) (r : Fin 512) (k : Fin 1024) :
    (iblk m c 0 t : Vec F S512x1024 .f32) (ix2 r k) = m ((c.tc : Thread nD τ).loc main_arg0) (ix2 ⟨512 * t.val + r.val, row_lt t r⟩ k) := by
  unfold iblk
  rw [View.read_apply]
  show V m c main_arg0 _ = _
  rw [V_main_arg0]
  congr 1; funext a; apply Fin.ext
  match a with
  | ⟨0, _⟩ => show win0_0.index t 0 * 512 + 1 * r.val = 512 * t.val + r.val; rw [(row_index t).1]; omega
  | ⟨1, _⟩ => show win0_0.index t 1 * 1024 + 1 * k.val = k.val; rw [(row_index t).2]; omega

/-- Every point fetches the whole weight matrix. -/
theorem w_block (t : Fin cfg0.N) (r k : Fin 1024) :
    (iblk m c 1 t : Vec F S1024x1024 .f32) (ix2 r k) = m ((c.tc : Thread nD τ).loc main_arg5) (ix2 r k) := by
  unfold iblk
  rw [View.read_apply]
  show V m c main_arg5 _ = _
  rw [V_main_arg5]
  congr 1; funext a; apply Fin.ext
  match a with
  | ⟨0, _⟩ => show win0_1.index t 0 * 1024 + 1 * r.val = r.val; rw [(w_index t).1]; omega
  | ⟨1, _⟩ => show win0_1.index t 1 * 1024 + 1 * k.val = k.val; rw [(w_index t).2]; omega

/-- Every point fetches the row of column sums. -/
theorem s_block (t : Fin cfg0.N) (k : Fin 1024) :
    (iblk m c 3 t : Vec F S1x1024 .f32) (ix2 0 k) = m ((c.tc : Thread nD τ).loc main_arg1) (ix2 0 k) := by
  unfold iblk
  rw [View.read_apply]
  show V m c main_arg1 _ = _
  rw [V_main_arg1]
  congr 1; funext a; apply Fin.ext
  match a with
  | ⟨0, _⟩ => show win0_3.index t 0 * 1 + 1 * 0 = 0; rw [(s_index t).1]
  | ⟨1, _⟩ => show win0_3.index t 1 * 1024 + 1 * k.val = k.val; rw [(s_index t).2]; omega

/-- Every point fetches the row of column sums of squares. -/
theorem ss_block (t : Fin cfg0.N) (k : Fin 1024) :
    (iblk m c 4 t : Vec F S1x1024 .f32) (ix2 0 k) = m ((c.tc : Thread nD τ).loc main_arg2) (ix2 0 k) := by
  unfold iblk
  rw [View.read_apply]
  show V m c main_arg2 _ = _
  rw [V_main_arg2]
  congr 1; funext a; apply Fin.ext
  match a with
  | ⟨0, _⟩ => show win0_4.index t 0 * 1 + 1 * 0 = 0; rw [(ss_index t).1]
  | ⟨1, _⟩ => show win0_4.index t 1 * 1024 + 1 * k.val = k.val; rw [(ss_index t).2]; omega

/-- The bias as the region finds it: the argument as one row. -/
theorem b_entry (k : Fin 1024) : (V m c main_v0 : Vec F S1x1024 .f32) (ix2 0 k) = m ((c.tc : Thread nD τ).loc main_arg6) (ix1 k) := by
  unfold V
  after_reads_at
/-- The factor `g` as the region finds it: the argument as one row. -/
theorem g_entry (k : Fin 1024) : (V m c main_v1 : Vec F S1x1024 .f32) (ix2 0 k) = m ((c.tc : Thread nD τ).loc main_arg3) (ix1 k) := by
  unfold V
  after_reads_at
/-- The shift `be` as the region finds it: the argument as one row. -/
theorem be_entry (k : Fin 1024) : (V m c main_v2 : Vec F S1x1024 .f32) (ix2 0 k) = m ((c.tc : Thread nD τ).loc main_arg4) (ix1 k) := by
  unfold V
  after_reads_at

/-- Every point fetches the bias row. -/
theorem b_block (t : Fin cfg0.N) (k : Fin 1024) :
    (iblk m c 2 t : Vec F S1x1024 .f32) (ix2 0 k) = m ((c.tc : Thread nD τ).loc main_arg6) (ix1 k) := by
  rw [← b_entry m c k]
  unfold iblk
  rw [View.read_apply]
  show V m c main_v0 _ = V m c main_v0 _
  congr 1; funext a; apply Fin.ext
  match a with
  | ⟨0, _⟩ => show win0_2.index t 0 * 1 + 1 * 0 = 0; rw [(b_index t).1]
  | ⟨1, _⟩ => show win0_2.index t 1 * 1024 + 1 * k.val = k.val; rw [(b_index t).2]; omega
/-- Every point fetches the row of factors `g`. -/
theorem g_block (t : Fin cfg0.N) (k : Fin 1024) :
    (iblk m c 5 t : Vec F S1x1024 .f32) (ix2 0 k) = m ((c.tc : Thread nD τ).loc main_arg3) (ix1 k) := by
  rw [← g_entry m c k]
  unfold iblk
  rw [View.read_apply]
  show V m c main_v1 _ = V m c main_v1 _
  congr 1; funext a; apply Fin.ext
  match a with
  | ⟨0, _⟩ => show win0_5.index t 0 * 1 + 1 * 0 = 0; rw [(g_index t).1]
  | ⟨1, _⟩ => show win0_5.index t 1 * 1024 + 1 * k.val = k.val; rw [(g_index t).2]; omega
/-- Every point fetches the row of shifts `be`. -/
theorem be_block (t : Fin cfg0.N) (k : Fin 1024) :
    (iblk m c 6 t : Vec F S1x1024 .f32) (ix2 0 k) = m ((c.tc : Thread nD τ).loc main_arg4) (ix1 k) := by
  rw [← be_entry m c k]
  unfold iblk
  rw [View.read_apply]
  show V m c main_v2 _ = V m c main_v2 _
  congr 1; funext a; apply Fin.ext
  match a with
  | ⟨0, _⟩ => show win0_6.index t 0 * 1 + 1 * 0 = 0; rw [(be_index t).1]
  | ⟨1, _⟩ => show win0_6.index t 1 * 1024 + 1 * k.val = k.val; rw [(be_index t).2]; omega

end Fetch

/-! ## Over the extended reals -/

variable (m : (ℓ : Loc nD τ sig) → Buf (Elt Ideal) ℓ) (ρ : Dev nD → PrngReg) (c : Dev nD)

/-- The layer's entry at row `i` and column `l`: the folded normalisation of the row times the weights' column, plus
    the bias, cut at 0. -/
def layer (i : Fin 1024) (l : Fin 1024) : EReal :=
  max ((∑ k : Fin 1024, folded (Ideal.ofBits .f32 981467136#32) (Ideal.ofBits .f32 925353388#32)
      (m ((c.tc : Thread nD τ).loc main_arg1) (ix2 0 k)) (m ((c.tc : Thread nD τ).loc main_arg2) (ix2 0 k))
      (m ((c.tc : Thread nD τ).loc main_arg3) (ix1 k)) (m ((c.tc : Thread nD τ).loc main_arg4) (ix1 k))
      (m ((c.tc : Thread nD τ).loc main_arg0) (ix2 i k)) * m ((c.tc : Thread nD τ).loc main_arg5) (ix2 k l))
    + m ((c.tc : Thread nD τ).loc main_arg6) (ix1 l)) 0

/-- The block point `t` computes. -/
abbrev block (t : Fin cfg0.N) : FVec Ideal S512x1024 .f32 :=
  k0_pay4 (iblk m c 0 t) (iblk m c 3 t) (iblk m c 4 t) (iblk m c 5 t) (iblk m c 6 t) (iblk m c 1 t) (iblk m c 2 t)

/-- … is rows `512 t …` of the layer. -/
theorem block_apply (t : Fin cfg0.N) (r : Fin 512) (l : Fin 1024) :
    block m c t (ix2 r l) = layer m c ⟨512 * t.val + r.val, row_lt t r⟩ l := by
  unfold block
  pointwise [k0_pay4]
  simp only [x_block, w_block, s_block, ss_block, b_block, g_block, be_block]
  rfl

/-- What point `n` leaves of the column sums. -/
def sums (n : Nat) (l : Fin 1024) : EReal := ∑ t ∈ Finset.range (n + 1), ∑ r : Fin 512, ext (fun i => layer m c i l) (512 * t + r.val)
/-- What point `n` leaves of the column sums of squares. -/
def squares (n : Nat) (l : Fin 1024) : EReal :=
  ∑ t ∈ Finset.range (n + 1), ∑ r : Fin 512, ext (fun i => layer m c i l * layer m c i l) (512 * t + r.val)

theorem block_ext (t : Fin cfg0.N) (r : Fin 512) (l : Fin 1024) : block m c t (ix2 r l) = ext (fun i => layer m c i l) (512 * t.val + r.val) := by
  rw [block_apply, ext, dif_pos (row_lt t r)]
theorem block_sq (t : Fin cfg0.N) (r : Fin 512) (l : Fin 1024) :
    block m c t (ix2 r l) * block m c t (ix2 r l) = ext (fun i => layer m c i l * layer m c i l) (512 * t.val + r.val) := by
  rw [block_apply, ext, dif_pos (row_lt t r)]

/-- The column sums of one block. -/
theorem pay5_apply (t : Fin cfg0.N) (l : Fin 1024) :
    k0_pay5 (iblk m c 0 t) (iblk m c 3 t) (iblk m c 4 t) (iblk m c 5 t) (iblk m c 6 t) (iblk m c 1 t) (iblk m c 2 t) (ix2 0 l)
      = ∑ r : Fin 512, ext (fun i => layer m c i l) (512 * t.val + r.val) := by
  simp only [← block_ext]
  show k0_pay1 (block m c t) (ix2 0 l) = _
  generalize block m c t = B
  pointwise [k0_pay1]
/-- The column sums of the squares of one block. -/
theorem pay6_apply (t : Fin cfg0.N) (l : Fin 1024) :
    k0_pay1 (k0_pay6 (iblk m c 0 t) (iblk m c 3 t) (iblk m c 4 t) (iblk m c 5 t) (iblk m c 6 t) (iblk m c 1 t) (iblk m c 2 t)) (ix2 0 l)
      = ∑ r : Fin 512, ext (fun i => layer m c i l * layer m c i l) (512 * t.val + r.val) := by
  simp only [← block_sq]
  show k0_pay1 (mulf (block m c t) (block m c t)) (ix2 0 l) = _
  generalize block m c t = B
  pointwise [k0_pay1]

/-- A later point's sum is the old one plus the block's. -/
theorem pay2_apply (x q : FVec Ideal S1x1024 .f32) (l : Fin 1024) : k0_pay2 x q (ix2 0 l) = q (ix2 0 l) + x (ix2 0 l) := by
  pointwise [k0_pay2]
/-- A later point's sum of squares is the old one plus the block's. -/
theorem pay3_apply (x : FVec Ideal S512x1024 .f32) (q : FVec Ideal S1x1024 .f32) (l : Fin 1024) :
    k0_pay3 x q (ix2 0 l) = q (ix2 0 l) + k0_pay1 x (ix2 0 l) := by
  pointwise [k0_pay3, k0_pay1]

/-- After point `n` the staging buffers hold the point's block and the sums so far. -/
theorem outs_eq : ∀ (n : ℕ) (h : n < cfg0.N), (outsAt0 m c n h).1 = block m c ⟨n, h⟩
    ∧ (∀ l, (outsAt0 m c n h).2.1 (ix2 0 l) = sums m c n l) ∧ ∀ l, (outsAt0 m c n h).2.2 (ix2 0 l) = squares m c n l
  | 0, h => by
    rw [outsAt0_A m c ⟨0, h⟩ rfl (by simp), first_block, first_sum, first_square]
    refine ⟨rfl, fun l => ?_, fun l => ?_⟩
    · dsimp only; rw [pay5_apply, sums, Finset.sum_range_one]
    · dsimp only; rw [pay6_apply, squares, Finset.sum_range_one]
  | n + 1, h => by
    have hN : cfg0.N = 2 := N_0
    obtain ⟨-, ih1, ih2⟩ := outs_eq n (Nat.lt_of_succ_lt h)
    rw [outsAt0_B m c ⟨n + 1, h⟩ (by dsimp only; omega) (by simp <;> omega), later_block, later_sum, later_square]
    refine ⟨rfl, fun l => ?_, fun l => ?_⟩
    · show k0_pay2 _ (outsAt0 m c n _).2.1 (ix2 0 l) = _
      rw [sums, Finset.sum_range_succ, ← sums, ← ih1, ← pay5_apply m c ⟨n + 1, h⟩]
      exact pay2_apply _ _ l
    · show k0_pay3 _ (outsAt0 m c n _).2.2 (ix2 0 l) = _
      rw [squares, Finset.sum_range_succ, ← squares, ← ih2, ← pay6_apply m c ⟨n + 1, h⟩]
      exact pay3_apply _ _ l

/-- The layer as one array. -/
def result : Vec Ideal S1024x1024 .f32 := fun j => layer m c (j 0) (j 1)

/-- Every point writes back its block of the layer. -/
theorem flushed_out (t : Fin cfg0.N) : (dats m 0 c).flushed 7 t = ((cfg0.win 7).blk t).view.read (Elt Ideal) (result m c) := by
  rw [Value.flushed7, (outs_eq m c t.val t.isLt).1]
  funext j
  obtain ⟨r, k, rfl⟩ : ∃ (r : Fin 512) (k : Fin 1024), j = ix2 r k := ⟨j 0, j 1, eq_ix2 (n0 := 512) (n1 := 1024) j⟩
  rw [View.read_apply]
  refine (block_apply m c t r k).trans ?_
  show layer m c _ _ = layer m c _ _
  congr 1
  · apply Fin.ext
    show 512 * t.val + r.val = win0_7.index t 0 * 512 + 1 * r.val; rw [(out_index t).1]; omega
  · apply Fin.ext
    show k.val = win0_7.index t 1 * 1024 + 1 * k.val; rw [(out_index t).2]; omega

/-- The blocks cover the first result array. -/
theorem cover_out (i : S1024x1024.Idx) : ∃ t : Fin cfg0.N, (cfg0.win 7).flush t = true ∧ i ∈ ((cfg0.win 7).blk t).view.set := by
  have hN : cfg0.N = 2 := N_0
  have h0 : (i 0 : Nat) < 1024 := (i 0).isLt
  have h1 : (i 1 : Nat) < 1024 := (i 1).isLt
  obtain ⟨t, ht⟩ : ∃ t : Fin cfg0.N, t.val = (i 0).val / 512 := ⟨⟨(i 0).val / 512, by omega⟩, rfl⟩
  refine ⟨t, flush0_7 t, ?_⟩
  show i ∈ ((View.whole main_v3_0).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [(out_index t).1, ht]; omega
  | ⟨1, _⟩ => show win0_7.index t 1 * 1024 ≤ (i 1 : Nat) ∧ (i 1 : Nat) < win0_7.index t 1 * 1024 + 1024
              rw [(out_index t).2]; omega

/-- The first result array ends holding the layer. -/
theorem out_apply (i : Fin 1024) (l : Fin 1024) : (dats m 0 c).arrAt 7 cfg0.N (ix2 i l) = layer m c i l :=
  congrFun ((dats m 0 c).arrAt_eq_of_cover 7 (result m c) (fun t _ => flushed_out m c t) cover_out) (ix2 i l)

theorem last_lt : 2 - 1 < cfg0.N := by rw [show cfg0.N = 2 from N_0]; decide
theorem sum_index : ∀ t : Fin cfg0.N, win0_8.index t 0 = 0 ∧ win0_8.index t 1 = 0 :=
  (by decide +kernel : ∀ t : Fin grid0.N, win0_8.index t 0 = 0 ∧ win0_8.index t 1 = 0)
theorem square_index : ∀ t : Fin cfg0.N, win0_9.index t 0 = 0 ∧ win0_9.index t 1 = 0 :=
  (by decide +kernel : ∀ t : Fin grid0.N, win0_9.index t 0 = 0 ∧ win0_9.index t 1 = 0)

/-- The column sums, as one row. -/
def sumRow : Vec Ideal S1x1024 .f32 := fun j => sums m c (2 - 1) (j 1)

/-- The one write-back, after the last point, writes the row. -/
theorem flushed_sum (t : Fin cfg0.N) (hf : (cfg0.win 8).flush t = true) :
    (dats m 0 c).flushed 8 t = ((cfg0.win 8).blk t).view.read (Elt Ideal) (sumRow m c) := by
  have hN : cfg0.N = 2 := N_0
  have h3 : t.val = 2 - 1 := by have := (flush0_8 t).mp hf; have := t.isLt; omega
  rw [Value.flushed8]
  funext j
  obtain ⟨r, k, rfl⟩ : ∃ (r : Fin 1) (k : Fin 1024), j = ix2 r k := ⟨j 0, j 1, eq_ix2 (n0 := 1) (n1 := 1024) j⟩
  obtain rfl : r = 0 := Subsingleton.elim _ _
  rw [View.read_apply]
  refine ((outs_eq m c t.val t.isLt).2.1 k).trans ?_
  rw [h3]
  show sums m c (2 - 1) k = sums m c (2 - 1) _
  congr 1
  apply Fin.ext
  show k.val = win0_8.index t 1 * 1024 + 1 * k.val; rw [(sum_index t).2]; omega

/-- Its block is the whole row. -/
theorem cover_sum (i : S1x1024.Idx) : ∃ t : Fin cfg0.N, (cfg0.win 8).flush t = true ∧ i ∈ ((cfg0.win 8).blk t).view.set := by
  have h0 : (i 0 : Nat) < 1 := (i 0).isLt
  have h1 : (i 1 : Nat) < 1024 := (i 1).isLt
  obtain ⟨t, ht⟩ : ∃ t : Fin cfg0.N, t.val = 2 - 1 := ⟨⟨_, last_lt⟩, rfl⟩
  refine ⟨t, (flush0_8 t).mpr (by rw [ht]), ?_⟩
  show i ∈ ((View.whole main_v3_1).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1
              rw [(sum_index t).1]; omega
  | ⟨1, _⟩ => show win0_8.index t 1 * 1024 ≤ (i 1 : Nat) ∧ (i 1 : Nat) < win0_8.index t 1 * 1024 + 1024
              rw [(sum_index t).2]; omega

/-- The second result array ends holding the layer's column sums. -/
theorem sum_apply (l : Fin 1024) : (dats m 0 c).arrAt 8 cfg0.N (ix2 0 l) = ∑ i : Fin 1024, layer m c i l := by
  rw [(dats m 0 c).arrAt_eq_of_cover 8 (sumRow m c) (flushed_sum m c) cover_sum]
  show sums m c (2 - 1) l = _
  rw [sums, sum_blocks_fin (by decide)]

/-- The column sums of squares, as one row. -/
def squareRow : Vec Ideal S1x1024 .f32 := fun j => squares m c (2 - 1) (j 1)

/-- The one write-back, after the last point, writes the row. -/
theorem flushed_square (t : Fin cfg0.N) (hf : (cfg0.win 9).flush t = true) :
    (dats m 0 c).flushed 9 t = ((cfg0.win 9).blk t).view.read (Elt Ideal) (squareRow m c) := by
  have hN : cfg0.N = 2 := N_0
  have h3 : t.val = 2 - 1 := by have := (flush0_9 t).mp hf; have := t.isLt; omega
  rw [Value.flushed9]
  funext j
  obtain ⟨r, k, rfl⟩ : ∃ (r : Fin 1) (k : Fin 1024), j = ix2 r k := ⟨j 0, j 1, eq_ix2 (n0 := 1) (n1 := 1024) j⟩
  obtain rfl : r = 0 := Subsingleton.elim _ _
  rw [View.read_apply]
  refine ((outs_eq m c t.val t.isLt).2.2 k).trans ?_
  rw [h3]
  show squares m c (2 - 1) k = squares m c (2 - 1) _
  congr 1
  apply Fin.ext
  show k.val = win0_9.index t 1 * 1024 + 1 * k.val; rw [(square_index t).2]; omega

/-- Its block is the whole row. -/
theorem cover_square (i : S1x1024.Idx) : ∃ t : Fin cfg0.N, (cfg0.win 9).flush t = true ∧ i ∈ ((cfg0.win 9).blk t).view.set := by
  have h0 : (i 0 : Nat) < 1 := (i 0).isLt
  have h1 : (i 1 : Nat) < 1024 := (i 1).isLt
  obtain ⟨t, ht⟩ : ∃ t : Fin cfg0.N, t.val = 2 - 1 := ⟨⟨_, last_lt⟩, rfl⟩
  refine ⟨t, (flush0_9 t).mpr (by rw [ht]), ?_⟩
  show i ∈ ((View.whole main_v3_2).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1
              rw [(square_index t).1]; omega
  | ⟨1, _⟩ => show win0_9.index t 1 * 1024 ≤ (i 1 : Nat) ∧ (i 1 : Nat) < win0_9.index t 1 * 1024 + 1024
              rw [(square_index t).2]; omega

/-- The third result array ends holding the layer's column sums of squares. -/
theorem square_apply (l : Fin 1024) : (dats m 0 c).arrAt 9 cfg0.N (ix2 0 l) = ∑ i : Fin 1024, layer m c i l * layer m c i l := by
  rw [(dats m 0 c).arrAt_eq_of_cover 9 (squareRow m c) (flushed_square m c) cover_square]
  show squares m c (2 - 1) l = _
  rw [squares, sum_blocks_fin (by decide)]

end Cert.Kernel2Ideal.Hand
-- ==== Proof.LayerReference2.lean ====
module
public import proofs.«01_k».proof.Proof.BatchNorm
public import proofs.«01_k».proof.Proof.Gen.Reference2Ideal.Run
@[expose] public section
set_option maxRecDepth 16384
noncomputable section
open Idealize.ShloMosaic Idealize.ShloMosaic.TcCoe Idealize.SL.Sem

/-! # What the reference of the linear layer leaves (1024 rows) -/

namespace Cert.Reference2Ideal.Hand
open Cert.Reference2Ideal Cert.Reference2Ideal.Gen Cert.BatchNorm
variable (m : (ℓ : Loc nD τ sig) → Buf (Elt Ideal) ℓ) (ρ : Dev nD → PrngReg)

/-- The reference's entry at row `i` and column `l`: the plain normalisation of the row times the weights' column, plus
    the bias, cut at 0. -/
def layer (c : Dev nD) (i : Fin 1024) (l : Fin 1024) : EReal :=
  max ((∑ k : Fin 1024, plain (Ideal.ofBits .f32 1149239296#32) (Ideal.ofBits .f32 925353388#32)
      (fun i : Fin 1024 => m ((c.tc : Thread nD τ).loc main_arg0) (ix2 i k))
      (m ((c.tc : Thread nD τ).loc main_arg3) (ix1 k)) (m ((c.tc : Thread nD τ).loc main_arg4) (ix1 k))
      (m ((c.tc : Thread nD τ).loc main_arg0) (ix2 i k)) * m ((c.tc : Thread nD τ).loc main_arg5) (ix2 k l))
    + m ((c.tc : Thread nD τ).loc main_arg6) (ix1 l)) 0

/-- The run: the layer, its column sums and its column sums of squares; the arguments are unchanged. -/
theorem run_layer : θ_run defs (onTc (τ := τ) (main (F := Ideal))) ⟨m, fun _ => 0, ρ⟩ fun r => ∀ c : Dev nD,
      (∀ (i : Fin 1024) (l : Fin 1024), r.2.mem ((c.tc : Thread nD τ).loc main_v23) (ix2 i l) = layer m c i l)
      ∧ (∀ l : Fin 1024, r.2.mem ((c.tc : Thread nD τ).loc main_v25) (ix2 0 l) = ∑ i : Fin 1024, layer m c i l)
      ∧ (∀ l : Fin 1024, r.2.mem ((c.tc : Thread nD τ).loc main_v28) (ix2 0 l) = ∑ i : Fin 1024, layer m c i l * layer m c i l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Reference2Ideal.Value.run (F := Ideal) m ρ)
  obtain ⟨h1, h2, h3, h4⟩ := h c
  refine ⟨fun i l => ?_, fun l => ?_, fun l => ?_, h4⟩
  · rw [h1]; clear h1 h2 h3 h4
    pointwise
    simp only [zero_word, sub_zero, rows_pos_1024, if_true]
    rfl
  · rw [h2]; clear h1 h2 h3 h4
    pointwise
    simp only [zero_word, sub_zero, rows_pos_1024, if_true]
    rfl
  · rw [h3]; clear h1 h2 h3 h4
    unfold Cert.Reference2Ideal.Value.res_main_v28
    pointwise
    simp only [zero_word, sub_zero, rows_pos_1024, if_true]
    rfl

end Cert.Reference2Ideal.Hand
-- ==== Proof.LayerClaim2.lean ====
module
public import proofs.«01_k».proof.Defs
public import proofs.«01_k».proof.Proof.Layer2
public import proofs.«01_k».proof.Proof.LayerReference2
public import Idealize.ShloMosaic.Lib.ReduceAll
@[expose] public section
set_option maxRecDepth 16384
noncomputable section
open Idealize.ShloMosaic Idealize.ShloMosaic.TcCoe Idealize.SL.Sem

/-! # The linear layer's kernel computes its reference (1024 rows) -/

namespace Cert.Layer2
open Cert.BatchNorm

variable [hP : Cert.Pre_linear_bn_pre_1024.Facts]

open Cert.Pre_linear_bn_pre_1024 in
/-- The precondition read: the activations, the factors and the shifts are finite, and the two rows are the
    activations' exact column sums and column sums of squares. -/
theorem pre_facts {h : FVec Ideal S1024x1024 .f32} {s ss : FVec Ideal S1x1024 .f32} {g be : FVec Ideal S1024 .f32}
    {w : FVec Ideal S1024x1024 .f32} {b : FVec Ideal S1024 .f32}
    (e : Cert.Pre_linear_bn_pre_1024.fn (F := Ideal) h s ss g be w b = fun _ => 1#1) :
    (∀ (i : Fin 1024) (k : Fin 1024), ∃ r : ℝ, h (ix2 i k) = (r : EReal)) ∧ (∀ k : Fin 1024, ∃ r : ℝ, g (ix1 k) = (r : EReal))
      ∧ (∀ k : Fin 1024, ∃ r : ℝ, be (ix1 k) = (r : EReal))
      ∧ (∀ k : Fin 1024, s (ix2 0 k) = ∑ i : Fin 1024, h (ix2 i k))
      ∧ ∀ k : Fin 1024, ss (ix2 0 k) = ∑ i : Fin 1024, h (ix2 i k) * h (ix2 i k) := by
  have e := congrFun e ix0
  unfold fn fn_part1 at e
  dsimp only at e
  obtain ⟨e, e'⟩ := IntOp.andi_eq_one.1 e
  obtain ⟨es, ess⟩ := IntOp.andi_eq_one.1 e'
  obtain ⟨e, eb⟩ := IntOp.andi_eq_one.1 e
  obtain ⟨e, eg⟩ := IntOp.andi_eq_one.1 e
  obtain ⟨-, eh⟩ := IntOp.andi_eq_one.1 e
  refine ⟨fun i k => real_of_abs_lt ?_, fun k => real_of_abs_lt ?_, fun k => real_of_abs_lt ?_, fun k => ?_, fun k => ?_⟩
  · have := Host.reduce_andi_all _ _ _ _ _ eh (ix2 i k)
    pointwise at this
    rw [inf_f32] at this
    exact ofBool_one this
  · have := Host.reduce_andi_all _ _ _ _ _ eg (ix1 k)
    pointwise at this
    rw [inf_f32] at this
    exact ofBool_one this
  · have := Host.reduce_andi_all _ _ _ _ _ eb (ix1 k)
    pointwise at this
    rw [inf_f32] at this
    exact ofBool_one this
  · have := Host.reduce_andi_all _ _ _ _ _ es (ix2 0 k)
    pointwise at this
    exact ofBool_one this
  · have := Host.reduce_andi_all _ _ _ _ _ ess (ix2 0 k)
    pointwise at this
    exact ofBool_one this

variable [hK : Cert.Kernel2Ideal.Facts] [hR : Cert.Reference2Ideal.Facts]

/-- On finite activations with their exact sums, the kernel's layer is the reference's. -/
theorem layer_eq {m : (ℓ : Loc Cert.Kernel2Ideal.nD Cert.Kernel2Ideal.τ Cert.Kernel2Ideal.sig) → Buf (Elt Ideal) ℓ}
    {m' : (ℓ : Loc Cert.Reference2Ideal.nD Cert.Reference2Ideal.τ Cert.Reference2Ideal.sig) → Buf (Elt Ideal) ℓ}
    (hpre : Cert.Pre_Kernel2Ideal_linear_bn_pre_1024 m) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (i : Fin 1024) (l : Fin 1024) : Cert.Kernel2Ideal.Hand.layer m c i l = Cert.Reference2Ideal.Hand.layer m' c i l := by
  obtain ⟨fh, fg, fb, hs, hss⟩ := pre_facts (hpre c)
  unfold Cert.Kernel2Ideal.Hand.layer Cert.Reference2Ideal.Hand.layer
  rw [h0, h3, h4, h5, h6]
  congr 2
  refine Finset.sum_congr rfl fun k _ => ?_
  congr 1
  exact folded_eq_plain (n := 1024) (by decide) (rows_1024.trans (by norm_num)) (inv_1024.trans (by norm_num)) eps_real (hs k) (hss k)
    (fun i => fh i k) (fg k) (fb k) i

/-- The kernel's three results are the reference's: the layer, its column sums and its column sums of squares. -/
theorem algebraic : Cert.algebraic_Kernel2Ideal_Reference2Ideal_pre_linear_bn_pre_1024 := by
  intro m ρ m' ρ' hpre hagree
  refine ⟨fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 9 Cert.Kernel2Ideal.cfg0.N, Cert.Kernel2Ideal.Value.run_blocks m ρ, ?_⟩
  refine (θ_run Cert.Reference2Ideal.defs _ _).mono (fun r h c => ?_) (Cert.Reference2Ideal.Hand.run_layer m' ρ')
  obtain ⟨h1, h2, h3, h4⟩ := h c
  obtain ⟨a0, -, -, a3, a4, a5, a6⟩ := hagree c
  have key := layer_eq hpre c a0 a3 a4 a5 a6
  refine ⟨?_, ?_, ?_, h4⟩
  · funext j
    obtain ⟨i, l, rfl⟩ : ∃ (i : Fin 1024) (l : Fin 1024), j = ix2 i l := ⟨j 0, j 1, eq_ix2 (n0 := 1024) (n1 := 1024) j⟩
    exact (h1 i l).trans ((key i l).symm.trans (Cert.Kernel2Ideal.Hand.out_apply m c i l).symm)
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    refine (h2 l).trans (Eq.trans ?_ (Cert.Kernel2Ideal.Hand.sum_apply m c l).symm)
    simp only [key]
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    refine (h3 l).trans (Eq.trans ?_ (Cert.Kernel2Ideal.Hand.square_apply m c l).symm)
    simp only [key]

end Cert.Layer2
-- ==== Proof.Layer4.lean ====
module
public import proofs.«01_k».proof.Proof.BatchNorm
public import proofs.«01_k».proof.Proof.Gen.Kernel4Ideal.Value
public import Idealize.ShloMosaic.Lib.Pipeline.Value
public import Idealize.ShloMosaic.Lib.StableHlo.ReadAt
public import Idealize.ShloMosaic.Lib.Tactic
@[expose] public section
set_option maxRecDepth 16384
noncomputable section
open Idealize.ShloMosaic Idealize.ShloMosaic.TcCoe Idealize.SL.Sem
open Idealize.ShloMosaic.Pipeline (Dat)

/-! # What the fused linear layer with a skip input leaves in its three result arrays (4096 rows) -/

namespace Cert.Kernel4Ideal.Hand

open Cert.Kernel4Ideal Cert.Kernel4Ideal.Gen Cert.BatchNorm

theorem hz : (![0, 0] : Fin 2 → Nat) = fun _ => 0 := funext fun a => by fin_cases a <;> rfl

/-! ## One grid point -/

section Point
variable {F : FTy → Type} [FloatOps F]
variable (c : Dev nD) (i : grid0.Coords)
  (a1 : Memref sig .tc .vmem S512x1024 .bf16) (h1 : a1.IsWhole) (a2 : Memref sig .tc .vmem S1536x1024 .f32) (h2 : a2.IsWhole)
  (a3 : Memref sig .tc .vmem S1x1024 .f32) (h3 : a3.IsWhole) (a4 : Memref sig .tc .vmem S512x512 .f32) (h4 : a4.IsWhole)
  (a5 : Memref sig .tc .vmem S512x1024 .f32) (h5 : a5.IsWhole) (a6 : Memref sig .tc .vmem S1x1024 .f32) (h6 : a6.IsWhole)
  (a7 : Memref sig .tc .vmem S1x1024 .f32) (h7 : a7.IsWhole)
  (x : Vec F S512x1024 .bf16) (w : Vec F S1536x1024 .f32) (b : Vec F S1x1024 .f32) (y : Vec F S512x512 .f32) (p q : Vec F S1x1024 .f32)

/-- The weights' rows that meet the interpolated features. -/
abbrev top (w : Vec F S1536x1024 .f32) : Vec F S1024x1024 .f32 := View.ld w (Rect.unit (s := S1536x1024) ![0, 0] S1024x1024.size inb_S1536x1024_S1024x1024_0_0)
/-- The weights' rows that meet the skip features. -/
abbrev tail (w : Vec F S1536x1024 .f32) : Vec F S512x1024 .f32 := View.ld w (Rect.unit (s := S1536x1024) ![1024, 0] S512x1024.size inb_S1536x1024_S512x1024_1024_0)

/-- The first point stores the layer's block. -/
theorem first_block (hc0 : cond0_0 i) (hc1 : ¬cond0_1 i) :
    out0_A_4 c i a1 h1 a2 h2 a3 h3 a4 h4 a5 h5 a6 h6 a7 h7 hc0 hc1 x w b y = k0_pay1 x (top w) y (tail w) b := by
  unfold out0_A_4
  rw [View.read_writes_eq_canon _ _ _ (cover0_A_4 c i a1 h1 a2 h2 a3 h3 a4 h4 a5 h5 a6 h6 a7 h7 hc0 hc1 x w b y)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S512x512) hz, View.ld_unit_zero (S := S1x1024) hz]

/-- The first point stores the block's column sums. -/
theorem first_sum (hc0 : cond0_0 i) (hc1 : ¬cond0_1 i) :
    out0_A_5 c i a1 h1 a2 h2 a3 h3 a4 h4 a5 h5 a6 h6 a7 h7 hc0 hc1 x w b y = k0_pay2 x (top w) y (tail w) b := by
  unfold out0_A_5
  rw [View.read_writes_eq_canon _ _ _ (cover0_A_5 c i a1 h1 a2 h2 a3 h3 a4 h4 a5 h5 a6 h6 a7 h7 hc0 hc1 x w b y)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S512x512) hz, View.ld_unit_zero (S := S1x1024) hz]

/-- The first point stores the column sums of the block's squares. -/
theorem first_square (hc0 : cond0_0 i) (hc1 : ¬cond0_1 i) :
    out0_A_6 c i a1 h1 a2 h2 a3 h3 a4 h4 a5 h5 a6 h6 a7 h7 hc0 hc1 x w b y = k0_pay3 x (top w) y (tail w) b := by
  unfold out0_A_6
  rw [View.read_writes_eq_canon _ _ _ (cover0_A_6 c i a1 h1 a2 h2 a3 h3 a4 h4 a5 h5 a6 h6 a7 h7 hc0 hc1 x w b y)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S512x512) hz, View.ld_unit_zero (S := S1x1024) hz]

/-- A later point stores the layer's block. -/
theorem later_block (hc0 : ¬cond0_0 i) (hc1 : cond0_1 i) :
    out0_B_4 c i a1 h1 a2 h2 a3 h3 a4 h4 a5 h5 a6 h6 a7 h7 hc0 hc1 x w b y p q = k0_pay1 x (top w) y (tail w) b := by
  unfold out0_B_4
  rw [View.read_writes_eq_canon _ _ _ (cover0_B_4 c i a1 h1 a2 h2 a3 h3 a4 h4 a5 h5 a6 h6 a7 h7 hc0 hc1 x w b y p q)]
  unfold kernelRun0_B
  dsimp only
  sl_unfold_words
  rw [View.canon_unit_zero hz]
  simp only [View.readAt_eq_ld, h1.read_unread, h2.read_unread, h3.read_unread, h4.read_unread, View.ld_unit_zero (S := S512x1024) hz, View.ld_unit_zero (S := S512x512) hz, View.ld_unit_zero (S := S1x1024) hz]

/-- A later point adds the block's column sums to what the point before left. -/
theorem later_sum (hc0 : ¬cond0_0 i) (hc1 : cond0_1 i) :
    out0_B_5 c i a1 h1 a2 h2 a3 h3 a4 h4 a5 h5 a6 h6 a7 h7 hc0 hc1 x w b y p q = k0_pay4 x (top w) y (tail w) b p := by
  unfold out0_B_5
  rw [View.read_writes_eq_canon _ _ _ (cover0_B_5 c i a1 h1 a2 h2 a3 h3 a4 h4 a5 h5 a6 h6 a7 h7 hc0 hc1 x w b y p q)]
  unfold kernelRun0_B
  dsimp only
  sl_unfold_words
  rw [View.canon_unit_zero hz]
  simp only [View.readAt_eq_ld, h1.read_unread, h2.read_unread, h3.read_unread, h4.read_unread, h6.read_unread, View.ld_unit_zero (S := S512x1024) hz, View.ld_unit_zero (S := S512x512) hz, View.ld_unit_zero (S := S1x1024) hz]

/-- A later point adds the column sums of the block's squares to what the point before left. -/
theorem later_square (hc0 : ¬cond0_0 i) (hc1 : cond0_1 i) :
    out0_B_6 c i a1 h1 a2 h2 a3 h3 a4 h4 a5 h5 a6 h6 a7 h7 hc0 hc1 x w b y p q = k0_pay5 x (top w) y (tail w) b q := by
  unfold out0_B_6
  rw [View.read_writes_eq_canon _ _ _ (cover0_B_6 c i a1 h1 a2 h2 a3 h3 a4 h4 a5 h5 a6 h6 a7 h7 hc0 hc1 x w b y p q)]
  unfold kernelRun0_B
  dsimp only
  sl_unfold_words
  rw [View.canon_unit_zero hz]
  simp only [View.readAt_eq_ld, h1.read_unread, h2.read_unread, h3.read_unread, h4.read_unread, h7.read_unread, View.ld_unit_zero (S := S512x1024) hz, View.ld_unit_zero (S := S512x512) hz, View.ld_unit_zero (S := S1x1024) hz]

end Point

/-! ## The blocks the windows fetch -/

section Fetch
variable {F : FTy → Type} [FloatOps F]
variable (m : (ℓ : Loc nD τ sig) → Buf (Elt F) ℓ) (c : Dev nD)

theorem row_index : ∀ t : Fin cfg0.N, win0_0.index t 0 = t.val ∧ win0_0.index t 1 = 0 :=
  (by decide +kernel : ∀ t : Fin grid0.N, win0_0.index t 0 = t.val ∧ win0_0.index t 1 = 0)
theorem skip_index : ∀ t : Fin cfg0.N, win0_3.index t 0 = t.val ∧ win0_3.index t 1 = 0 :=
  (by decide +kernel : ∀ t : Fin grid0.N, win0_3.index t 0 = t.val ∧ win0_3.index t 1 = 0)
theorem out_index : ∀ t : Fin cfg0.N, win0_4.index t 0 = t.val ∧ win0_4.index t 1 = 0 :=
  (by decide +kernel : ∀ t : Fin grid0.N, win0_4.index t 0 = t.val ∧ win0_4.index t 1 = 0)
theorem w_index : ∀ t : Fin cfg0.N, win0_1.index t 0 = 0 ∧ win0_1.index t 1 = 0 :=
  (by decide +kernel : ∀ t : Fin grid0.N, win0_1.index t 0 = 0 ∧ win0_1.index t 1 = 0)
theorem b_index : ∀ t : Fin cfg0.N, win0_2.index t 0 = 0 ∧ win0_2.index t 1 = 0 :=
  (by decide +kernel : ∀ t : Fin grid0.N, win0_2.index t 0 = 0 ∧ win0_2.index t 1 = 0)

theorem row_lt (t : Fin cfg0.N) (r : Fin 512) : 512 * t.val + r.val < 4096 := by
  have := t.isLt; have hN : cfg0.N = 8 := N_0; omega

/-- Point `t`'s block of the interpolated features is rows `512 t …` of them. -/
theorem x_block (t : Fin cfg0.N) (r : Fin 512) (k : Fin 1024) :
    (iblk m c 0 t : Vec F S512x1024 .bf16) (ix2 r k) = m ((c.tc : Thread nD τ).loc main_arg0) (ix2 ⟨512 * t.val + r.val, row_lt t r⟩ k) := by
  unfold iblk
  rw [View.read_apply]
  show V m c main_arg0 _ = _
  rw [V_main_arg0]
  congr 1; funext a; apply Fin.ext
  match a with
  | ⟨0, _⟩ => show win0_0.index t 0 * 512 + 1 * r.val = 512 * t.val + r.val; rw [(row_index t).1]; omega
  | ⟨1, _⟩ => show win0_0.index t 1 * 1024 + 1 * k.val = k.val; rw [(row_index t).2]; omega

/-- Point `t`'s block of the skip features is rows `512 t …` of them. -/
theorem y_block (t : Fin cfg0.N) (r : Fin 512) (k : Fin 512) :
    (iblk m c 3 t : Vec F S512x512 .f32) (ix2 r k) = m ((c.tc : Thread nD τ).loc main_arg1) (ix2 ⟨512 * t.val + r.val, row_lt t r⟩ k) := by
  unfold iblk
  rw [View.read_apply]
  show V m c main_arg1 _ = _
  rw [V_main_arg1]
  congr 1; funext a; apply Fin.ext
  match a with
  | ⟨0, _⟩ => show win0_3.index t 0 * 512 + 1 * r.val = 512 * t.val + r.val; rw [(skip_index t).1]; omega
  | ⟨1, _⟩ => show win0_3.index t 1 * 512 + 1 * k.val = k.val; rw [(skip_index t).2]; omega

/-- Every point fetches the whole weight matrix. -/
theorem w_block (t : Fin cfg0.N) (r : Fin 1536) (k : Fin 1024) :
    (iblk m c 1 t : Vec F S1536x1024 .f32) (ix2 r k) = m ((c.tc : Thread nD τ).loc main_arg2) (ix2 r k) := by
  unfold iblk
  rw [View.read_apply]
  show V m c main_arg2 _ = _
  rw [V_main_arg2]
  congr 1; funext a; apply Fin.ext
  match a with
  | ⟨0, _⟩ => show win0_1.index t 0 * 1536 + 1 * r.val = r.val; rw [(w_index t).1]; omega
  | ⟨1, _⟩ => show win0_1.index t 1 * 1024 + 1 * k.val = k.val; rw [(w_index t).2]; omega

/-- The bias as the region finds it: the argument as one row. -/
theorem b_entry (k : Fin 1024) : (V m c main_v0 : Vec F S1x1024 .f32) (ix2 0 k) = m ((c.tc : Thread nD τ).loc main_arg3) (ix1 k) := by
  unfold V
  after_reads_at

/-- Every point fetches the bias row. -/
theorem b_block (t : Fin cfg0.N) (k : Fin 1024) :
    (iblk m c 2 t : Vec F S1x1024 .f32) (ix2 0 k) = m ((c.tc : Thread nD τ).loc main_arg3) (ix1 k) := by
  rw [← b_entry m c k]
  unfold iblk
  rw [View.read_apply]
  show V m c main_v0 _ = V m c main_v0 _
  congr 1; funext a; apply Fin.ext
  match a with
  | ⟨0, _⟩ => show win0_2.index t 0 * 1 + 1 * 0 = 0; rw [(b_index t).1]
  | ⟨1, _⟩ => show win0_2.index t 1 * 1024 + 1 * k.val = k.val; rw [(b_index t).2]; omega

end Fetch

/-! ## Over the extended reals -/

variable (m : (ℓ : Loc nD τ sig) → Buf (Elt Ideal) ℓ) (ρ : Dev nD → PrngReg) (c : Dev nD)

/-- The layer's entry at row `i` and column `l`: the row of interpolated features and the row of skip features, each
    times its part of the weights' column, plus the bias, cut at 0. -/
def layer (i : Fin 4096) (l : Fin 1024) : EReal :=
  skipEntry (kk := 1536) rfl (fun k : Fin 1024 => m ((c.tc : Thread nD τ).loc main_arg0) (ix2 i k))
    (fun k : Fin 512 => m ((c.tc : Thread nD τ).loc main_arg1) (ix2 i k)) (fun k => m ((c.tc : Thread nD τ).loc main_arg2) (ix2 k l))
    (m ((c.tc : Thread nD τ).loc main_arg3) (ix1 l))

/-- The block point `t` computes. -/
abbrev block (t : Fin cfg0.N) : FVec Ideal S512x1024 .f32 :=
  k0_pay1 (iblk m c 0 t) (top (iblk m c 1 t)) (iblk m c 3 t) (tail (iblk m c 1 t)) (iblk m c 2 t)

theorem top_apply (w : Vec Ideal S1536x1024 .f32) (k : Fin 1024) (l : Fin 1024) : top w (ix2 k l) = w (ix2 ⟨k.val, by omega⟩ l) := by
  pointwise [top]
theorem tail_apply (w : Vec Ideal S1536x1024 .f32) (k : Fin 512) (l : Fin 1024) : tail w (ix2 k l) = w (ix2 ⟨1024 + k.val, by omega⟩ l) := by
  pointwise [tail]

theorem top_block (t : Fin cfg0.N) (k : Fin 1024) (l : Fin 1024) :
    top (iblk m c 1 t) (ix2 k l) = m ((c.tc : Thread nD τ).loc main_arg2) (ix2 (⟨k.val, by omega⟩ : Fin 1536) l) :=
  (top_apply _ k l).trans (w_block m c t _ l)
theorem tail_block (t : Fin cfg0.N) (k : Fin 512) (l : Fin 1024) :
    tail (iblk m c 1 t) (ix2 k l) = m ((c.tc : Thread nD τ).loc main_arg2) (ix2 (⟨1024 + k.val, by omega⟩ : Fin 1536) l) :=
  (tail_apply _ k l).trans (w_block m c t _ l)

/-- … read at an index, over any operands. -/
theorem pay1_apply (x : Vec Ideal S512x1024 .bf16) (u : Vec Ideal S1024x1024 .f32) (y : Vec Ideal S512x512 .f32) (v : Vec Ideal S512x1024 .f32)
    (b : Vec Ideal S1x1024 .f32) (r : Fin 512) (l : Fin 1024) : k0_pay1 (F := Ideal) x u y v b (ix2 r l)
      = max ((∑ k : Fin 1024, x (ix2 r k) * u (ix2 k l)) + (∑ k : Fin 512, y (ix2 r k) * v (ix2 k l)) + b (ix2 0 l)) 0 := by
  pointwise [k0_pay1]

/-- … is rows `512 t …` of the layer. -/
theorem block_apply (t : Fin cfg0.N) (r : Fin 512) (l : Fin 1024) :
    block m c t (ix2 r l) = layer m c ⟨512 * t.val + r.val, row_lt t r⟩ l := by
  unfold block
  rw [pay1_apply]
  simp only [top_block, tail_block, x_block, y_block, b_block]
  rfl

/-- What point `n` leaves of the column sums. -/
def sums (n : Nat) (l : Fin 1024) : EReal := ∑ t ∈ Finset.range (n + 1), ∑ r : Fin 512, ext (fun i => layer m c i l) (512 * t + r.val)
/-- What point `n` leaves of the column sums of squares. -/
def squares (n : Nat) (l : Fin 1024) : EReal :=
  ∑ t ∈ Finset.range (n + 1), ∑ r : Fin 512, ext (fun i => layer m c i l * layer m c i l) (512 * t + r.val)

theorem block_ext (t : Fin cfg0.N) (r : Fin 512) (l : Fin 1024) : block m c t (ix2 r l) = ext (fun i => layer m c i l) (512 * t.val + r.val) := by
  rw [block_apply, ext, dif_pos (row_lt t r)]
theorem block_sq (t : Fin cfg0.N) (r : Fin 512) (l : Fin 1024) :
    block m c t (ix2 r l) * block m c t (ix2 r l) = ext (fun i => layer m c i l * layer m c i l) (512 * t.val + r.val) := by
  rw [block_apply, ext, dif_pos (row_lt t r)]

/-- The column sums of one block. -/
theorem pay2_apply (t : Fin cfg0.N) (l : Fin 1024) :
    k0_pay2 (iblk m c 0 t) (top (iblk m c 1 t)) (iblk m c 3 t) (tail (iblk m c 1 t)) (iblk m c 2 t) (ix2 0 l) = ∑ r : Fin 512, ext (fun i => layer m c i l) (512 * t.val + r.val) := by
  simp only [← block_ext]
  unfold k0_pay2
  show shapeCast S1x1024 (multiReduction (F := Ideal) .add [0] S1024 (block m c t) 0x00000000#32 reduces_S512x1024_S1024 (.inl rfl) rfl) _ (ix2 0 l) = _
  generalize block m c t = B
  pointwise
/-- The column sums of the squares of one block. -/
theorem pay3_apply (t : Fin cfg0.N) (l : Fin 1024) :
    k0_pay3 (iblk m c 0 t) (top (iblk m c 1 t)) (iblk m c 3 t) (tail (iblk m c 1 t)) (iblk m c 2 t) (ix2 0 l) = ∑ r : Fin 512, ext (fun i => layer m c i l * layer m c i l) (512 * t.val + r.val) := by
  simp only [← block_sq]
  unfold k0_pay3
  show shapeCast S1x1024 (multiReduction (F := Ideal) .add [0] S1024 (mulf (block m c t) (block m c t)) 0x00000000#32 reduces_S512x1024_S1024 (.inl rfl) rfl) _ (ix2 0 l) = _
  generalize block m c t = B
  pointwise

/-- A later point's sum is the old one plus the block's. -/
theorem pay4_apply (x : Vec Ideal S512x1024 .bf16) (u : Vec Ideal S1024x1024 .f32) (y : Vec Ideal S512x512 .f32) (v : Vec Ideal S512x1024 .f32)
    (b q : Vec Ideal S1x1024 .f32) (l : Fin 1024) : k0_pay4 (F := Ideal) x u y v b q (ix2 0 l) = q (ix2 0 l) + k0_pay2 (F := Ideal) x u y v b (ix2 0 l) := by
  unfold k0_pay4
  generalize k0_pay2 x u y v b = B
  pointwise
/-- A later point's sum of squares is the old one plus the block's. -/
theorem pay5_apply (x : Vec Ideal S512x1024 .bf16) (u : Vec Ideal S1024x1024 .f32) (y : Vec Ideal S512x512 .f32) (v : Vec Ideal S512x1024 .f32)
    (b q : Vec Ideal S1x1024 .f32) (l : Fin 1024) : k0_pay5 (F := Ideal) x u y v b q (ix2 0 l) = q (ix2 0 l) + k0_pay3 (F := Ideal) x u y v b (ix2 0 l) := by
  unfold k0_pay5
  generalize k0_pay3 x u y v b = B
  pointwise

/-- After point `n` the staging buffers hold the point's block and the sums so far. -/
theorem outs_eq : ∀ (n : ℕ) (h : n < cfg0.N), (outsAt0 m c n h).1 = block m c ⟨n, h⟩
    ∧ (∀ l, (outsAt0 m c n h).2.1 (ix2 0 l) = sums m c n l) ∧ ∀ l, (outsAt0 m c n h).2.2 (ix2 0 l) = squares m c n l
  | 0, h => by
    rw [outsAt0_A m c ⟨0, h⟩ rfl (by simp), first_block, first_sum, first_square]
    refine ⟨rfl, fun l => ?_, fun l => ?_⟩
    · dsimp only; rw [pay2_apply, sums, Finset.sum_range_one]
    · dsimp only; rw [pay3_apply, squares, Finset.sum_range_one]
  | n + 1, h => by
    have hN : cfg0.N = 8 := N_0
    obtain ⟨-, ih1, ih2⟩ := outs_eq n (Nat.lt_of_succ_lt h)
    rw [outsAt0_B m c ⟨n + 1, h⟩ (by dsimp only; omega) (by simp), later_block, later_sum, later_square]
    refine ⟨rfl, fun l => ?_, fun l => ?_⟩
    · show k0_pay4 _ _ _ _ _ (outsAt0 m c n _).2.1 (ix2 0 l) = _
      rw [sums, Finset.sum_range_succ, ← sums, ← ih1, ← pay2_apply m c ⟨n + 1, h⟩]
      exact pay4_apply _ _ _ _ _ _ l
    · show k0_pay5 _ _ _ _ _ (outsAt0 m c n _).2.2 (ix2 0 l) = _
      rw [squares, Finset.sum_range_succ, ← squares, ← ih2, ← pay3_apply m c ⟨n + 1, h⟩]
      exact pay5_apply _ _ _ _ _ _ l

/-- The layer as one array. -/
def result : Vec Ideal S4096x1024 .f32 := fun j => layer m c (j 0) (j 1)

/-- Every point writes back its block of the layer. -/
theorem flushed_out (t : Fin cfg0.N) : (dats m 0 c).flushed 4 t = ((cfg0.win 4).blk t).view.read (Elt Ideal) (result m c) := by
  rw [Value.flushed4, (outs_eq m c t.val t.isLt).1]
  funext j
  obtain ⟨r, k, rfl⟩ : ∃ (r : Fin 512) (k : Fin 1024), j = ix2 r k := ⟨j 0, j 1, eq_ix2 (n0 := 512) (n1 := 1024) j⟩
  rw [View.read_apply]
  refine (block_apply m c t r k).trans ?_
  show layer m c _ _ = layer m c _ _
  congr 1
  · apply Fin.ext
    show 512 * t.val + r.val = win0_4.index t 0 * 512 + 1 * r.val; rw [(out_index t).1]; omega
  · apply Fin.ext
    show k.val = win0_4.index t 1 * 1024 + 1 * k.val; rw [(out_index t).2]; omega

/-- The blocks cover the first result array. -/
theorem cover_out (i : S4096x1024.Idx) : ∃ t : Fin cfg0.N, (cfg0.win 4).flush t = true ∧ i ∈ ((cfg0.win 4).blk t).view.set := by
  have hN : cfg0.N = 8 := N_0
  have h0 : (i 0 : Nat) < 4096 := (i 0).isLt
  have h1 : (i 1 : Nat) < 1024 := (i 1).isLt
  obtain ⟨t, ht⟩ : ∃ t : Fin cfg0.N, t.val = (i 0).val / 512 := ⟨⟨(i 0).val / 512, by omega⟩, rfl⟩
  refine ⟨t, flush0_4 t, ?_⟩
  show i ∈ ((View.whole main_v1_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [(out_index t).1, ht]; omega
  | ⟨1, _⟩ => show win0_4.index t 1 * 1024 ≤ (i 1 : Nat) ∧ (i 1 : Nat) < win0_4.index t 1 * 1024 + 1024
              rw [(out_index t).2]; omega

/-- The first result array ends holding the layer. -/
theorem out_apply (i : Fin 4096) (l : Fin 1024) : (dats m 0 c).arrAt 4 cfg0.N (ix2 i l) = layer m c i l :=
  congrFun ((dats m 0 c).arrAt_eq_of_cover 4 (result m c) (fun t _ => flushed_out m c t) cover_out) (ix2 i l)

theorem last_lt : 8 - 1 < cfg0.N := by rw [show cfg0.N = 8 from N_0]; decide
theorem sum_index : ∀ t : Fin cfg0.N, win0_5.index t 0 = 0 ∧ win0_5.index t 1 = 0 :=
  (by decide +kernel : ∀ t : Fin grid0.N, win0_5.index t 0 = 0 ∧ win0_5.index t 1 = 0)
theorem square_index : ∀ t : Fin cfg0.N, win0_6.index t 0 = 0 ∧ win0_6.index t 1 = 0 :=
  (by decide +kernel : ∀ t : Fin grid0.N, win0_6.index t 0 = 0 ∧ win0_6.index t 1 = 0)

/-- The column sums, as one row. -/
def sumRow : Vec Ideal S1x1024 .f32 := fun j => sums m c (8 - 1) (j 1)

/-- The one write-back, after the last point, writes the row. -/
theorem flushed_sum (t : Fin cfg0.N) (hf : (cfg0.win 5).flush t = true) :
    (dats m 0 c).flushed 5 t = ((cfg0.win 5).blk t).view.read (Elt Ideal) (sumRow m c) := by
  have hN : cfg0.N = 8 := N_0
  have h3 : t.val = 8 - 1 := by have := (flush0_5 t).mp hf; have := t.isLt; omega
  rw [Value.flushed5]
  funext j
  obtain ⟨r, k, rfl⟩ : ∃ (r : Fin 1) (k : Fin 1024), j = ix2 r k := ⟨j 0, j 1, eq_ix2 (n0 := 1) (n1 := 1024) j⟩
  obtain rfl : r = 0 := Subsingleton.elim _ _
  rw [View.read_apply]
  refine ((outs_eq m c t.val t.isLt).2.1 k).trans ?_
  rw [h3]
  show sums m c (8 - 1) k = sums m c (8 - 1) _
  congr 1
  apply Fin.ext
  show k.val = win0_5.index t 1 * 1024 + 1 * k.val; rw [(sum_index t).2]; omega

/-- Its block is the whole row. -/
theorem cover_sum (i : S1x1024.Idx) : ∃ t : Fin cfg0.N, (cfg0.win 5).flush t = true ∧ i ∈ ((cfg0.win 5).blk t).view.set := by
  have h0 : (i 0 : Nat) < 1 := (i 0).isLt
  have h1 : (i 1 : Nat) < 1024 := (i 1).isLt
  obtain ⟨t, ht⟩ : ∃ t : Fin cfg0.N, t.val = 8 - 1 := ⟨⟨_, last_lt⟩, rfl⟩
  refine ⟨t, (flush0_5 t).mpr (by rw [ht]), ?_⟩
  show i ∈ ((View.whole main_v1_1).slice (win0_5.rect t)).set
  rw [View.set_slice_whole, Rect.mem_set_unit]
  intro a
  match a with
  | ⟨0, _⟩ => show win0_5.index t 0 * 1 ≤ (i 0 : Nat) ∧ (i 0 : Nat) < win0_5.index t 0 * 1 + 1
              rw [(sum_index t).1]; omega
  | ⟨1, _⟩ => show win0_5.index t 1 * 1024 ≤ (i 1 : Nat) ∧ (i 1 : Nat) < win0_5.index t 1 * 1024 + 1024
              rw [(sum_index t).2]; omega

/-- The second result array ends holding the layer's column sums. -/
theorem sum_apply (l : Fin 1024) : (dats m 0 c).arrAt 5 cfg0.N (ix2 0 l) = ∑ i : Fin 4096, layer m c i l := by
  rw [(dats m 0 c).arrAt_eq_of_cover 5 (sumRow m c) (flushed_sum m c) cover_sum]
  show sums m c (8 - 1) l = _
  rw [sums, sum_blocks_fin (by decide)]

/-- The column sums of squares, as one row. -/
def squareRow : Vec Ideal S1x1024 .f32 := fun j => squares m c (8 - 1) (j 1)

/-- The one write-back, after the last point, writes the row. -/
theorem flushed_square (t : Fin cfg0.N) (hf : (cfg0.win 6).flush t = true) :
    (dats m 0 c).flushed 6 t = ((cfg0.win 6).blk t).view.read (Elt Ideal) (squareRow m c) := by
  have hN : cfg0.N = 8 := N_0
  have h3 : t.val = 8 - 1 := by have := (flush0_6 t).mp hf; have := t.isLt; omega
  rw [Value.flushed6]
  funext j
  obtain ⟨r, k, rfl⟩ : ∃ (r : Fin 1) (k : Fin 1024), j = ix2 r k := ⟨j 0, j 1, eq_ix2 (n0 := 1) (n1 := 1024) j⟩
  obtain rfl : r = 0 := Subsingleton.elim _ _
  rw [View.read_apply]
  refine ((outs_eq m c t.val t.isLt).2.2 k).trans ?_
  rw [h3]
  show squares m c (8 - 1) k = squares m c (8 - 1) _
  congr 1
  apply Fin.ext
  show k.val = win0_6.index t 1 * 1024 + 1 * k.val; rw [(square_index t).2]; omega

/-- Its block is the whole row. -/
theorem cover_square (i : S1x1024.Idx) : ∃ t : Fin cfg0.N, (cfg0.win 6).flush t = true ∧ i ∈ ((cfg0.win 6).blk t).view.set := by
  have h0 : (i 0 : Nat) < 1 := (i 0).isLt
  have h1 : (i 1 : Nat) < 1024 := (i 1).isLt
  obtain ⟨t, ht⟩ : ∃ t : Fin cfg0.N, t.val = 8 - 1 := ⟨⟨_, last_lt⟩, rfl⟩
  refine ⟨t, (flush0_6 t).mpr (by rw [ht]), ?_⟩
  show i ∈ ((View.whole main_v1_2).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1
              rw [(square_index t).1]; omega
  | ⟨1, _⟩ => show win0_6.index t 1 * 1024 ≤ (i 1 : Nat) ∧ (i 1 : Nat) < win0_6.index t 1 * 1024 + 1024
              rw [(square_index t).2]; omega

/-- The third result array ends holding the layer's column sums of squares. -/
theorem square_apply (l : Fin 1024) : (dats m 0 c).arrAt 6 cfg0.N (ix2 0 l) = ∑ i : Fin 4096, layer m c i l * layer m c i l := by
  rw [(dats m 0 c).arrAt_eq_of_cover 6 (squareRow m c) (flushed_square m c) cover_square]
  show squares m c (8 - 1) l = _
  rw [squares, sum_blocks_fin (by decide)]

end Cert.Kernel4Ideal.Hand
-- ==== Proof.LayerReference4.lean ====
module
public import proofs.«01_k».proof.Proof.BatchNorm
public import proofs.«01_k».proof.Proof.Gen.Reference4Ideal.Run
@[expose] public section
set_option maxRecDepth 16384
noncomputable section
open Idealize.ShloMosaic Idealize.ShloMosaic.TcCoe Idealize.SL.Sem

/-! # What the reference of the linear layer leaves (4096 rows) -/

namespace Cert.Reference4Ideal.Hand
open Cert.Reference4Ideal Cert.Reference4Ideal.Gen Cert.BatchNorm
variable (m : (ℓ : Loc nD τ sig) → Buf (Elt Ideal) ℓ) (ρ : Dev nD → PrngReg)

/-- The reference's entry at row `i` and column `l`: the row of interpolated features and the row of skip features,
    side by side, times the weights' column, plus the bias, cut at 0. -/
def layer (c : Dev nD) (i : Fin 4096) (l : Fin 1024) : EReal :=
  skipEntry (kk := 1536) rfl (fun k : Fin 1024 => m ((c.tc : Thread nD τ).loc main_arg0) (ix2 i k))
    (fun k : Fin 512 => m ((c.tc : Thread nD τ).loc main_arg1) (ix2 i k)) (fun k => m ((c.tc : Thread nD τ).loc main_arg2) (ix2 k l))
    (m ((c.tc : Thread nD τ).loc main_arg3) (ix1 l))

/-- The run: the layer, its column sums and its column sums of squares; the arguments are unchanged. -/
theorem run_layer : θ_run defs (onTc (τ := τ) (main (F := Ideal))) ⟨m, fun _ => 0, ρ⟩ fun r => ∀ c : Dev nD,
      (∀ (i : Fin 4096) (l : Fin 1024), r.2.mem ((c.tc : Thread nD τ).loc main_v6) (ix2 i l) = layer m c i l)
      ∧ (∀ l : Fin 1024, r.2.mem ((c.tc : Thread nD τ).loc main_v8) (ix2 0 l) = ∑ i : Fin 4096, layer m c i l)
      ∧ (∀ l : Fin 1024, r.2.mem ((c.tc : Thread nD τ).loc main_v11) (ix2 0 l) = ∑ i : Fin 4096, layer m c i l * layer m c i l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference4Ideal.Value.run (F := Ideal) m ρ)
  obtain ⟨h1, h2, h3, h4⟩ := h c
  refine ⟨fun i l => ?_, fun l => ?_, fun l => ?_, h4⟩
  · rw [h1]; clear h1 h2 h3 h4
    pointwise
    rfl
  · rw [h2]; clear h1 h2 h3 h4
    pointwise
    rfl
  · rw [h3]; clear h1 h2 h3 h4
    pointwise
    rfl

end Cert.Reference4Ideal.Hand
-- ==== Proof.LayerClaim4.lean ====
module
public import proofs.«01_k».proof.Defs
public import proofs.«01_k».proof.Proof.Layer4
public import proofs.«01_k».proof.Proof.LayerReference4
public import Idealize.ShloMosaic.Lib.ReduceAll
@[expose] public section
set_option maxRecDepth 16384
noncomputable section
open Idealize.ShloMosaic Idealize.ShloMosaic.TcCoe Idealize.SL.Sem

/-! # The linear layer's kernel computes its reference (4096 rows) -/

namespace Cert.Layer4
open Cert.BatchNorm

variable [hK : Cert.Kernel4Ideal.Facts] [hR : Cert.Reference4Ideal.Facts]

/-- The kernel's three results are the reference's: the layer, its column sums and its column sums of squares. -/
theorem algebraic : Cert.algebraic_Kernel4Ideal_Reference4Ideal := by
  intro m ρ m' ρ' _ hagree
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N,
    fun c => (Cert.Kernel4Ideal.Gen.dats m 0 c).arrAt 6 Cert.Kernel4Ideal.cfg0.N, Cert.Kernel4Ideal.Value.run_blocks m ρ, ?_⟩
  refine (θ_run Cert.Reference4Ideal.defs _ _).mono (fun r h c => ?_) (Cert.Reference4Ideal.Hand.run_layer m' ρ')
  obtain ⟨h1, h2, h3, h4⟩ := h c
  obtain ⟨a0, a1, a2, a3⟩ := hagree c
  have key : ∀ (i : Fin 4096) (l : Fin 1024), Cert.Kernel4Ideal.Hand.layer m c i l = Cert.Reference4Ideal.Hand.layer m' c i l := fun i l => by
    unfold Cert.Kernel4Ideal.Hand.layer Cert.Reference4Ideal.Hand.layer
    rw [a0, a1, a2, a3]
  refine ⟨?_, ?_, ?_, h4⟩
  · funext j
    obtain ⟨i, l, rfl⟩ : ∃ (i : Fin 4096) (l : Fin 1024), j = ix2 i l := ⟨j 0, j 1, eq_ix2 (n0 := 4096) (n1 := 1024) j⟩
    exact (h1 i l).trans ((key i l).symm.trans (Cert.Kernel4Ideal.Hand.out_apply m c i l).symm)
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    refine (h2 l).trans (Eq.trans ?_ (Cert.Kernel4Ideal.Hand.sum_apply m c l).symm)
    simp only [key]
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    refine (h3 l).trans (Eq.trans ?_ (Cert.Kernel4Ideal.Hand.square_apply m c l).symm)
    simp only [key]

end Cert.Layer4
-- ==== Proof.Layer5.lean ====
module
public import proofs.«01_k».proof.Proof.BatchNorm
public import proofs.«01_k».proof.Proof.Gen.Kernel5Ideal.Value
public import Idealize.ShloMosaic.Lib.Pipeline.Value
public import Idealize.ShloMosaic.Lib.StableHlo.ReadAt
public import Idealize.ShloMosaic.Lib.Tactic
@[expose] public section
set_option maxRecDepth 16384
noncomputable section
open Idealize.ShloMosaic Idealize.ShloMosaic.TcCoe Idealize.SL.Sem
open Idealize.ShloMosaic.Pipeline (Dat)

/-! # What the fused linear layer with a normalised input leaves in its three result arrays (4096 rows) -/

namespace Cert.Kernel5Ideal.Hand

open Cert.Kernel5Ideal Cert.Kernel5Ideal.Gen Cert.BatchNorm

theorem hz : (![0, 0] : Fin 2 → Nat) = fun _ => 0 := funext fun a => by fin_cases a <;> rfl

/-! ## One grid point -/

section Point
variable {F : FTy → Type} [FloatOps F]
variable (c : Dev nD) (i : grid0.Coords)
  (a1 : Memref sig .tc .vmem S512x1024 .f32) (h1 : a1.IsWhole) (a2 : Memref sig .tc .vmem S1024x1024 .f32) (h2 : a2.IsWhole)
  (a3 : Memref sig .tc .vmem S1x1024 .f32) (h3 : a3.IsWhole) (a4 : Memref sig .tc .vmem S1x1024 .f32) (h4 : a4.IsWhole)
  (a5 : Memref sig .tc .vmem S1x1024 .f32) (h5 : a5.IsWhole) (a6 : Memref sig .tc .vmem S1x1024 .f32) (h6 : a6.IsWhole)
  (a7 : Memref sig .tc .vmem S1x1024 .f32) (h7 : a7.IsWhole) (a8 : Memref sig .tc .vmem S512x1024 .f32) (h8 : a8.IsWhole)
  (a9 : Memref sig .tc .vmem S1x1024 .f32) (h9 : a9.IsWhole) (a10 : Memref sig .tc .vmem S1x1024 .f32) (h10 : a10.IsWhole)
  (x : Vec F S512x1024 .f32) (w : Vec F S1024x1024 .f32) (b s ss g be : Vec F S1x1024 .f32) (p q : Vec F S1x1024 .f32)

/-- The first point stores the layer's block. -/
theorem first_block (hc0 : cond0_0 i) (hc1 : ¬cond0_1 i) :
    out0_A_7 c i a1 h1 a2 h2 a3 h3 a4 h4 a5 h5 a6 h6 a7 h7 a8 h8 a9 h9 a10 h10 hc0 hc1 x w b s ss g be = k0_pay4 x s ss g be w b := by
  unfold out0_A_7
  rw [View.read_writes_eq_canon _ _ _ (cover0_A_7 c i a1 h1 a2 h2 a3 h3 a4 h4 a5 h5 a6 h6 a7 h7 a8 h8 a9 h9 a10 h10 hc0 hc1 x w b s ss g be)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- The first point stores the block's column sums. -/
theorem first_sum (hc0 : cond0_0 i) (hc1 : ¬cond0_1 i) :
    out0_A_8 c i a1 h1 a2 h2 a3 h3 a4 h4 a5 h5 a6 h6 a7 h7 a8 h8 a9 h9 a10 h10 hc0 hc1 x w b s ss g be = k0_pay5 x s ss g be w b := by
  unfold out0_A_8
  rw [View.read_writes_eq_canon _ _ _ (cover0_A_8 c i a1 h1 a2 h2 a3 h3 a4 h4 a5 h5 a6 h6 a7 h7 a8 h8 a9 h9 a10 h10 hc0 hc1 x w b s ss g be)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- The first point stores the column sums of the block's squares. -/
theorem first_square (hc0 : cond0_0 i) (hc1 : ¬cond0_1 i) :
    out0_A_9 c i a1 h1 a2 h2 a3 h3 a4 h4 a5 h5 a6 h6 a7 h7 a8 h8 a9 h9 a10 h10 hc0 hc1 x w b s ss g be = k0_pay1 (k0_pay6 x s ss g be w b) := by
  unfold out0_A_9
  rw [View.read_writes_eq_canon _ _ _ (cover0_A_9 c i a1 h1 a2 h2 a3 h3 a4 h4 a5 h5 a6 h6 a7 h7 a8 h8 a9 h9 a10 h10 hc0 hc1 x w b s ss g be)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- A later point stores the layer's block. -/
theorem later_block (hc0 : ¬cond0_0 i) (hc1 : cond0_1 i) :
    out0_B_7 c i a1 h1 a2 h2 a3 h3 a4 h4 a5 h5 a6 h6 a7 h7 a8 h8 a9 h9 a10 h10 hc0 hc1 x w b s ss g be p q = k0_pay4 x s ss g be w b := by
  unfold out0_B_7
  rw [View.read_writes_eq_canon _ _ _ (cover0_B_7 c i a1 h1 a2 h2 a3 h3 a4 h4 a5 h5 a6 h6 a7 h7 a8 h8 a9 h9 a10 h10 hc0 hc1 x w b s ss g be p q)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S512x1024) hz, View.ld_unit_zero (S := S1024x1024) hz, View.ld_unit_zero (S := S1x1024) hz]

/-- A later point adds the block's column sums to what the point before left. -/
theorem later_sum (hc0 : ¬cond0_0 i) (hc1 : cond0_1 i) :
    out0_B_8 c i a1 h1 a2 h2 a3 h3 a4 h4 a5 h5 a6 h6 a7 h7 a8 h8 a9 h9 a10 h10 hc0 hc1 x w b s ss g be p q = k0_pay2 (k0_pay5 x s ss g be w b) p := by
  unfold out0_B_8
  rw [View.read_writes_eq_canon _ _ _ (cover0_B_8 c i a1 h1 a2 h2 a3 h3 a4 h4 a5 h5 a6 h6 a7 h7 a8 h8 a9 h9 a10 h10 hc0 hc1 x w b s ss g be p q)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h9.read_unread, View.ld_unit_zero (S := S512x1024) hz, View.ld_unit_zero (S := S1024x1024) hz, View.ld_unit_zero (S := S1x1024) hz]

/-- A later point adds the column sums of the block's squares to what the point before left. -/
theorem later_square (hc0 : ¬cond0_0 i) (hc1 : cond0_1 i) :
    out0_B_9 c i a1 h1 a2 h2 a3 h3 a4 h4 a5 h5 a6 h6 a7 h7 a8 h8 a9 h9 a10 h10 hc0 hc1 x w b s ss g be p q = k0_pay3 (k0_pay6 x s ss g be w b) q := by
  unfold out0_B_9
  rw [View.read_writes_eq_canon _ _ _ (cover0_B_9 c i a1 h1 a2 h2 a3 h3 a4 h4 a5 h5 a6 h6 a7 h7 a8 h8 a9 h9 a10 h10 hc0 hc1 x w b s ss g be p q)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h10.read_unread, View.ld_unit_zero (S := S512x1024) hz, View.ld_unit_zero (S := S1024x1024) hz, View.ld_unit_zero (S := S1x1024) hz]

end Point

/-! ## The blocks the windows fetch -/

section Fetch
variable {F : FTy → Type} [FloatOps F]
variable (m : (ℓ : Loc nD τ sig) → Buf (Elt F) ℓ) (c : Dev nD)

theorem row_index : ∀ t : Fin cfg0.N, win0_0.index t 0 = t.val ∧ win0_0.index t 1 = 0 :=
  (by decide +kernel : ∀ t : Fin grid0.N, win0_0.index t 0 = t.val ∧ win0_0.index t 1 = 0)
theorem out_index : ∀ t : Fin cfg0.N, win0_7.index t 0 = t.val ∧ win0_7.index t 1 = 0 :=
  (by decide +kernel : ∀ t : Fin grid0.N, win0_7.index t 0 = t.val ∧ win0_7.index t 1 = 0)
theorem w_index : ∀ t : Fin cfg0.N, win0_1.index t 0 = 0 ∧ win0_1.index t 1 = 0 :=
  (by decide +kernel : ∀ t : Fin grid0.N, win0_1.index t 0 = 0 ∧ win0_1.index t 1 = 0)
theorem b_index : ∀ t : Fin cfg0.N, win0_2.index t 0 = 0 ∧ win0_2.index t 1 = 0 :=
  (by decide +kernel : ∀ t : Fin grid0.N, win0_2.index t 0 = 0 ∧ win0_2.index t 1 = 0)
theorem s_index : ∀ t : Fin cfg0.N, win0_3.index t 0 = 0 ∧ win0_3.index t 1 = 0 :=
  (by decide +kernel : ∀ t : Fin grid0.N, win0_3.index t 0 = 0 ∧ win0_3.index t 1 = 0)
theorem ss_index : ∀ t : Fin cfg0.N, win0_4.index t 0 = 0 ∧ win0_4.index t 1 = 0 :=
  (by decide +kernel : ∀ t : Fin grid0.N, win0_4.index t 0 = 0 ∧ win0_4.index t 1 = 0)
theorem g_index : ∀ t : Fin cfg0.N, win0_5.index t 0 = 0 ∧ win0_5.index t 1 = 0 :=
  (by decide +kernel : ∀ t : Fin grid0.N, win0_5.index t 0 = 0 ∧ win0_5.index t 1 = 0)
theorem be_index : ∀ t : Fin cfg0.N, win0_6.index t 0 = 0 ∧ win0_6.index t 1 = 0 :=
  (by decide +kernel : ∀ t : Fin grid0.N, win0_6.index t 0 = 0 ∧ win0_6.index t 1 = 0)

theorem row_lt (t : Fin cfg0.N) (r : Fin 512) : 512 * t.val + r.val < 4096 := by
  have := t.isLt; have hN : cfg0.N = 8 := N_0; omega

/-- Point `t`'s block of the activations is rows `512 t …` of them. -/
theorem x_block (t : Fin cfg0.N) (r : Fin 512) (k : Fin 1024) :
    (iblk m c 0 t : Vec F S512x1024 .f32) (ix2 r k) = m ((c.tc : Thread nD τ).loc main_arg0) (ix2 ⟨512 * t.val + r.val, row_lt t r⟩ k) := by
  unfold iblk
  rw [View.read_apply]
  show V m c main_arg0 _ = _
  rw [V_main_arg0]
  congr 1; funext a; apply Fin.ext
  match a with
  | ⟨0, _⟩ => show win0_0.index t 0 * 512 + 1 * r.val = 512 * t.val + r.val; rw [(row_index t).1]; omega
  | ⟨1, _⟩ => show win0_0.index t 1 * 1024 + 1 * k.val = k.val; rw [(row_index t).2]; omega

/-- Every point fetches the whole weight matrix. -/
theorem w_block (t : Fin cfg0.N) (r k : Fin 1024) :
    (iblk m c 1 t : Vec F S1024x1024 .f32) (ix2 r k) = m ((c.tc : Thread nD τ).loc main_arg5) (ix2 r k) := by
  unfold iblk
  rw [View.read_apply]
  show V m c main_arg5 _ = _
  rw [V_main_arg5]
  congr 1; funext a; apply Fin.ext
  match a with
  | ⟨0, _⟩ => show win0_1.index t 0 * 1024 + 1 * r.val = r.val; rw [(w_index t).1]; omega
  | ⟨1, _⟩ => show win0_1.index t 1 * 1024 + 1 * k.val = k.val; rw [(w_index t).2]; omega

/-- Every point fetches the row of column sums. -/
theorem s_block (t : Fin cfg0.N) (k : Fin 1024) :
    (iblk m c 3 t : Vec F S1x1024 .f32) (ix2 0 k) = m ((c.tc : Thread nD τ).loc main_arg1) (ix2 0 k) := by
  unfold iblk
  rw [View.read_apply]
  show V m c main_arg1 _ = _
  rw [V_main_arg1]
  congr 1; funext a; apply Fin.ext
  match a with
  | ⟨0, _⟩ => show win0_3.index t 0 * 1 + 1 * 0 = 0; rw [(s_index t).1]
  | ⟨1, _⟩ => show win0_3.index t 1 * 1024 + 1 * k.val = k.val; rw [(s_index t).2]; omega

/-- Every point fetches the row of column sums of squares. -/
theorem ss_block (t : Fin cfg0.N) (k : Fin 1024) :
    (iblk m c 4 t : Vec F S1x1024 .f32) (ix2 0 k) = m ((c.tc : Thread nD τ).loc main_arg2) (ix2 0 k) := by
  unfold iblk
  rw [View.read_apply]
  show V m c main_arg2 _ = _
  rw [V_main_arg2]
  congr 1; funext a; apply Fin.ext
  match a with
  | ⟨0, _⟩ => show win0_4.index t 0 * 1 + 1 * 0 = 0; rw [(ss_index t).1]
  | ⟨1, _⟩ => show win0_4.index t 1 * 1024 + 1 * k.val = k.val; rw [(ss_index t).2]; omega

/-- The bias as the region finds it: the argument as one row. -/
theorem b_entry (k : Fin 1024) : (V m c main_v0 : Vec F S1x1024 .f32) (ix2 0 k) = m ((c.tc : Thread nD τ).loc main_arg6) (ix1 k) := by
  unfold V
  after_reads_at
/-- The factor `g` as the region finds it: the argument as one row. -/
theorem g_entry (k : Fin 1024) : (V m c main_v1 : Vec F S1x1024 .f32) (ix2 0 k) = m ((c.tc : Thread nD τ).loc main_arg3) (ix1 k) := by
  unfold V
  after_reads_at
/-- The shift `be` as the region finds it: the argument as one row. -/
theorem be_entry (k : Fin 1024) : (V m c main_v2 : Vec F S1x1024 .f32) (ix2 0 k) = m ((c.tc : Thread nD τ).loc main_arg4) (ix1 k) := by
  unfold V
  after_reads_at

/-- Every point fetches the bias row. -/
theorem b_block (t : Fin cfg0.N) (k : Fin 1024) :
    (iblk m c 2 t : Vec F S1x1024 .f32) (ix2 0 k) = m ((c.tc : Thread nD τ).loc main_arg6) (ix1 k) := by
  rw [← b_entry m c k]
  unfold iblk
  rw [View.read_apply]
  show V m c main_v0 _ = V m c main_v0 _
  congr 1; funext a; apply Fin.ext
  match a with
  | ⟨0, _⟩ => show win0_2.index t 0 * 1 + 1 * 0 = 0; rw [(b_index t).1]
  | ⟨1, _⟩ => show win0_2.index t 1 * 1024 + 1 * k.val = k.val; rw [(b_index t).2]; omega
/-- Every point fetches the row of factors `g`. -/
theorem g_block (t : Fin cfg0.N) (k : Fin 1024) :
    (iblk m c 5 t : Vec F S1x1024 .f32) (ix2 0 k) = m ((c.tc : Thread nD τ).loc main_arg3) (ix1 k) := by
  rw [← g_entry m c k]
  unfold iblk
  rw [View.read_apply]
  show V m c main_v1 _ = V m c main_v1 _
  congr 1; funext a; apply Fin.ext
  match a with
  | ⟨0, _⟩ => show win0_5.index t 0 * 1 + 1 * 0 = 0; rw [(g_index t).1]
  | ⟨1, _⟩ => show win0_5.index t 1 * 1024 + 1 * k.val = k.val; rw [(g_index t).2]; omega
/-- Every point fetches the row of shifts `be`. -/
theorem be_block (t : Fin cfg0.N) (k : Fin 1024) :
    (iblk m c 6 t : Vec F S1x1024 .f32) (ix2 0 k) = m ((c.tc : Thread nD τ).loc main_arg4) (ix1 k) := by
  rw [← be_entry m c k]
  unfold iblk
  rw [View.read_apply]
  show V m c main_v2 _ = V m c main_v2 _
  congr 1; funext a; apply Fin.ext
  match a with
  | ⟨0, _⟩ => show win0_6.index t 0 * 1 + 1 * 0 = 0; rw [(be_index t).1]
  | ⟨1, _⟩ => show win0_6.index t 1 * 1024 + 1 * k.val = k.val; rw [(be_index t).2]; omega

end Fetch

/-! ## Over the extended reals -/

variable (m : (ℓ : Loc nD τ sig) → Buf (Elt Ideal) ℓ) (ρ : Dev nD → PrngReg) (c : Dev nD)

/-- The layer's entry at row `i` and column `l`: the folded normalisation of the row times the weights' column, plus
    the bias, cut at 0. -/
def layer (i : Fin 4096) (l : Fin 1024) : EReal :=
  max ((∑ k : Fin 1024, folded (Ideal.ofBits .f32 964689920#32) (Ideal.ofBits .f32 925353388#32)
      (m ((c.tc : Thread nD τ).loc main_arg1) (ix2 0 k)) (m ((c.tc : Thread nD τ).loc main_arg2) (ix2 0 k))
      (m ((c.tc : Thread nD τ).loc main_arg3) (ix1 k)) (m ((c.tc : Thread nD τ).loc main_arg4) (ix1 k))
      (m ((c.tc : Thread nD τ).loc main_arg0) (ix2 i k)) * m ((c.tc : Thread nD τ).loc main_arg5) (ix2 k l))
    + m ((c.tc : Thread nD τ).loc main_arg6) (ix1 l)) 0

/-- The block point `t` computes. -/
abbrev block (t : Fin cfg0.N) : FVec Ideal S512x1024 .f32 :=
  k0_pay4 (iblk m c 0 t) (iblk m c 3 t) (iblk m c 4 t) (iblk m c 5 t) (iblk m c 6 t) (iblk m c 1 t) (iblk m c 2 t)

/-- … is rows `512 t …` of the layer. -/
theorem block_apply (t : Fin cfg0.N) (r : Fin 512) (l : Fin 1024) :
    block m c t (ix2 r l) = layer m c ⟨512 * t.val + r.val, row_lt t r⟩ l := by
  unfold block
  pointwise [k0_pay4]
  simp only [x_block, w_block, s_block, ss_block, b_block, g_block, be_block]
  rfl

/-- What point `n` leaves of the column sums. -/
def sums (n : Nat) (l : Fin 1024) : EReal := ∑ t ∈ Finset.range (n + 1), ∑ r : Fin 512, ext (fun i => layer m c i l) (512 * t + r.val)
/-- What point `n` leaves of the column sums of squares. -/
def squares (n : Nat) (l : Fin 1024) : EReal :=
  ∑ t ∈ Finset.range (n + 1), ∑ r : Fin 512, ext (fun i => layer m c i l * layer m c i l) (512 * t + r.val)

theorem block_ext (t : Fin cfg0.N) (r : Fin 512) (l : Fin 1024) : block m c t (ix2 r l) = ext (fun i => layer m c i l) (512 * t.val + r.val) := by
  rw [block_apply, ext, dif_pos (row_lt t r)]
theorem block_sq (t : Fin cfg0.N) (r : Fin 512) (l : Fin 1024) :
    block m c t (ix2 r l) * block m c t (ix2 r l) = ext (fun i => layer m c i l * layer m c i l) (512 * t.val + r.val) := by
  rw [block_apply, ext, dif_pos (row_lt t r)]

/-- The column sums of one block. -/
theorem pay5_apply (t : Fin cfg0.N) (l : Fin 1024) :
    k0_pay5 (iblk m c 0 t) (iblk m c 3 t) (iblk m c 4 t) (iblk m c 5 t) (iblk m c 6 t) (iblk m c 1 t) (iblk m c 2 t) (ix2 0 l)
      = ∑ r : Fin 512, ext (fun i => layer m c i l) (512 * t.val + r.val) := by
  simp only [← block_ext]
  show k0_pay1 (block m c t) (ix2 0 l) = _
  generalize block m c t = B
  pointwise [k0_pay1]
/-- The column sums of the squares of one block. -/
theorem pay6_apply (t : Fin cfg0.N) (l : Fin 1024) :
    k0_pay1 (k0_pay6 (iblk m c 0 t) (iblk m c 3 t) (iblk m c 4 t) (iblk m c 5 t) (iblk m c 6 t) (iblk m c 1 t) (iblk m c 2 t)) (ix2 0 l)
      = ∑ r : Fin 512, ext (fun i => layer m c i l * layer m c i l) (512 * t.val + r.val) := by
  simp only [← block_sq]
  show k0_pay1 (mulf (block m c t) (block m c t)) (ix2 0 l) = _
  generalize block m c t = B
  pointwise [k0_pay1]

/-- A later point's sum is the old one plus the block's. -/
theorem pay2_apply (x q : FVec Ideal S1x1024 .f32) (l : Fin 1024) : k0_pay2 x q (ix2 0 l) = q (ix2 0 l) + x (ix2 0 l) := by
  pointwise [k0_pay2]
/-- A later point's sum of squares is the old one plus the block's. -/
theorem pay3_apply (x : FVec Ideal S512x1024 .f32) (q : FVec Ideal S1x1024 .f32) (l : Fin 1024) :
    k0_pay3 x q (ix2 0 l) = q (ix2 0 l) + k0_pay1 x (ix2 0 l) := by
  pointwise [k0_pay3, k0_pay1]

/-- After point `n` the staging buffers hold the point's block and the sums so far. -/
theorem outs_eq : ∀ (n : ℕ) (h : n < cfg0.N), (outsAt0 m c n h).1 = block m c ⟨n, h⟩
    ∧ (∀ l, (outsAt0 m c n h).2.1 (ix2 0 l) = sums m c n l) ∧ ∀ l, (outsAt0 m c n h).2.2 (ix2 0 l) = squares m c n l
  | 0, h => by
    rw [outsAt0_A m c ⟨0, h⟩ rfl (by simp), first_block, first_sum, first_square]
    refine ⟨rfl, fun l => ?_, fun l => ?_⟩
    · dsimp only; rw [pay5_apply, sums, Finset.sum_range_one]
    · dsimp only; rw [pay6_apply, squares, Finset.sum_range_one]
  | n + 1, h => by
    have hN : cfg0.N = 8 := N_0
    obtain ⟨-, ih1, ih2⟩ := outs_eq n (Nat.lt_of_succ_lt h)
    rw [outsAt0_B m c ⟨n + 1, h⟩ (by dsimp only; omega) (by simp), later_block, later_sum, later_square]
    refine ⟨rfl, fun l => ?_, fun l => ?_⟩
    · show k0_pay2 _ (outsAt0 m c n _).2.1 (ix2 0 l) = _
      rw [sums, Finset.sum_range_succ, ← sums, ← ih1, ← pay5_apply m c ⟨n + 1, h⟩]
      exact pay2_apply _ _ l
    · show k0_pay3 _ (outsAt0 m c n _).2.2 (ix2 0 l) = _
      rw [squares, Finset.sum_range_succ, ← squares, ← ih2, ← pay6_apply m c ⟨n + 1, h⟩]
      exact pay3_apply _ _ l

/-- The layer as one array. -/
def result : Vec Ideal S4096x1024 .f32 := fun j => layer m c (j 0) (j 1)

/-- Every point writes back its block of the layer. -/
theorem flushed_out (t : Fin cfg0.N) : (dats m 0 c).flushed 7 t = ((cfg0.win 7).blk t).view.read (Elt Ideal) (result m c) := by
  rw [Value.flushed7, (outs_eq m c t.val t.isLt).1]
  funext j
  obtain ⟨r, k, rfl⟩ : ∃ (r : Fin 512) (k : Fin 1024), j = ix2 r k := ⟨j 0, j 1, eq_ix2 (n0 := 512) (n1 := 1024) j⟩
  rw [View.read_apply]
  refine (block_apply m c t r k).trans ?_
  show layer m c _ _ = layer m c _ _
  congr 1
  · apply Fin.ext
    show 512 * t.val + r.val = win0_7.index t 0 * 512 + 1 * r.val; rw [(out_index t).1]; omega
  · apply Fin.ext
    show k.val = win0_7.index t 1 * 1024 + 1 * k.val; rw [(out_index t).2]; omega

/-- The blocks cover the first result array. -/
theorem cover_out (i : S4096x1024.Idx) : ∃ t : Fin cfg0.N, (cfg0.win 7).flush t = true ∧ i ∈ ((cfg0.win 7).blk t).view.set := by
  have hN : cfg0.N = 8 := N_0
  have h0 : (i 0 : Nat) < 4096 := (i 0).isLt
  have h1 : (i 1 : Nat) < 1024 := (i 1).isLt
  obtain ⟨t, ht⟩ : ∃ t : Fin cfg0.N, t.val = (i 0).val / 512 := ⟨⟨(i 0).val / 512, by omega⟩, rfl⟩
  refine ⟨t, flush0_7 t, ?_⟩
  show i ∈ ((View.whole main_v3_0).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [(out_index t).1, ht]; omega
  | ⟨1, _⟩ => show win0_7.index t 1 * 1024 ≤ (i 1 : Nat) ∧ (i 1 : Nat) < win0_7.index t 1 * 1024 + 1024
              rw [(out_index t).2]; omega

/-- The first result array ends holding the layer. -/
theorem out_apply (i : Fin 4096) (l : Fin 1024) : (dats m 0 c).arrAt 7 cfg0.N (ix2 i l) = layer m c i l :=
  congrFun ((dats m 0 c).arrAt_eq_of_cover 7 (result m c) (fun t _ => flushed_out m c t) cover_out) (ix2 i l)

theorem last_lt : 8 - 1 < cfg0.N := by rw [show cfg0.N = 8 from N_0]; decide
theorem sum_index : ∀ t : Fin cfg0.N, win0_8.index t 0 = 0 ∧ win0_8.index t 1 = 0 :=
  (by decide +kernel : ∀ t : Fin grid0.N, win0_8.index t 0 = 0 ∧ win0_8.index t 1 = 0)
theorem square_index : ∀ t : Fin cfg0.N, win0_9.index t 0 = 0 ∧ win0_9.index t 1 = 0 :=
  (by decide +kernel : ∀ t : Fin grid0.N, win0_9.index t 0 = 0 ∧ win0_9.index t 1 = 0)

/-- The column sums, as one row. -/
def sumRow : Vec Ideal S1x1024 .f32 := fun j => sums m c (8 - 1) (j 1)

/-- The one write-back, after the last point, writes the row. -/
theorem flushed_sum (t : Fin cfg0.N) (hf : (cfg0.win 8).flush t = true) :
    (dats m 0 c).flushed 8 t = ((cfg0.win 8).blk t).view.read (Elt Ideal) (sumRow m c) := by
  have hN : cfg0.N = 8 := N_0
  have h3 : t.val = 8 - 1 := by have := (flush0_8 t).mp hf; have := t.isLt; omega
  rw [Value.flushed8]
  funext j
  obtain ⟨r, k, rfl⟩ : ∃ (r : Fin 1) (k : Fin 1024), j = ix2 r k := ⟨j 0, j 1, eq_ix2 (n0 := 1) (n1 := 1024) j⟩
  obtain rfl : r = 0 := Subsingleton.elim _ _
  rw [View.read_apply]
  refine ((outs_eq m c t.val t.isLt).2.1 k).trans ?_
  rw [h3]
  show sums m c (8 - 1) k = sums m c (8 - 1) _
  congr 1
  apply Fin.ext
  show k.val = win0_8.index t 1 * 1024 + 1 * k.val; rw [(sum_index t).2]; omega

/-- Its block is the whole row. -/
theorem cover_sum (i : S1x1024.Idx) : ∃ t : Fin cfg0.N, (cfg0.win 8).flush t = true ∧ i ∈ ((cfg0.win 8).blk t).view.set := by
  have h0 : (i 0 : Nat) < 1 := (i 0).isLt
  have h1 : (i 1 : Nat) < 1024 := (i 1).isLt
  obtain ⟨t, ht⟩ : ∃ t : Fin cfg0.N, t.val = 8 - 1 := ⟨⟨_, last_lt⟩, rfl⟩
  refine ⟨t, (flush0_8 t).mpr (by rw [ht]), ?_⟩
  show i ∈ ((View.whole main_v3_1).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1
              rw [(sum_index t).1]; omega
  | ⟨1, _⟩ => show win0_8.index t 1 * 1024 ≤ (i 1 : Nat) ∧ (i 1 : Nat) < win0_8.index t 1 * 1024 + 1024
              rw [(sum_index t).2]; omega

/-- The second result array ends holding the layer's column sums. -/
theorem sum_apply (l : Fin 1024) : (dats m 0 c).arrAt 8 cfg0.N (ix2 0 l) = ∑ i : Fin 4096, layer m c i l := by
  rw [(dats m 0 c).arrAt_eq_of_cover 8 (sumRow m c) (flushed_sum m c) cover_sum]
  show sums m c (8 - 1) l = _
  rw [sums, sum_blocks_fin (by decide)]

/-- The column sums of squares, as one row. -/
def squareRow : Vec Ideal S1x1024 .f32 := fun j => squares m c (8 - 1) (j 1)

/-- The one write-back, after the last point, writes the row. -/
theorem flushed_square (t : Fin cfg0.N) (hf : (cfg0.win 9).flush t = true) :
    (dats m 0 c).flushed 9 t = ((cfg0.win 9).blk t).view.read (Elt Ideal) (squareRow m c) := by
  have hN : cfg0.N = 8 := N_0
  have h3 : t.val = 8 - 1 := by have := (flush0_9 t).mp hf; have := t.isLt; omega
  rw [Value.flushed9]
  funext j
  obtain ⟨r, k, rfl⟩ : ∃ (r : Fin 1) (k : Fin 1024), j = ix2 r k := ⟨j 0, j 1, eq_ix2 (n0 := 1) (n1 := 1024) j⟩
  obtain rfl : r = 0 := Subsingleton.elim _ _
  rw [View.read_apply]
  refine ((outs_eq m c t.val t.isLt).2.2 k).trans ?_
  rw [h3]
  show squares m c (8 - 1) k = squares m c (8 - 1) _
  congr 1
  apply Fin.ext
  show k.val = win0_9.index t 1 * 1024 + 1 * k.val; rw [(square_index t).2]; omega

/-- Its block is the whole row. -/
theorem cover_square (i : S1x1024.Idx) : ∃ t : Fin cfg0.N, (cfg0.win 9).flush t = true ∧ i ∈ ((cfg0.win 9).blk t).view.set := by
  have h0 : (i 0 : Nat) < 1 := (i 0).isLt
  have h1 : (i 1 : Nat) < 1024 := (i 1).isLt
  obtain ⟨t, ht⟩ : ∃ t : Fin cfg0.N, t.val = 8 - 1 := ⟨⟨_, last_lt⟩, rfl⟩
  refine ⟨t, (flush0_9 t).mpr (by rw [ht]), ?_⟩
  show i ∈ ((View.whole main_v3_2).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1
              rw [(square_index t).1]; omega
  | ⟨1, _⟩ => show win0_9.index t 1 * 1024 ≤ (i 1 : Nat) ∧ (i 1 : Nat) < win0_9.index t 1 * 1024 + 1024
              rw [(square_index t).2]; omega

/-- The third result array ends holding the layer's column sums of squares. -/
theorem square_apply (l : Fin 1024) : (dats m 0 c).arrAt 9 cfg0.N (ix2 0 l) = ∑ i : Fin 4096, layer m c i l * layer m c i l := by
  rw [(dats m 0 c).arrAt_eq_of_cover 9 (squareRow m c) (flushed_square m c) cover_square]
  show squares m c (8 - 1) l = _
  rw [squares, sum_blocks_fin (by decide)]

end Cert.Kernel5Ideal.Hand
-- ==== Proof.LayerReference5.lean ====
module
public import proofs.«01_k».proof.Proof.BatchNorm
public import proofs.«01_k».proof.Proof.Gen.Reference5Ideal.Run
@[expose] public section
set_option maxRecDepth 16384
noncomputable section
open Idealize.ShloMosaic Idealize.ShloMosaic.TcCoe Idealize.SL.Sem

/-! # What the reference of the linear layer leaves (4096 rows) -/

namespace Cert.Reference5Ideal.Hand
open Cert.Reference5Ideal Cert.Reference5Ideal.Gen Cert.BatchNorm
variable (m : (ℓ : Loc nD τ sig) → Buf (Elt Ideal) ℓ) (ρ : Dev nD → PrngReg)

/-- The reference's entry at row `i` and column `l`: the plain normalisation of the row times the weights' column, plus
    the bias, cut at 0. -/
def layer (c : Dev nD) (i : Fin 4096) (l : Fin 1024) : EReal :=
  max ((∑ k : Fin 1024, plain (Ideal.ofBits .f32 1166016512#32) (Ideal.ofBits .f32 925353388#32)
      (fun i : Fin 4096 => m ((c.tc : Thread nD τ).loc main_arg0) (ix2 i k))
      (m ((c.tc : Thread nD τ).loc main_arg3) (ix1 k)) (m ((c.tc : Thread nD τ).loc main_arg4) (ix1 k))
      (m ((c.tc : Thread nD τ).loc main_arg0) (ix2 i k)) * m ((c.tc : Thread nD τ).loc main_arg5) (ix2 k l))
    + m ((c.tc : Thread nD τ).loc main_arg6) (ix1 l)) 0

/-- The run: the layer, its column sums and its column sums of squares; the arguments are unchanged. -/
theorem run_layer : θ_run defs (onTc (τ := τ) (main (F := Ideal))) ⟨m, fun _ => 0, ρ⟩ fun r => ∀ c : Dev nD,
      (∀ (i : Fin 4096) (l : Fin 1024), r.2.mem ((c.tc : Thread nD τ).loc main_v23) (ix2 i l) = layer m c i l)
      ∧ (∀ l : Fin 1024, r.2.mem ((c.tc : Thread nD τ).loc main_v25) (ix2 0 l) = ∑ i : Fin 4096, layer m c i l)
      ∧ (∀ l : Fin 1024, r.2.mem ((c.tc : Thread nD τ).loc main_v28) (ix2 0 l) = ∑ i : Fin 4096, layer m c i l * layer m c i l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Reference5Ideal.Value.run (F := Ideal) m ρ)
  obtain ⟨h1, h2, h3, h4⟩ := h c
  refine ⟨fun i l => ?_, fun l => ?_, fun l => ?_, h4⟩
  · rw [h1]; clear h1 h2 h3 h4
    pointwise
    simp only [zero_word, sub_zero, rows_pos_4096, if_true]
    rfl
  · rw [h2]; clear h1 h2 h3 h4
    pointwise
    simp only [zero_word, sub_zero, rows_pos_4096, if_true]
    rfl
  · rw [h3]; clear h1 h2 h3 h4
    unfold Cert.Reference5Ideal.Value.res_main_v28
    pointwise
    simp only [zero_word, sub_zero, rows_pos_4096, if_true]
    rfl

end Cert.Reference5Ideal.Hand
-- ==== Proof.LayerClaim5.lean ====
module
public import proofs.«01_k».proof.Defs
public import proofs.«01_k».proof.Proof.Layer5
public import proofs.«01_k».proof.Proof.LayerReference5
public import Idealize.ShloMosaic.Lib.ReduceAll
@[expose] public section
set_option maxRecDepth 16384
noncomputable section
open Idealize.ShloMosaic Idealize.ShloMosaic.TcCoe Idealize.SL.Sem

/-! # The linear layer's kernel computes its reference (4096 rows) -/

namespace Cert.Layer5
open Cert.BatchNorm

variable [hP : Cert.Pre_linear_bn_pre_4096.Facts]

open Cert.Pre_linear_bn_pre_4096 in
/-- The precondition read: the activations, the factors and the shifts are finite, and the two rows are the
    activations' exact column sums and column sums of squares. -/
theorem pre_facts {h : FVec Ideal S4096x1024 .f32} {s ss : FVec Ideal S1x1024 .f32} {g be : FVec Ideal S1024 .f32}
    {w : FVec Ideal S1024x1024 .f32} {b : FVec Ideal S1024 .f32}
    (e : Cert.Pre_linear_bn_pre_4096.fn (F := Ideal) h s ss g be w b = fun _ => 1#1) :
    (∀ (i : Fin 4096) (k : Fin 1024), ∃ r : ℝ, h (ix2 i k) = (r : EReal)) ∧ (∀ k : Fin 1024, ∃ r : ℝ, g (ix1 k) = (r : EReal))
      ∧ (∀ k : Fin 1024, ∃ r : ℝ, be (ix1 k) = (r : EReal))
      ∧ (∀ k : Fin 1024, s (ix2 0 k) = ∑ i : Fin 4096, h (ix2 i k))
      ∧ ∀ k : Fin 1024, ss (ix2 0 k) = ∑ i : Fin 4096, h (ix2 i k) * h (ix2 i k) := by
  have e := congrFun e ix0
  unfold fn fn_part1 at e
  dsimp only at e
  obtain ⟨e, e'⟩ := IntOp.andi_eq_one.1 e
  obtain ⟨es, ess⟩ := IntOp.andi_eq_one.1 e'
  obtain ⟨e, eb⟩ := IntOp.andi_eq_one.1 e
  obtain ⟨e, eg⟩ := IntOp.andi_eq_one.1 e
  obtain ⟨-, eh⟩ := IntOp.andi_eq_one.1 e
  refine ⟨fun i k => real_of_abs_lt ?_, fun k => real_of_abs_lt ?_, fun k => real_of_abs_lt ?_, fun k => ?_, fun k => ?_⟩
  · have := Host.reduce_andi_all _ _ _ _ _ eh (ix2 i k)
    pointwise at this
    rw [inf_f32] at this
    exact ofBool_one this
  · have := Host.reduce_andi_all _ _ _ _ _ eg (ix1 k)
    pointwise at this
    rw [inf_f32] at this
    exact ofBool_one this
  · have := Host.reduce_andi_all _ _ _ _ _ eb (ix1 k)
    pointwise at this
    rw [inf_f32] at this
    exact ofBool_one this
  · have := Host.reduce_andi_all _ _ _ _ _ es (ix2 0 k)
    pointwise at this
    exact ofBool_one this
  · have := Host.reduce_andi_all _ _ _ _ _ ess (ix2 0 k)
    pointwise at this
    exact ofBool_one this

variable [hK : Cert.Kernel5Ideal.Facts] [hR : Cert.Reference5Ideal.Facts]

/-- On finite activations with their exact sums, the kernel's layer is the reference's. -/
theorem layer_eq {m : (ℓ : Loc Cert.Kernel5Ideal.nD Cert.Kernel5Ideal.τ Cert.Kernel5Ideal.sig) → Buf (Elt Ideal) ℓ}
    {m' : (ℓ : Loc Cert.Reference5Ideal.nD Cert.Reference5Ideal.τ Cert.Reference5Ideal.sig) → Buf (Elt Ideal) ℓ}
    (hpre : Cert.Pre_Kernel5Ideal_linear_bn_pre_4096 m) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5))
    (h6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6))
    (i : Fin 4096) (l : Fin 1024) : Cert.Kernel5Ideal.Hand.layer m c i l = Cert.Reference5Ideal.Hand.layer m' c i l := by
  obtain ⟨fh, fg, fb, hs, hss⟩ := pre_facts (hpre c)
  unfold Cert.Kernel5Ideal.Hand.layer Cert.Reference5Ideal.Hand.layer
  rw [h0, h3, h4, h5, h6]
  congr 2
  refine Finset.sum_congr rfl fun k _ => ?_
  congr 1
  exact folded_eq_plain (n := 4096) (by decide) (rows_4096.trans (by norm_num)) (inv_4096.trans (by norm_num)) eps_real (hs k) (hss k)
    (fun i => fh i k) (fg k) (fb k) i

/-- The kernel's three results are the reference's: the layer, its column sums and its column sums of squares. -/
theorem algebraic : Cert.algebraic_Kernel5Ideal_Reference5Ideal_pre_linear_bn_pre_4096 := by
  intro m ρ m' ρ' hpre hagree
  refine ⟨fun c => (Cert.Kernel5Ideal.Gen.dats m 0 c).arrAt 7 Cert.Kernel5Ideal.cfg0.N, fun c => (Cert.Kernel5Ideal.Gen.dats m 0 c).arrAt 8 Cert.Kernel5Ideal.cfg0.N,
    fun c => (Cert.Kernel5Ideal.Gen.dats m 0 c).arrAt 9 Cert.Kernel5Ideal.cfg0.N, Cert.Kernel5Ideal.Value.run_blocks m ρ, ?_⟩
  refine (θ_run Cert.Reference5Ideal.defs _ _).mono (fun r h c => ?_) (Cert.Reference5Ideal.Hand.run_layer m' ρ')
  obtain ⟨h1, h2, h3, h4⟩ := h c
  obtain ⟨a0, -, -, a3, a4, a5, a6⟩ := hagree c
  have key := layer_eq hpre c a0 a3 a4 a5 a6
  refine ⟨?_, ?_, ?_, h4⟩
  · funext j
    obtain ⟨i, l, rfl⟩ : ∃ (i : Fin 4096) (l : Fin 1024), j = ix2 i l := ⟨j 0, j 1, eq_ix2 (n0 := 4096) (n1 := 1024) j⟩
    exact (h1 i l).trans ((key i l).symm.trans (Cert.Kernel5Ideal.Hand.out_apply m c i l).symm)
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    refine (h2 l).trans (Eq.trans ?_ (Cert.Kernel5Ideal.Hand.sum_apply m c l).symm)
    simp only [key]
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    refine (h3 l).trans (Eq.trans ?_ (Cert.Kernel5Ideal.Hand.square_apply m c l).symm)
    simp only [key]

end Cert.Layer5
-- ==== Proof.Bn8.lean ====
module
public import proofs.«01_k».proof.Proof.BatchNorm
public import proofs.«01_k».proof.Proof.Gen.Kernel8Ideal.Value
public import Idealize.ShloMosaic.Lib.Pipeline.Value
public import Idealize.ShloMosaic.Lib.StableHlo.ReadAt
public import Idealize.ShloMosaic.Lib.Tactic
@[expose] public section
set_option maxRecDepth 16384
noncomputable section
open Idealize.ShloMosaic Idealize.ShloMosaic.TcCoe Idealize.SL.Sem
open Idealize.ShloMosaic.Pipeline (Dat)

/-! # What the last normalisation leaves in its result array -/

namespace Cert.Kernel8Ideal.Hand

open Cert.Kernel8Ideal Cert.Kernel8Ideal.Gen Cert.BatchNorm

theorem hz : (![0, 0] : Fin 2 → Nat) = fun _ => 0 := funext fun a => by fin_cases a <;> rfl

/-! ## The blocks the windows fetch -/

section Fetch
variable {F : FTy → Type} [FloatOps F]
variable (m : (ℓ : Loc nD τ sig) → Buf (Elt F) ℓ) (c : Dev nD)

theorem s_index : ∀ t : Fin cfg0.N, win0_1.index t 0 = 0 ∧ win0_1.index t 1 = 0 :=
  (by decide +kernel : ∀ t : Fin grid0.N, win0_1.index t 0 = 0 ∧ win0_1.index t 1 = 0)
theorem ss_index : ∀ t : Fin cfg0.N, win0_2.index t 0 = 0 ∧ win0_2.index t 1 = 0 :=
  (by decide +kernel : ∀ t : Fin grid0.N, win0_2.index t 0 = 0 ∧ win0_2.index t 1 = 0)
theorem g_index : ∀ t : Fin cfg0.N, win0_3.index t 0 = 0 ∧ win0_3.index t 1 = 0 :=
  (by decide +kernel : ∀ t : Fin grid0.N, win0_3.index t 0 = 0 ∧ win0_3.index t 1 = 0)
theorem be_index : ∀ t : Fin cfg0.N, win0_4.index t 0 = 0 ∧ win0_4.index t 1 = 0 :=
  (by decide +kernel : ∀ t : Fin grid0.N, win0_4.index t 0 = 0 ∧ win0_4.index t 1 = 0)
theorem row_index : ∀ t : Fin cfg0.N, win0_0.index t 0 = t.val ∧ win0_0.index t 1 = 0 :=
  (by decide +kernel : ∀ t : Fin grid0.N, win0_0.index t 0 = t.val ∧ win0_0.index t 1 = 0)
theorem out_index : ∀ t : Fin cfg0.N, win0_5.index t 0 = t.val ∧ win0_5.index t 1 = 0 :=
  (by decide +kernel : ∀ t : Fin grid0.N, win0_5.index t 0 = t.val ∧ win0_5.index t 1 = 0)

theorem row_lt (t : Fin cfg0.N) (r : Fin 2048) : 2048 * t.val + r.val < 16384 := by
  have := t.isLt; have hN : cfg0.N = 8 := N_0; omega

/-- Point `t`'s block of the activations is rows `2048 t …` of them. -/
theorem x_block (t : Fin cfg0.N) (r : Fin 2048) (k : Fin 1024) :
    (iblk m c 0 t : Vec F S2048x1024 .f32) (ix2 r k) = m ((c.tc : Thread nD τ).loc main_arg0) (ix2 ⟨2048 * t.val + r.val, row_lt t r⟩ k) := by
  unfold iblk
  rw [View.read_apply]
  show V m c main_arg0 _ = _
  rw [V_main_arg0]
  congr 1; funext a; apply Fin.ext
  match a with
  | ⟨0, _⟩ => show win0_0.index t 0 * 2048 + 1 * r.val = 2048 * t.val + r.val; rw [(row_index t).1]; omega
  | ⟨1, _⟩ => show win0_0.index t 1 * 1024 + 1 * k.val = k.val; rw [(row_index t).2]; omega

/-- Every point fetches the row of column sums. -/
theorem s_block (t : Fin cfg0.N) (k : Fin 1024) :
    (iblk m c 1 t : Vec F S1x1024 .f32) (ix2 0 k) = m ((c.tc : Thread nD τ).loc main_arg1) (ix2 0 k) := by
  unfold iblk
  rw [View.read_apply]
  show V m c main_arg1 _ = _
  rw [V_main_arg1]
  congr 1; funext a; apply Fin.ext
  match a with
  | ⟨0, _⟩ => show win0_1.index t 0 * 1 + 1 * 0 = 0; rw [(s_index t).1]
  | ⟨1, _⟩ => show win0_1.index t 1 * 1024 + 1 * k.val = k.val; rw [(s_index t).2]; omega

/-- Every point fetches the row of column sums of squares. -/
theorem ss_block (t : Fin cfg0.N) (k : Fin 1024) :
    (iblk m c 2 t : Vec F S1x1024 .f32) (ix2 0 k) = m ((c.tc : Thread nD τ).loc main_arg2) (ix2 0 k) := by
  unfold iblk
  rw [View.read_apply]
  show V m c main_arg2 _ = _
  rw [V_main_arg2]
  congr 1; funext a; apply Fin.ext
  match a with
  | ⟨0, _⟩ => show win0_2.index t 0 * 1 + 1 * 0 = 0; rw [(ss_index t).1]
  | ⟨1, _⟩ => show win0_2.index t 1 * 1024 + 1 * k.val = k.val; rw [(ss_index t).2]; omega

/-- The factor `g` as the region finds it: the argument as one row. -/
theorem g_entry (k : Fin 1024) : (V m c main_v0 : Vec F S1x1024 .f32) (ix2 0 k) = m ((c.tc : Thread nD τ).loc main_arg3) (ix1 k) := by
  unfold V
  after_reads_at

/-- The factor `g` as every point fetches it. -/
theorem g_block (t : Fin cfg0.N) (k : Fin 1024) :
    (iblk m c 3 t : Vec F S1x1024 .f32) (ix2 0 k) = m ((c.tc : Thread nD τ).loc main_arg3) (ix1 k) := by
  rw [← g_entry m c k]
  unfold iblk
  rw [View.read_apply]
  show V m c main_v0 _ = V m c main_v0 _
  congr 1; funext a; apply Fin.ext
  match a with
  | ⟨0, _⟩ => show win0_3.index t 0 * 1 + 1 * 0 = 0; rw [(g_index t).1]
  | ⟨1, _⟩ => show win0_3.index t 1 * 1024 + 1 * k.val = k.val; rw [(g_index t).2]; omega

/-- The shift `be` as the region finds it: the argument as one row. -/
theorem be_entry (k : Fin 1024) : (V m c main_v1 : Vec F S1x1024 .f32) (ix2 0 k) = m ((c.tc : Thread nD τ).loc main_arg4) (ix1 k) := by
  unfold V
  after_reads_at

/-- The shift `be` as every point fetches it. -/
theorem be_block (t : Fin cfg0.N) (k : Fin 1024) :
    (iblk m c 4 t : Vec F S1x1024 .f32) (ix2 0 k) = m ((c.tc : Thread nD τ).loc main_arg4) (ix1 k) := by
  rw [← be_entry m c k]
  unfold iblk
  rw [View.read_apply]
  show V m c main_v1 _ = V m c main_v1 _
  congr 1; funext a; apply Fin.ext
  match a with
  | ⟨0, _⟩ => show win0_4.index t 0 * 1 + 1 * 0 = 0; rw [(be_index t).1]
  | ⟨1, _⟩ => show win0_4.index t 1 * 1024 + 1 * k.val = k.val; rw [(be_index t).2]; omega

end Fetch

/-! ## Over the extended reals -/

variable (m : (ℓ : Loc nD τ sig) → Buf (Elt Ideal) ℓ) (ρ : Dev nD → PrngReg) (c : Dev nD)

/-- The entry at row `i` and column `l`: the folded normalisation of the activation there. -/
def entry (i : Fin 16384) (l : Fin 1024) : EReal :=
  folded (Ideal.ofBits .f32 947912704#32) (Ideal.ofBits .f32 925353388#32)
      (m ((c.tc : Thread nD τ).loc main_arg1) (ix2 0 l)) (m ((c.tc : Thread nD τ).loc main_arg2) (ix2 0 l))
      (m ((c.tc : Thread nD τ).loc main_arg3) (ix1 l)) (m ((c.tc : Thread nD τ).loc main_arg4) (ix1 l))
      (m ((c.tc : Thread nD τ).loc main_arg0) (ix2 i l))

/-- The block point `t` stores is rows `2048 t …` of the normalised activations. -/
theorem block_apply (t : Fin cfg0.N) (r : Fin 2048) (l : Fin 1024) :
    out0_5 (iblk m c 0 t) (iblk m c 1 t) (iblk m c 2 t) (iblk m c 3 t) (iblk m c 4 t) (ix2 r l)
      = entry m c ⟨2048 * t.val + r.val, row_lt t r⟩ l := by
  unfold out0_5
  rw [View.canon_unit_zero hz]
  simp only [View.ld_unit_zero (S := S2048x1024) hz, View.ld_unit_zero (S := S1x1024) hz]
  pointwise [k0_pay1]
  simp only [x_block, s_block, ss_block, g_block, be_block]
  rfl

/-- The normalised activations as one array. -/
def result : Vec Ideal S16384x1024 .f32 := fun j => entry m c (j 0) (j 1)

/-- Every point writes back its block of them. -/
theorem flushed_out (t : Fin cfg0.N) : (dats m 0 c).flushed 5 t = ((cfg0.win 5).blk t).view.read (Elt Ideal) (result m c) := by
  rw [Value.flushed5]
  funext j
  obtain ⟨r, k, rfl⟩ : ∃ (r : Fin 2048) (k : Fin 1024), j = ix2 r k := ⟨j 0, j 1, eq_ix2 (n0 := 2048) (n1 := 1024) j⟩
  rw [View.read_apply]
  refine (block_apply m c t r k).trans ?_
  show entry m c _ _ = entry m c _ _
  congr 1
  · apply Fin.ext
    show 2048 * t.val + r.val = win0_5.index t 0 * 2048 + 1 * r.val; rw [(out_index t).1]; omega
  · apply Fin.ext
    show k.val = win0_5.index t 1 * 1024 + 1 * k.val; rw [(out_index t).2]; omega

/-- The blocks cover the result array. -/
theorem cover_out (i : S16384x1024.Idx) : ∃ t : Fin cfg0.N, (cfg0.win 5).flush t = true ∧ i ∈ ((cfg0.win 5).blk t).view.set := by
  have hN : cfg0.N = 8 := N_0
  have h0 : (i 0 : Nat) < 16384 := (i 0).isLt
  have h1 : (i 1 : Nat) < 1024 := (i 1).isLt
  obtain ⟨t, ht⟩ : ∃ t : Fin cfg0.N, t.val = (i 0).val / 2048 := ⟨⟨(i 0).val / 2048, by omega⟩, rfl⟩
  refine ⟨t, flush0_5 t, ?_⟩
  show i ∈ ((View.whole main_v2).slice (win0_5.rect t)).set
  rw [View.set_slice_whole, Rect.mem_set_unit]
  intro a
  match a with
  | ⟨0, _⟩ => show win0_5.index t 0 * 2048 ≤ (i 0 : Nat) ∧ (i 0 : Nat) < win0_5.index t 0 * 2048 + 2048
              rw [(out_index t).1, ht]; omega
  | ⟨1, _⟩ => show win0_5.index t 1 * 1024 ≤ (i 1 : Nat) ∧ (i 1 : Nat) < win0_5.index t 1 * 1024 + 1024
              rw [(out_index t).2]; omega

/-- The result array ends holding the normalised activations. -/
theorem out_apply (i : Fin 16384) (l : Fin 1024) : (dats m 0 c).arrAt 5 cfg0.N (ix2 i l) = entry m c i l :=
  congrFun ((dats m 0 c).arrAt_eq_of_cover 5 (result m c) (fun t _ => flushed_out m c t) cover_out) (ix2 i l)

end Cert.Kernel8Ideal.Hand
-- ==== Proof.BnReference8.lean ====
module
public import proofs.«01_k».proof.Proof.BatchNorm
public import proofs.«01_k».proof.Proof.Gen.Reference8Ideal.Run
@[expose] public section
set_option maxRecDepth 16384
noncomputable section
open Idealize.ShloMosaic Idealize.ShloMosaic.TcCoe Idealize.SL.Sem

/-! # What the reference of the last normalisation leaves -/

namespace Cert.Reference8Ideal.Hand
open Cert.Reference8Ideal Cert.Reference8Ideal.Gen Cert.BatchNorm
variable (m : (ℓ : Loc nD τ sig) → Buf (Elt Ideal) ℓ) (ρ : Dev nD → PrngReg)

/-- The reference's entry at row `i` and column `l`: the plain normalisation of the activation there. -/
def entry (c : Dev nD) (i : Fin 16384) (l : Fin 1024) : EReal :=
  plain (Ideal.ofBits .f32 1182793728#32) (Ideal.ofBits .f32 925353388#32)
      (fun i : Fin 16384 => m ((c.tc : Thread nD τ).loc main_arg0) (ix2 i l))
      (m ((c.tc : Thread nD τ).loc main_arg3) (ix1 l)) (m ((c.tc : Thread nD τ).loc main_arg4) (ix1 l))
      (m ((c.tc : Thread nD τ).loc main_arg0) (ix2 i l))

/-- The run: the normalised activations; the arguments are unchanged. -/
theorem run_entry : θ_run defs (onTc (τ := τ) (main (F := Ideal))) ⟨m, fun _ => 0, ρ⟩ fun r => ∀ c : Dev nD,
      (∀ (i : Fin 16384) (l : Fin 1024), r.2.mem ((c.tc : Thread nD τ).loc main_v18) (ix2 i l) = entry m c i l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Reference8Ideal.Value.run (F := Ideal) m ρ)
  obtain ⟨h1, h4⟩ := h c
  refine ⟨fun i l => ?_, h4⟩
  rw [h1]; clear h1 h4
  pointwise
  simp only [zero_word, sub_zero, rows_pos_16384, if_true]
  rfl

end Cert.Reference8Ideal.Hand
-- ==== Proof.BnClaim8.lean ====
module
public import proofs.«01_k».proof.Defs
public import proofs.«01_k».proof.Proof.Bn8
public import proofs.«01_k».proof.Proof.BnReference8
public import Idealize.ShloMosaic.Lib.ReduceAll
@[expose] public section
set_option maxRecDepth 16384
noncomputable section
open Idealize.ShloMosaic Idealize.ShloMosaic.TcCoe Idealize.SL.Sem

/-! # The last normalisation computes its reference -/

namespace Cert.Bn8
open Cert.BatchNorm

variable [hP : Cert.Pre_bn_pre.Facts]

open Cert.Pre_bn_pre in
/-- The precondition read: the activations, the factors and the shifts are finite, and the two rows are the
    activations' exact column sums and column sums of squares. -/
theorem pre_facts {h : FVec Ideal S16384x1024 .f32} {s ss : FVec Ideal S1x1024 .f32} {g be : FVec Ideal S1024 .f32}
    (e : Cert.Pre_bn_pre.fn (F := Ideal) h s ss g be = fun _ => 1#1) :
    (∀ (i : Fin 16384) (k : Fin 1024), ∃ r : ℝ, h (ix2 i k) = (r : EReal)) ∧ (∀ k : Fin 1024, ∃ r : ℝ, g (ix1 k) = (r : EReal))
      ∧ (∀ k : Fin 1024, ∃ r : ℝ, be (ix1 k) = (r : EReal))
      ∧ (∀ k : Fin 1024, s (ix2 0 k) = ∑ i : Fin 16384, h (ix2 i k))
      ∧ ∀ k : Fin 1024, ss (ix2 0 k) = ∑ i : Fin 16384, h (ix2 i k) * h (ix2 i k) := by
  have e := congrFun e ix0
  unfold fn fn_part1 at e
  dsimp only at e
  obtain ⟨e, e'⟩ := IntOp.andi_eq_one.1 e
  obtain ⟨es, ess⟩ := IntOp.andi_eq_one.1 e'
  obtain ⟨e, eb⟩ := IntOp.andi_eq_one.1 e
  obtain ⟨e, eg⟩ := IntOp.andi_eq_one.1 e
  obtain ⟨-, eh⟩ := IntOp.andi_eq_one.1 e
  refine ⟨fun i k => real_of_abs_lt ?_, fun k => real_of_abs_lt ?_, fun k => real_of_abs_lt ?_, fun k => ?_, fun k => ?_⟩
  · have := Host.reduce_andi_all _ _ _ _ _ eh (ix2 i k)
    pointwise at this
    rw [inf_f32] at this
    exact ofBool_one this
  · have := Host.reduce_andi_all _ _ _ _ _ eg (ix1 k)
    pointwise at this
    rw [inf_f32] at this
    exact ofBool_one this
  · have := Host.reduce_andi_all _ _ _ _ _ eb (ix1 k)
    pointwise at this
    rw [inf_f32] at this
    exact ofBool_one this
  · have := Host.reduce_andi_all _ _ _ _ _ es (ix2 0 k)
    pointwise at this
    exact ofBool_one this
  · have := Host.reduce_andi_all _ _ _ _ _ ess (ix2 0 k)
    pointwise at this
    exact ofBool_one this

variable [hK : Cert.Kernel8Ideal.Facts] [hR : Cert.Reference8Ideal.Facts]

/-- On finite activations with their exact sums, the kernel's entry is the reference's. -/
theorem entry_eq {m : (ℓ : Loc Cert.Kernel8Ideal.nD Cert.Kernel8Ideal.τ Cert.Kernel8Ideal.sig) → Buf (Elt Ideal) ℓ}
    {m' : (ℓ : Loc Cert.Reference8Ideal.nD Cert.Reference8Ideal.τ Cert.Reference8Ideal.sig) → Buf (Elt Ideal) ℓ}
    (hpre : Cert.Pre_Kernel8Ideal_bn_pre m) (c : Dev Cert.Kernel8Ideal.nD)
    (h0 : m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0))
    (h3 : m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3))
    (h4 : m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4))
    (i : Fin 16384) (l : Fin 1024) : Cert.Kernel8Ideal.Hand.entry m c i l = Cert.Reference8Ideal.Hand.entry m' c i l := by
  obtain ⟨fh, fg, fb, hs, hss⟩ := pre_facts (hpre c)
  unfold Cert.Kernel8Ideal.Hand.entry Cert.Reference8Ideal.Hand.entry
  rw [h0, h3, h4]
  exact folded_eq_plain (n := 16384) (by decide) (rows_16384.trans (by norm_num)) (inv_16384.trans (by norm_num)) eps_real (hs l) (hss l)
    (fun i => fh i l) (fg l) (fb l) i

/-- The kernel's result is the reference's: the normalised activations. -/
theorem algebraic : Cert.algebraic_Kernel8Ideal_Reference8Ideal_pre_bn_pre := by
  intro m ρ m' ρ' hpre hagree
  refine ⟨fun c => (Cert.Kernel8Ideal.Gen.dats m 0 c).arrAt 5 Cert.Kernel8Ideal.cfg0.N, Cert.Kernel8Ideal.Value.run_blocks m ρ, ?_⟩
  refine (θ_run Cert.Reference8Ideal.defs _ _).mono (fun r h c => ?_) (Cert.Reference8Ideal.Hand.run_entry m' ρ')
  obtain ⟨h1, h4⟩ := h c
  obtain ⟨a0, -, -, a3, a4⟩ := hagree c
  refine ⟨?_, h4⟩
  funext j
  obtain ⟨i, l, rfl⟩ : ∃ (i : Fin 16384) (l : Fin 1024), j = ix2 i l := ⟨j 0, j 1, eq_ix2 (n0 := 16384) (n1 := 1024) j⟩
  exact (h1 i l).trans ((entry_eq hpre c a0 a3 a4 i l).symm.trans (Cert.Kernel8Ideal.Hand.out_apply m c i l).symm)

end Cert.Bn8
-- ==== Proof.Interp6Point.lean ====
module
public import proofs.«01_k».proof.Proof.NearestMean
public import proofs.«01_k».proof.Proof.Gen.Kernel6Ideal.Skeleton
public import Idealize.ShloMosaic.Lib.Pipeline.Value
public import Idealize.ShloMosaic.Lib.Tactic
@[expose] public section
set_option maxRecDepth 16384
noncomputable section
open Idealize.ShloMosaic Idealize.ShloMosaic.TcCoe Idealize.SL.Sem

namespace Cert.Kernel6Ideal.Hand
open Cert.Kernel6Ideal Cert.Kernel6Ideal.Gen Cert.BatchNorm Cert.Nearest

section
variable (pt : Vec Ideal S3x2560 .f32) (bs : Vec Ideal S1x2560 .i32) (q : Vec Ideal S512x3 .f32) (bq : Vec Ideal S512x1 .i32)

theorem pay6_apply (r : Fin 512) (j : Fin 2560) : k0_pay6 pt bs q bq (ix2 r j)
    = dist (bq (ix2 r 0)) (bs (ix2 0 j)) (fun k => q (ix2 r k)) fun k => pt (ix2 k j) := by
  pointwise [k0_pay6]
  rw [show Ideal.ofBits FTy.f32 1343554297#32 = far from rfl, select_far, Nearest.dist, Fin.sum_univ_three, Fin.sum_univ_three, Fin.sum_univ_three]

theorem pay7_apply (r : Fin 512) {a : Fin 2560} (h : IsPick (fun j => k0_pay6 pt bs q bq (ix2 r j)) ∅ a) :
    k0_pay7 pt bs q bq (ix2 r 0) = k0_pay6 pt bs q bq (ix2 r a) := by
  pointwise [k0_pay7]
  rw [inf_f32]
  exact fold_min _ a fun j => h.le j (Finset.notMem_empty j)
end

theorem iota_apply (r : Fin 512) (j : Fin 2560) : iota .tc S512x2560 32 [1] iota_S512x2560_d1_w32 (ix2 r j) = BitVec.ofNat 32 j.val := by
  pointwise

section
variable {e : FVec Ideal S512x2560 .f32} {i : IVec S512x2560 32} {m : FVec Ideal S512x1 .f32}

/-- One row of distances, the column numbers beside it, its least value, and its three nearest. -/
structure Row (e : FVec Ideal S512x2560 .f32) (i : IVec S512x2560 32) (m : FVec Ideal S512x1 .f32) (r : Fin 512)
    (σ : Fin 3 → Fin 2560) : Prop where
  col : ∀ j, i (ix2 r j) = BitVec.ofNat 32 j.val
  three : IsThree (fun j => e (ix2 r j)) σ
  least : m (ix2 r 0) = e (ix2 r (σ 0))
  low : ∀ k, e (ix2 r (σ k)) < taken

theorem select_bit (p : Prop) [Decidable p] (x y : EReal) : Scalar.select (BitVec.ofBool (decide p)) x y = if p then x else y := by
  unfold Scalar.select
  by_cases h : p <;> simp [h]

theorem eq_bit (x y : BitVec 32) : IntOp.cmpi .eq x y = BitVec.ofBool (decide (x = y)) := by
  unfold IntOp.cmpi
  by_cases h : x = y
  · simp [h]
  · simp [h, (by simpa using h : (x == y) = false)]

/-- The mask of the first column at which a row takes the value `m`. -/
theorem mask {f : Fin 2560 → EReal} {v : EReal} {c : Fin 2560 → BitVec 32} (hc : ∀ j, c j = BitVec.ofNat 32 j.val) (a : Fin 2560)
    (hv : v = f a) (hf : ∀ j, f j = f a → a ≤ j) (j : Fin 2560) :
    IntOp.cmpi .eq (c j) (Finset.fold IntOp.minsi 2147483647#32 (fun x => if f x = v then c x else 2560#32) Finset.univ)
      = BitVec.ofBool (decide (j = a)) := by
  subst hv
  simp only [hc]
  rw [show (2560#32 : BitVec 32) = BitVec.ofNat 32 2560 from rfl, index_of_least (by norm_num) f a hf, eq_bit]
  congr 1
  exact decide_eq_decide.2 (word_eq (by norm_num) j a)

variable {r : Fin 512} {σ : Fin 3 → Fin 2560}

theorem pay8_apply (h : Row e i m r σ) (j : Fin 2560) : k0_pay8 e i m (ix2 r j) = BitVec.ofBool (decide (j = σ 0)) := by
  pointwise [k0_pay8]
  exact mask (f := fun j => e (ix2 r j)) h.col (σ 0) h.least (fun j e => h.three.zero.first j (Finset.notMem_empty j) e) j

theorem pay9_apply (h : Row e i m r σ) : k0_pay9 m (ix2 r 0) = weight (e (ix2 r (σ 0))) := by
  pointwise [k0_pay9]
  rw [h.least, weight]

theorem pay10_apply (h : Row e i m r σ) (j : Fin 2560) : k0_pay10 e i m (ix2 r j) = raised taken (fun j => e (ix2 r j)) {σ 0} j := by
  have hb := pay8_apply h j
  pointwise [k0_pay10]
  rw [hb, select_bit, ← insert_empty_eq (σ 0), ← raised_insert taken _ ∅ (σ 0) j, raised_empty]
  rfl

theorem pay11_apply (h : Row e i m r σ) : k0_pay11 e i m (ix2 r 0) = e (ix2 r (σ 1)) := by
  have hb := pay10_apply h
  have hp := h.three.one.raised_least (h.low 1)
  pointwise [k0_pay11]
  simp only [hb]
  rw [inf_f32]
  exact (fold_min _ (σ 1) hp.2.1).trans hp.1

theorem mask_at (f : FVec Ideal S512x2560 .f32) (g : FVec Ideal S512x1 .f32) (i : IVec S512x2560 32) (r : Fin 512) (j : Fin 2560) :
    cmpi .eq i (broadcastTo S512x2560 (shapeCast S512x1 (multiReductionI .minsi [1] S512
      (select (cmpf .oeq f (broadcastTo S512x2560 g broadcasts_S512x1_S512x2560)) i (broadcast S512x2560 2560#32)) 2147483647#32
      reduces_S512x2560_S512 rfl) shapeCasts_S512_S512x1) broadcasts_S512x1_S512x2560) (ix2 r j)
      = IntOp.cmpi .eq (i (ix2 r j)) (Finset.fold IntOp.minsi 2147483647#32
          (fun x => if f (ix2 r x) = g (ix2 r 0) then i (ix2 r x) else 2560#32) Finset.univ) := by
  pointwise

theorem pay12_apply (h : Row e i m r σ) (j : Fin 2560) : k0_pay12 e i m (ix2 r j) = BitVec.ofBool (decide (j = σ 1)) := by
  have hb := pay10_apply h
  have hm := pay11_apply h
  have hp := h.three.one.raised_least (h.low 1)
  refine (mask_at (k0_pay10 e i m) (k0_pay11 e i m) i r j).trans ?_
  simp only [hb]
  exact mask h.col (σ 1) (hm.trans hp.1.symm) hp.2.2 j

theorem pay13_apply (h : Row e i m r σ) : k0_pay13 e i m (ix2 r 0) = weight (e (ix2 r (σ 1))) := by
  have hm := pay11_apply h
  pointwise [k0_pay13]
  rw [hm, weight]

theorem sum_at (b b' : IVec S512x2560 1) (w w' : FVec Ideal S512x1 .f32) (r : Fin 512) (j : Fin 2560) :
    addf (select b (broadcastTo S512x2560 (shapeCast S512x1 w shapeCasts_S512x1_S512x1) broadcasts_S512x1_S512x2560)
        (broadcast S512x2560 (Scalar.ofBits .f32 0x00000000#32)))
      (select b' (broadcastTo S512x2560 (shapeCast S512x1 w' shapeCasts_S512x1_S512x1) broadcasts_S512x1_S512x2560)
        (broadcast S512x2560 (Scalar.ofBits .f32 0x00000000#32))) (ix2 r j)
      = Scalar.select (b (ix2 r j)) (w (ix2 r 0)) (0 : EReal) + Scalar.select (b' (ix2 r j)) (w' (ix2 r 0)) (0 : EReal) := by
  pointwise

theorem pay14_apply (h : Row e i m r σ) (j : Fin 2560) : k0_pay14 e i m (ix2 r j)
    = (if j = σ 0 then weight (e (ix2 r (σ 0))) else 0) + (if j = σ 1 then weight (e (ix2 r (σ 1))) else 0) := by
  have h8 := pay8_apply h j
  have h9 := pay9_apply h
  have h12 := pay12_apply h j
  have h13 := pay13_apply h
  refine (sum_at (k0_pay8 e i m) (k0_pay12 e i m) (k0_pay9 m) (k0_pay13 e i m) r j).trans ?_
  rw [h8, h9, h12, h13, select_bit, select_bit]

theorem pay15_apply (h : Row e i m r σ) : k0_pay15 e i m (ix2 r 0) = weight (e (ix2 r (σ 0))) + weight (e (ix2 r (σ 1))) := by
  have h9 := pay9_apply h
  have h13 := pay13_apply h
  exact congrArg₂ (fun x y : EReal => x + y) h9 h13

theorem pay16_apply (h : Row e i m r σ) (j : Fin 2560) :
    k0_pay16 e i m (ix2 r j) = raised taken (fun j => e (ix2 r j)) {σ 0, σ 1} j := by
  have h10 := pay10_apply h j
  have h12 := pay12_apply h j
  pointwise [k0_pay16]
  rw [h12, h10, select_bit, Finset.pair_comm, ← raised_insert taken _ {σ 0} (σ 1) j]
  rfl

theorem pay17_apply (h : Row e i m r σ) : k0_pay17 e i m (ix2 r 0) = e (ix2 r (σ 2)) := by
  have hb := pay16_apply h
  have hp := h.three.two.raised_least (h.low 2)
  pointwise [k0_pay17]
  simp only [hb]
  rw [inf_f32]
  exact (fold_min _ (σ 2) hp.2.1).trans hp.1

theorem same_at (f : FVec Ideal S512x2560 .f32) (g : FVec Ideal S512x1 .f32) (r : Fin 512) (j : Fin 2560) :
    cmpf .oeq f (broadcastTo S512x2560 g broadcasts_S512x1_S512x2560) (ix2 r j)
      = BitVec.ofBool (decide (f (ix2 r j) = g (ix2 r 0))) := by
  pointwise

theorem pay18_apply (h : Row e i m r σ) (j : Fin 2560) : k0_pay18 e i m (ix2 r j)
    = BitVec.ofBool (decide (raised taken (fun j => e (ix2 r j)) {σ 0, σ 1} j = e (ix2 r (σ 2)))) := by
  have h16 := pay16_apply h j
  have h17 := pay17_apply h
  refine (same_at (k0_pay16 e i m) (k0_pay17 e i m) r j).trans ?_
  rw [h16, h17]

theorem pay19_apply (j : Fin 2560) : k0_pay19 (ix2 r j) = 2560#32 := by
  pointwise [k0_pay19]
end

theorem pay20_raw (x : Vec Ideal S2560x1024 .f32) (i : IVec S512x2560 32) (S : FVec Ideal S512x2560 .f32) (W : FVec Ideal S512x1 .f32)
    (m : FVec Ideal S512x1 .f32) (b : IVec S512x2560 1) (n : IVec S512x2560 32) (s ss g be : Vec Ideal S1x1024 .f32)
    (r : Fin 512) (l : Fin 1024) : k0_pay20 x i S W m b n s ss g be (ix2 r l)
      = folded (Ideal.ofBits .f32 964689920#32) (Ideal.ofBits .f32 925353388#32) (s (ix2 0 l)) (ss (ix2 0 l)) (g (ix2 0 l)) (be (ix2 0 l))
          (Ideal.div (∑ j, (S (ix2 r j) + Scalar.select (IntOp.cmpi .eq (i (ix2 r j)) (Finset.fold IntOp.minsi 2147483647#32
            (fun x => Scalar.select (b (ix2 r x)) (i (ix2 r x)) (n (ix2 r x))) Finset.univ)) (weight (m (ix2 r 0))) (0 : EReal)) * x (ix2 j l))
            (W (ix2 r 0) + weight (m (ix2 r 0)))) := by
  pointwise [k0_pay20]
  rfl

end Cert.Kernel6Ideal.Hand
end
end
-- ==== Proof.Interp6Block.lean ====
module
public import proofs.«01_k».proof.Proof.Interp6Point
public import proofs.«01_k».proof.Proof.Interp6Frame
public import Idealize.ShloMosaic.Lib.Pipeline.Value
public import Idealize.ShloMosaic.Lib.StableHlo.ReadAt
public import Idealize.ShloMosaic.Lib.Tactic
@[expose] public section
set_option maxRecDepth 16384
noncomputable section
open Idealize.ShloMosaic Idealize.ShloMosaic.TcCoe Idealize.SL.Sem
open Idealize.ShloMosaic.Pipeline (Dat)

/-! # What one block of queries stores: the layer of its rows, and their column sums -/

namespace Cert.Kernel6Ideal.Hand

open Cert.Kernel6Ideal Cert.Kernel6Ideal.Gen Cert.Kernel6Ideal.Call Cert.BatchNorm

theorem hz : (![0, 0] : Fin 2 → Nat) = fun _ => 0 := funext fun a => by fin_cases a <;> rfl

/-! ## The block's values from the loaded windows -/

section Block
variable {F : FTy → Type} [FloatOps F] (v : BitVec 32) (hv : k0_chk1 v)

/-- The points of the window of sources that starts at `v`. -/
def ptWin (x3 : Vec F S3x4096 .f32) : Vec F S3x2560 .f32 := View.ld x3 (Rect.unit (s := S3x4096) (k0_off2 v) S3x2560.size (k0_off2_inb v hv))
/-- Their batches. -/
def bsWin (x2 : Vec F S1x4096 .i32) : Vec F S1x2560 .i32 := View.ld x2 (Rect.unit (s := S1x4096) (k0_off3 v) S1x2560.size (k0_off3_inb v hv))
/-- Their features. -/
def hWin (x4 : Vec F S4096x1024 .f32) : Vec F S2560x1024 .f32 := View.ld x4 (Rect.unit (s := S4096x1024) (k0_off4 v) S2560x1024.size (k0_off4_inb v hv))
/-- The weights' rows that meet the interpolated features. -/
def wTop (x9 : Vec F S1088x1024 .f32) : Vec F S1024x1024 .f32 := View.ld x9 (Rect.unit (s := S1088x1024) ![0, 0] S1024x1024.size (by decide))
/-- The weights' rows that meet the queries' own features. -/
def wSkip (x9 : Vec F S1088x1024 .f32) : Vec F S64x1024 .f32 := View.ld x9 (Rect.unit (s := S1088x1024) ![1024, 0] S64x1024.size (by decide))

/-- The normalised means of a block of queries over a window of sources. -/
def means (pt : Vec F S3x2560 .f32) (bs : Vec F S1x2560 .i32) (q : Vec F S512x3 .f32) (bq : Vec F S512x1 .i32)
    (h : Vec F S2560x1024 .f32) (s ss g be : Vec F S1x1024 .f32) : FVec F S512x1024 .bf16 :=
  k0_pay20 h (iota .tc S512x2560 32 [1] iota_S512x2560_d1_w32)
    (k0_pay14 (k0_pay6 pt bs q bq) (iota .tc S512x2560 32 [1] iota_S512x2560_d1_w32) (k0_pay7 pt bs q bq))
    (k0_pay15 (k0_pay6 pt bs q bq) (iota .tc S512x2560 32 [1] iota_S512x2560_d1_w32) (k0_pay7 pt bs q bq))
    (k0_pay17 (k0_pay6 pt bs q bq) (iota .tc S512x2560 32 [1] iota_S512x2560_d1_w32) (k0_pay7 pt bs q bq))
    (k0_pay18 (k0_pay6 pt bs q bq) (iota .tc S512x2560 32 [1] iota_S512x2560_d1_w32) (k0_pay7 pt bs q bq)) k0_pay19 s ss g be

variable (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32)

/-- The normalised means of the block. -/
def norms : FVec F S512x1024 .bf16 := means (ptWin v hv x3) (bsWin v hv x2) x1 x0 (hWin v hv x4) x5 x6 x7 x8
/-- The layer of the block. -/
def rows : FVec F S512x1024 .f32 := k0_pay1 (norms v hv x0 x1 x2 x3 x4 x5 x6 x7 x8) (wTop x9) x11 (wSkip x9) x10
/-- Its column sums. -/
def rowSum : FVec F S1x1024 .f32 := k0_pay2 (norms v hv x0 x1 x2 x3 x4 x5 x6 x7 x8) (wTop x9) x11 (wSkip x9) x10
/-- Its column sums of squares. -/
def rowSq : FVec F S1x1024 .f32 := k0_pay3 (norms v hv x0 x1 x2 x3 x4 x5 x6 x7 x8) (wTop x9) x11 (wSkip x9) x10
/-- Its column sums on top of what the block before left. -/
def nextSum (p : Vec F S1x1024 .f32) : FVec F S1x1024 .f32 := k0_pay4 (norms v hv x0 x1 x2 x3 x4 x5 x6 x7 x8) (wTop x9) x11 (wSkip x9) x10 p
/-- Its column sums of squares on top of what the block before left. -/
def nextSq (p : Vec F S1x1024 .f32) : FVec F S1x1024 .f32 := k0_pay5 (norms v hv x0 x1 x2 x3 x4 x5 x6 x7 x8) (wTop x9) x11 (wSkip x9) x10 p
end Block

section Point
variable {F : FTy → Type} [FloatOps F]
variable (c : Dev nD) (i : grid0.Coords)
  (a2 : Memref sig .tc .vmem S512x1 .i32) (h2 : a2.IsWhole) (a3 : Memref sig .tc .vmem S512x3 .f32) (h3 : a3.IsWhole) (a4 : Memref sig .tc .vmem S1x4096 .i32) (h4 : a4.IsWhole) (a5 : Memref sig .tc .vmem S3x4096 .f32) (h5 : a5.IsWhole) (a6 : Memref sig .tc .vmem S4096x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S1088x1024 .f32) (h11 : a11.IsWhole) (a12 : Memref sig .tc .vmem S1x1024 .f32) (h12 : a12.IsWhole) (a13 : Memref sig .tc .vmem S512x64 .f32) (h13 : a13.IsWhole) (a14 : Memref sig .tc .vmem S512x1024 .f32) (h14 : a14.IsWhole) (a15 : Memref sig .tc .vmem S1x1024 .f32) (h15 : a15.IsWhole) (a16 : Memref sig .tc .vmem S1x1024 .f32) (h16 : a16.IsWhole)
  (x0 : Vec F S512x1 .i32) (x1 : Vec F S512x3 .f32) (x2 : Vec F S1x4096 .i32) (x3 : Vec F S3x4096 .f32) (x4 : Vec F S4096x1024 .f32) (x5 : Vec F S1x1024 .f32) (x6 : Vec F S1x1024 .f32) (x7 : Vec F S1x1024 .f32) (x8 : Vec F S1x1024 .f32) (x9 : Vec F S1088x1024 .f32) (x10 : Vec F S1x1024 .f32) (x11 : Vec F S512x64 .f32)
  (xt : TbBuf0 (F := F) c tbM0_0) (hw : k0_chk1 (tbM0_0.view.readAt (Elt F) (Rect.unit (s := S32) (k0_off1 i) S1.size (k0_off1_inb i)).toLoadRect xt (Shape.Idx.first (numel1_S1.symm ▸ Nat.one_pos))))
  (p q : Vec F S1x1024 .f32)

/-- The first point stores the layer of its block. -/
theorem first_block (hc0 : cond0_0 i) (hc1 : ¬cond0_1 i) :
    out0_A_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt hw = rows _ hw x0 x1 x2 x3 x4 x5 x6 x7 x8 x9 x10 x11 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt hw)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x1) hz, View.ld_unit_zero (S := S512x3) hz, View.ld_unit_zero (S := S512x64) hz, View.ld_unit_zero (S := S1x1024) hz]
  rfl

/-- The first point stores the column sums of its block. -/
theorem first_sum (hc0 : cond0_0 i) (hc1 : ¬cond0_1 i) :
    out0_A_13 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt hw = rowSum _ hw x0 x1 x2 x3 x4 x5 x6 x7 x8 x9 x10 x11 := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt hw)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x1) hz, View.ld_unit_zero (S := S512x3) hz, View.ld_unit_zero (S := S512x64) hz, View.ld_unit_zero (S := S1x1024) hz]
  rfl

/-- The first point stores the column sums of squares of its block. -/
theorem first_square (hc0 : cond0_0 i) (hc1 : ¬cond0_1 i) :
    out0_A_14 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt hw = rowSq _ hw x0 x1 x2 x3 x4 x5 x6 x7 x8 x9 x10 x11 := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt hw)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x1) hz, View.ld_unit_zero (S := S512x3) hz, View.ld_unit_zero (S := S512x64) hz, View.ld_unit_zero (S := S1x1024) hz]
  rfl

/-- A later point stores the layer of its block. -/
theorem later_block (hc0 : ¬cond0_0 i) (hc1 : cond0_1 i) :
    out0_B_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt p q hw = rows _ hw x0 x1 x2 x3 x4 x5 x6 x7 x8 x9 x10 x11 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt p q hw)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x1) hz, View.ld_unit_zero (S := S512x3) hz, View.ld_unit_zero (S := S512x64) hz, View.ld_unit_zero (S := S1x1024) hz]
  rfl

/-- A later point adds its column sums to what the point before left. -/
theorem later_sum (hc0 : ¬cond0_0 i) (hc1 : cond0_1 i) :
    out0_B_13 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt p q hw = nextSum _ hw x0 x1 x2 x3 x4 x5 x6 x7 x8 x9 x10 x11 p := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt p q hw)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x1) hz, View.ld_unit_zero (S := S512x3) hz, View.ld_unit_zero (S := S512x64) hz, View.ld_unit_zero (S := S1x1024) hz]
  rfl

/-- A later point adds its column sums of squares to what the point before left. -/
theorem later_square (hc0 : ¬cond0_0 i) (hc1 : cond0_1 i) :
    out0_B_14 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt p q hw = nextSq _ hw x0 x1 x2 x3 x4 x5 x6 x7 x8 x9 x10 x11 q := by
  unfold out0_B_14
  rw [View.read_writes_eq_canon _ _ _ (cover0_B_14 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt p q hw)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S512x1) hz, View.ld_unit_zero (S := S512x3) hz, View.ld_unit_zero (S := S512x64) hz, View.ld_unit_zero (S := S1x1024) hz]
  rfl
/-- The three stores of the first point at once. -/
theorem first_all (hc0 : cond0_0 i) (hc1 : ¬cond0_1 i) {o : Vec F S512x1024 .f32 × Vec F S1x1024 .f32 × Vec F S1x1024 .f32}
    (e : o = (out0_A_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt hw, out0_A_13 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt hw, out0_A_14 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt hw)) :
    o.1 = rows _ hw x0 x1 x2 x3 x4 x5 x6 x7 x8 x9 x10 x11 ∧ o.2.1 = rowSum _ hw x0 x1 x2 x3 x4 x5 x6 x7 x8 x9 x10 x11 ∧ o.2.2 = rowSq _ hw x0 x1 x2 x3 x4 x5 x6 x7 x8 x9 x10 x11 := by
  subst e
  dsimp only
  exact ⟨first_block c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 xt hw hc0 hc1, first_sum c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 xt hw hc0 hc1, first_square c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 xt hw hc0 hc1⟩

/-- The three stores of a later point at once. -/
theorem later_all (hc0 : ¬cond0_0 i) (hc1 : cond0_1 i) {o : Vec F S512x1024 .f32 × Vec F S1x1024 .f32 × Vec F S1x1024 .f32}
    (e : o = (out0_B_12 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt p q hw, out0_B_13 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt p q hw, out0_B_14 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 xt p q hw)) :
    o.1 = rows _ hw x0 x1 x2 x3 x4 x5 x6 x7 x8 x9 x10 x11 ∧ o.2.1 = nextSum _ hw x0 x1 x2 x3 x4 x5 x6 x7 x8 x9 x10 x11 p ∧ o.2.2 = nextSq _ hw x0 x1 x2 x3 x4 x5 x6 x7 x8 x9 x10 x11 q := by
  subst e
  dsimp only
  exact ⟨later_block c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 xt hw p q hc0 hc1, later_sum c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 xt hw p q hc0 hc1, later_square c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 xt hw p q hc0 hc1⟩

end Point

end Cert.Kernel6Ideal.Hand
end
end
-- ==== Proof.Interp6Fetch.lean ====
module
public import proofs.«01_k».proof.Proof.Interp6Block
public import Idealize.ShloMosaic.Lib.Pipeline.Value
public import Idealize.ShloMosaic.Lib.StableHlo.ReadAt
public import Idealize.ShloMosaic.Lib.Tactic
@[expose] public section
set_option maxRecDepth 16384
noncomputable section
open Idealize.ShloMosaic Idealize.ShloMosaic.TcCoe Idealize.SL.Sem
open Idealize.ShloMosaic.Pipeline (Dat)

/-! # What the windows of one block of queries hold, and what its layer then is -/

namespace Cert.Kernel6Ideal.Hand

open Cert.Kernel6Ideal Cert.Kernel6Ideal.Gen Cert.Kernel6Ideal.Call Cert.BatchNorm Cert.Nearest

section Payload

/-- The mean of a row's three nearest sources, normalised. -/
theorem means_apply (pt : Vec Ideal S3x2560 .f32) (bs : Vec Ideal S1x2560 .i32) (q : Vec Ideal S512x3 .f32) (bq : Vec Ideal S512x1 .i32)
    (h : Vec Ideal S2560x1024 .f32) (s ss g be : Vec Ideal S1x1024 .f32) (r : Fin 512) (l : Fin 1024) (d : Fin 2560 → EReal)
    (hd : ∀ j, d j = Nearest.dist (bq (ix2 r 0)) (bs (ix2 0 j)) (fun k => q (ix2 r k)) fun k => pt (ix2 k j))
    {σ : Fin 3 → Fin 2560} (h3 : IsThree d σ) (low : ∀ k, d (σ k) < taken) :
    means pt bs q bq h s ss g be (ix2 r l)
      = folded (Ideal.ofBits .f32 964689920#32) (Ideal.ofBits .f32 925353388#32) (s (ix2 0 l)) (ss (ix2 0 l)) (g (ix2 0 l)) (be (ix2 0 l))
          (Nearest.mean (fun k => weight (d (σ k))) fun k => h (ix2 (σ k) l)) := by
  have he : ∀ j, k0_pay6 pt bs q bq (ix2 r j) = d j := fun j => (pay6_apply pt bs q bq r j).trans (hd j).symm
  have e3 : IsThree (fun j => k0_pay6 pt bs q bq (ix2 r j)) σ := by simpa only [he] using h3
  have row : Row (k0_pay6 pt bs q bq) (iota .tc S512x2560 32 [1] iota_S512x2560_d1_w32) (k0_pay7 pt bs q bq) r σ :=
    ⟨iota_apply r, e3, pay7_apply pt bs q bq r e3.zero, fun k => by rw [he]; exact low k⟩
  have hw : ∀ k, 0 ≤ weight (d (σ k)) := fun k => by
    obtain ⟨x, hx, e⟩ := weight_real (low k)
    rw [e]; exact_mod_cast hx.le
  unfold means
  rw [pay20_raw]
  refine congrArg (folded _ _ _ _ _ _) ?_
  have h2 := h3.two.raised_least (low 2)
  have key : ∀ j, (k0_pay14 (k0_pay6 pt bs q bq) (iota .tc S512x2560 32 [1] iota_S512x2560_d1_w32) (k0_pay7 pt bs q bq) (ix2 r j)
      + Scalar.select (IntOp.cmpi .eq (iota .tc S512x2560 32 [1] iota_S512x2560_d1_w32 (ix2 r j)) (Finset.fold IntOp.minsi 2147483647#32
            (fun x => Scalar.select (k0_pay18 (k0_pay6 pt bs q bq) (iota .tc S512x2560 32 [1] iota_S512x2560_d1_w32) (k0_pay7 pt bs q bq) (ix2 r x))
              (iota .tc S512x2560 32 [1] iota_S512x2560_d1_w32 (ix2 r x)) (k0_pay19 (ix2 r x))) Finset.univ))
            (weight (k0_pay17 (k0_pay6 pt bs q bq) (iota .tc S512x2560 32 [1] iota_S512x2560_d1_w32) (k0_pay7 pt bs q bq) (ix2 r 0))) (0 : EReal))
      = (if j = σ 0 then weight (d (σ 0)) else 0) + (if j = σ 1 then weight (d (σ 1)) else 0) + (if j = σ 2 then weight (d (σ 2)) else 0) := fun j => by
    rw [pay14_apply row, pay17_apply row, he, he, he]
    refine congrArg (fun x : EReal => (if j = σ 0 then weight (d (σ 0)) else 0) + (if j = σ 1 then weight (d (σ 1)) else 0) + x) ?_
    have e : (fun x => Scalar.select (k0_pay18 (k0_pay6 pt bs q bq) (iota .tc S512x2560 32 [1] iota_S512x2560_d1_w32) (k0_pay7 pt bs q bq) (ix2 r x))
              (iota .tc S512x2560 32 [1] iota_S512x2560_d1_w32 (ix2 r x)) (k0_pay19 (ix2 r x)))
        = fun x => if raised taken d {σ 0, σ 1} x = d (σ 2) then iota .tc S512x2560 32 [1] iota_S512x2560_d1_w32 (ix2 r x) else 2560#32 :=
      funext fun x => by
        rw [pay18_apply row, pay19_apply]
        simp only [he]
        unfold Scalar.select
        by_cases hx : raised taken d {σ 0, σ 1} x = d (σ 2) <;> simp [hx]
    rw [e, mask (iota_apply r) (σ 2) h2.1.symm h2.2.2 j, select_bit]
  simp only [key]
  rw [picks_sum σ (fun k => weight (d (σ k))) hw, pay15_apply row, pay17_apply row, he, he, he, Nearest.mean]
  refine congrArg (Ideal.div _) ?_
  exact (Fin.sum_univ_three (fun k => weight (d (σ k)))).symm

theorem pay1_apply (n : FVec Ideal S512x1024 .bf16) (w : Vec Ideal S1024x1024 .f32) (x : Vec Ideal S512x64 .f32) (ws : Vec Ideal S64x1024 .f32)
    (b : Vec Ideal S1x1024 .f32) (r : Fin 512) (l : Fin 1024) : k0_pay1 n w x ws b (ix2 r l)
      = max ((∑ k : Fin 1024, n (ix2 r k) * w (ix2 k l)) + (∑ k : Fin 64, x (ix2 r k) * ws (ix2 k l)) + b (ix2 0 l)) 0 := by
  pointwise [k0_pay1]

theorem pay2_apply (n : FVec Ideal S512x1024 .bf16) (w : Vec Ideal S1024x1024 .f32) (x : Vec Ideal S512x64 .f32) (ws : Vec Ideal S64x1024 .f32)
    (b : Vec Ideal S1x1024 .f32) (l : Fin 1024) : k0_pay2 n w x ws b (ix2 0 l) = ∑ r : Fin 512, k0_pay1 n w x ws b (ix2 r l) := by
  unfold k0_pay2
  generalize k0_pay1 n w x ws b = y
  pointwise

theorem pay3_apply (n : FVec Ideal S512x1024 .bf16) (w : Vec Ideal S1024x1024 .f32) (x : Vec Ideal S512x64 .f32) (ws : Vec Ideal S64x1024 .f32)
    (b : Vec Ideal S1x1024 .f32) (l : Fin 1024) :
    k0_pay3 n w x ws b (ix2 0 l) = ∑ r : Fin 512, k0_pay1 n w x ws b (ix2 r l) * k0_pay1 n w x ws b (ix2 r l) := by
  unfold k0_pay3
  generalize k0_pay1 n w x ws b = y
  pointwise

theorem pay4_apply (n : FVec Ideal S512x1024 .bf16) (w : Vec Ideal S1024x1024 .f32) (x : Vec Ideal S512x64 .f32) (ws : Vec Ideal S64x1024 .f32)
    (b p : Vec Ideal S1x1024 .f32) (l : Fin 1024) : k0_pay4 n w x ws b p (ix2 0 l) = p (ix2 0 l) + k0_pay2 n w x ws b (ix2 0 l) := by
  unfold k0_pay4
  generalize k0_pay2 n w x ws b = y
  pointwise

theorem pay5_apply (n : FVec Ideal S512x1024 .bf16) (w : Vec Ideal S1024x1024 .f32) (x : Vec Ideal S512x64 .f32) (ws : Vec Ideal S64x1024 .f32)
    (b p : Vec Ideal S1x1024 .f32) (l : Fin 1024) : k0_pay5 n w x ws b p (ix2 0 l) = p (ix2 0 l) + k0_pay3 n w x ws b (ix2 0 l) := by
  unfold k0_pay5
  generalize k0_pay3 n w x ws b = y
  pointwise

end Payload

/-! ## The blocks the windows fetch -/

section Fetch
variable {F : FTy → Type} [FloatOps F]
variable (m : (ℓ : Loc nD τ sig) → Buf (Elt F) ℓ) (hO : Ok m) (c : Dev nD)

theorem row_lt (t : Fin (cfgM m hO).N) (r : Fin 512) : 512 * t.val + r.val < 16384 := by
  have := t.isLt; have hN : (cfgM m hO).N = 32 := N_0; omega
theorem index0 : ∀ t : Fin grid0.N, cc0_transform_0 (grid0.coords t) 0 = t.val ∧ cc0_transform_0 (grid0.coords t) 1 = 0 := by decide +kernel
theorem index1 : ∀ t : Fin grid0.N, cc0_transform_1 (grid0.coords t) 0 = t.val ∧ cc0_transform_1 (grid0.coords t) 1 = 0 := by decide +kernel
theorem index2 : ∀ t : Fin grid0.N, cc0_transform_2 (grid0.coords t) 0 = 0 ∧ cc0_transform_2 (grid0.coords t) 1 = 0 := by decide +kernel
theorem index3 : ∀ t : Fin grid0.N, cc0_transform_3 (grid0.coords t) 0 = 0 ∧ cc0_transform_3 (grid0.coords t) 1 = 0 := by decide +kernel
theorem index4 : ∀ t : Fin grid0.N, cc0_transform_4 (grid0.coords t) 0 = 0 ∧ cc0_transform_4 (grid0.coords t) 1 = 0 := by decide +kernel
theorem index5 : ∀ t : Fin grid0.N, cc0_transform_5 (grid0.coords t) 0 = 0 ∧ cc0_transform_5 (grid0.coords t) 1 = 0 := by decide +kernel
theorem index6 : ∀ t : Fin grid0.N, cc0_transform_6 (grid0.coords t) 0 = 0 ∧ cc0_transform_6 (grid0.coords t) 1 = 0 := by decide +kernel
theorem index7 : ∀ t : Fin grid0.N, cc0_transform_7 (grid0.coords t) 0 = 0 ∧ cc0_transform_7 (grid0.coords t) 1 = 0 := by decide +kernel
theorem index8 : ∀ t : Fin grid0.N, cc0_transform_8 (grid0.coords t) 0 = 0 ∧ cc0_transform_8 (grid0.coords t) 1 = 0 := by decide +kernel
theorem index9 : ∀ t : Fin grid0.N, cc0_transform_9 (grid0.coords t) 0 = 0 ∧ cc0_transform_9 (grid0.coords t) 1 = 0 := by decide +kernel
theorem index10 : ∀ t : Fin grid0.N, cc0_transform_10 (grid0.coords t) 0 = 0 ∧ cc0_transform_10 (grid0.coords t) 1 = 0 := by decide +kernel
theorem index11 : ∀ t : Fin grid0.N, cc0_transform_11 (grid0.coords t) 0 = t.val ∧ cc0_transform_11 (grid0.coords t) 1 = 0 := by decide +kernel
theorem index12 : ∀ t : Fin grid0.N, cc0_transform_12 (grid0.coords t) 0 = t.val ∧ cc0_transform_12 (grid0.coords t) 1 = 0 := by decide +kernel
theorem index13 : ∀ t : Fin grid0.N, cc0_transform_13 (grid0.coords t) 0 = 0 ∧ cc0_transform_13 (grid0.coords t) 1 = 0 := by decide +kernel
theorem index14 : ∀ t : Fin grid0.N, cc0_transform_14 (grid0.coords t) 0 = 0 ∧ cc0_transform_14 (grid0.coords t) 1 = 0 := by decide +kernel
theorem main_v0_entry (k : Fin 3) (j : Fin 4096) : (V m c main_v0 : Vec F S3x4096 .f32) (ix2 k j) = m ((c.tc : Thread nD τ).loc main_arg7) (ix2 j k) := by
  unfold V
  after_reads_at
theorem main_v1_entry (j : Fin 4096) : (V m c main_v1 : Vec F S1x4096 .i32) (ix2 0 j) = m ((c.tc : Thread nD τ).loc main_arg9) (ix1 j) := by
  unfold V
  after_reads_at
theorem main_v2_entry (j : Fin 16384) : (V m c main_v2 : Vec F S16384x1 .i32) (ix2 j 0) = m ((c.tc : Thread nD τ).loc main_arg10) (ix1 j) := by
  unfold V
  after_reads_at
theorem main_v3_entry (j : Fin 1024) : (V m c main_v3 : Vec F S1x1024 .f32) (ix2 0 j) = m ((c.tc : Thread nD τ).loc main_arg12) (ix1 j) := by
  unfold V
  after_reads_at
theorem main_v4_entry (j : Fin 1024) : (V m c main_v4 : Vec F S1x1024 .f32) (ix2 0 j) = m ((c.tc : Thread nD τ).loc main_arg4) (ix1 j) := by
  unfold V
  after_reads_at
theorem main_v5_entry (j : Fin 1024) : (V m c main_v5 : Vec F S1x1024 .f32) (ix2 0 j) = m ((c.tc : Thread nD τ).loc main_arg5) (ix1 j) := by
  unfold V
  after_reads_at

/-- Point `t` fetches its queries' batches. -/
theorem bq_block (t : Fin (cfgM m hO).N) (r : Fin 512) :
    (iblk m hO c 0 t : Vec F S512x1 .i32) (ix2 r 0) = m ((c.tc : Thread nD τ).loc main_arg10) (ix1 ⟨512 * t.val + r.val, row_lt m hO t r⟩) := by
  rw [← main_v2_entry m c ⟨512 * t.val + r.val, row_lt m hO t r⟩]
  unfold iblk
  refine (View.read_apply ..).trans ?_
  show V m c main_v2 _ = V m c main_v2 _
  congr 1; funext a; apply Fin.ext
  match a with
  | ⟨0, _⟩ => show cc0_transform_0 (grid0.coords t) 0 * 512 + 1 * r.val = 512 * t.val + r.val; rw [(index0 t).1]; omega
  | ⟨1, _⟩ => show cc0_transform_0 (grid0.coords t) 1 * 1 + 1 * 0 = 0; rw [(index0 t).2]

/-- Point `t` fetches its queries' points. -/
theorem q_block (t : Fin (cfgM m hO).N) (r : Fin 512) (k : Fin 3) :
    (iblk m hO c 1 t : Vec F S512x3 .f32) (ix2 r k) = m ((c.tc : Thread nD τ).loc main_arg8) (ix2 ⟨512 * t.val + r.val, row_lt m hO t r⟩ k) := by
  unfold iblk
  refine (View.read_apply ..).trans ?_
  show V m c main_arg8 _ = _
  rw [V_main_arg8]
  congr 1; funext a; apply Fin.ext
  match a with
  | ⟨0, _⟩ => show cc0_transform_1 (grid0.coords t) 0 * 512 + 1 * r.val = 512 * t.val + r.val; rw [(index1 t).1]; omega
  | ⟨1, _⟩ => show cc0_transform_1 (grid0.coords t) 1 * 3 + 1 * k.val = k.val; rw [(index1 t).2]; omega

/-- Point `t` fetches its queries' own features. -/
theorem x_block (t : Fin (cfgM m hO).N) (r : Fin 512) (k : Fin 64) :
    (iblk m hO c 11 t : Vec F S512x64 .f32) (ix2 r k) = m ((c.tc : Thread nD τ).loc main_arg6) (ix2 ⟨512 * t.val + r.val, row_lt m hO t r⟩ k) := by
  unfold iblk
  refine (View.read_apply ..).trans ?_
  show V m c main_arg6 _ = _
  rw [V_main_arg6]
  congr 1; funext a; apply Fin.ext
  match a with
  | ⟨0, _⟩ => show cc0_transform_11 (grid0.coords t) 0 * 512 + 1 * r.val = 512 * t.val + r.val; rw [(index11 t).1]; omega
  | ⟨1, _⟩ => show cc0_transform_11 (grid0.coords t) 1 * 64 + 1 * k.val = k.val; rw [(index11 t).2]; omega

/-- Every point fetches the sources' batches. -/
theorem bs_block (t : Fin (cfgM m hO).N) (j : Fin 4096) :
    (iblk m hO c 2 t : Vec F S1x4096 .i32) (ix2 0 j) = m ((c.tc : Thread nD τ).loc main_arg9) (ix1 j) := by
  rw [← main_v1_entry m c j]
  unfold iblk
  refine (View.read_apply ..).trans ?_
  show V m c main_v1 _ = V m c main_v1 _
  congr 1; funext a; apply Fin.ext
  match a with
  | ⟨0, _⟩ => show cc0_transform_2 (grid0.coords t) 0 * 1 + 1 * 0 = 0; rw [(index2 t).1]
  | ⟨1, _⟩ => show cc0_transform_2 (grid0.coords t) 1 * 4096 + 1 * j.val = j.val; rw [(index2 t).2]; omega

/-- Every point fetches the sources' points. -/
theorem p_block (t : Fin (cfgM m hO).N) (k : Fin 3) (j : Fin 4096) :
    (iblk m hO c 3 t : Vec F S3x4096 .f32) (ix2 k j) = m ((c.tc : Thread nD τ).loc main_arg7) (ix2 j k) := by
  rw [← main_v0_entry m c k j]
  unfold iblk
  refine (View.read_apply ..).trans ?_
  show V m c main_v0 _ = V m c main_v0 _
  congr 1; funext a; apply Fin.ext
  match a with
  | ⟨0, _⟩ => show cc0_transform_3 (grid0.coords t) 0 * 3 + 1 * k.val = k.val; rw [(index3 t).1]; omega
  | ⟨1, _⟩ => show cc0_transform_3 (grid0.coords t) 1 * 4096 + 1 * j.val = j.val; rw [(index3 t).2]; omega

/-- Every point fetches the sources' features. -/
theorem h_block (t : Fin (cfgM m hO).N) (k : Fin 4096) (l : Fin 1024) :
    (iblk m hO c 4 t : Vec F S4096x1024 .f32) (ix2 k l) = m ((c.tc : Thread nD τ).loc main_arg1) (ix2 k l) := by
  unfold iblk
  refine (View.read_apply ..).trans ?_
  show V m c main_arg1 _ = _
  rw [V_main_arg1]
  congr 1; funext a; apply Fin.ext
  match a with
  | ⟨0, _⟩ => show cc0_transform_4 (grid0.coords t) 0 * 4096 + 1 * k.val = k.val; rw [(index4 t).1]; omega
  | ⟨1, _⟩ => show cc0_transform_4 (grid0.coords t) 1 * 1024 + 1 * l.val = l.val; rw [(index4 t).2]; omega

/-- Every point fetches the row of column sums. -/
theorem s_block (t : Fin (cfgM m hO).N) (j : Fin 1024) :
    (iblk m hO c 5 t : Vec F S1x1024 .f32) (ix2 0 j) = m ((c.tc : Thread nD τ).loc main_arg2) (ix2 0 j) := by
  unfold iblk
  refine (View.read_apply ..).trans ?_
  show V m c main_arg2 _ = _
  rw [V_main_arg2]
  congr 1; funext a; apply Fin.ext
  match a with
  | ⟨0, _⟩ => show cc0_transform_5 (grid0.coords t) 0 * 1 + 1 * 0 = 0; rw [(index5 t).1]
  | ⟨1, _⟩ => show cc0_transform_5 (grid0.coords t) 1 * 1024 + 1 * j.val = j.val; rw [(index5 t).2]; omega

/-- Every point fetches the row of column sums of squares. -/
theorem ss_block (t : Fin (cfgM m hO).N) (j : Fin 1024) :
    (iblk m hO c 6 t : Vec F S1x1024 .f32) (ix2 0 j) = m ((c.tc : Thread nD τ).loc main_arg3) (ix2 0 j) := by
  unfold iblk
  refine (View.read_apply ..).trans ?_
  show V m c main_arg3 _ = _
  rw [V_main_arg3]
  congr 1; funext a; apply Fin.ext
  match a with
  | ⟨0, _⟩ => show cc0_transform_6 (grid0.coords t) 0 * 1 + 1 * 0 = 0; rw [(index6 t).1]
  | ⟨1, _⟩ => show cc0_transform_6 (grid0.coords t) 1 * 1024 + 1 * j.val = j.val; rw [(index6 t).2]; omega

/-- Every point fetches the row of factors. -/
theorem g_block (t : Fin (cfgM m hO).N) (j : Fin 1024) :
    (iblk m hO c 7 t : Vec F S1x1024 .f32) (ix2 0 j) = m ((c.tc : Thread nD τ).loc main_arg4) (ix1 j) := by
  rw [← main_v4_entry m c j]
  unfold iblk
  refine (View.read_apply ..).trans ?_
  show V m c main_v4 _ = V m c main_v4 _
  congr 1; funext a; apply Fin.ext
  match a with
  | ⟨0, _⟩ => show cc0_transform_7 (grid0.coords t) 0 * 1 + 1 * 0 = 0; rw [(index7 t).1]
  | ⟨1, _⟩ => show cc0_transform_7 (grid0.coords t) 1 * 1024 + 1 * j.val = j.val; rw [(index7 t).2]; omega

/-- Every point fetches the row of shifts. -/
theorem be_block (t : Fin (cfgM m hO).N) (j : Fin 1024) :
    (iblk m hO c 8 t : Vec F S1x1024 .f32) (ix2 0 j) = m ((c.tc : Thread nD τ).loc main_arg5) (ix1 j) := by
  rw [← main_v5_entry m c j]
  unfold iblk
  refine (View.read_apply ..).trans ?_
  show V m c main_v5 _ = V m c main_v5 _
  congr 1; funext a; apply Fin.ext
  match a with
  | ⟨0, _⟩ => show cc0_transform_8 (grid0.coords t) 0 * 1 + 1 * 0 = 0; rw [(index8 t).1]
  | ⟨1, _⟩ => show cc0_transform_8 (grid0.coords t) 1 * 1024 + 1 * j.val = j.val; rw [(index8 t).2]; omega

/-- Every point fetches the weights. -/
theorem w_block (t : Fin (cfgM m hO).N) (k : Fin 1088) (l : Fin 1024) :
    (iblk m hO c 9 t : Vec F S1088x1024 .f32) (ix2 k l) = m ((c.tc : Thread nD τ).loc main_arg11) (ix2 k l) := by
  unfold iblk
  refine (View.read_apply ..).trans ?_
  show V m c main_arg11 _ = _
  rw [V_main_arg11]
  congr 1; funext a; apply Fin.ext
  match a with
  | ⟨0, _⟩ => show cc0_transform_9 (grid0.coords t) 0 * 1088 + 1 * k.val = k.val; rw [(index9 t).1]; omega
  | ⟨1, _⟩ => show cc0_transform_9 (grid0.coords t) 1 * 1024 + 1 * l.val = l.val; rw [(index9 t).2]; omega

/-- Every point fetches the bias. -/
theorem b_block (t : Fin (cfgM m hO).N) (j : Fin 1024) :
    (iblk m hO c 10 t : Vec F S1x1024 .f32) (ix2 0 j) = m ((c.tc : Thread nD τ).loc main_arg12) (ix1 j) := by
  rw [← main_v3_entry m c j]
  unfold iblk
  refine (View.read_apply ..).trans ?_
  show V m c main_v3 _ = V m c main_v3 _
  congr 1; funext a; apply Fin.ext
  match a with
  | ⟨0, _⟩ => show cc0_transform_10 (grid0.coords t) 0 * 1 + 1 * 0 = 0; rw [(index10 t).1]
  | ⟨1, _⟩ => show cc0_transform_10 (grid0.coords t) 1 * 1024 + 1 * j.val = j.val; rw [(index10 t).2]; omega

end Fetch

end Cert.Kernel6Ideal.Hand
end
end
-- ==== Proof.Interp6Value.lean ====
module
public import proofs.«01_k».proof.Proof.Interp6Fetch
public import Idealize.ShloMosaic.Lib.Pipeline.Value
public import Idealize.ShloMosaic.Lib.StableHlo.ReadAt
public import Idealize.ShloMosaic.Lib.Tactic
@[expose] public section
set_option maxRecDepth 16384
noncomputable section
open Idealize.ShloMosaic Idealize.ShloMosaic.TcCoe Idealize.SL.Sem
open Idealize.ShloMosaic.Pipeline (Dat)

/-! # What the interpolation call leaves in its three result arrays -/

namespace Cert.Kernel6Ideal.Hand

open Cert.Kernel6Ideal Cert.Kernel6Ideal.Gen Cert.Kernel6Ideal.Call Cert.BatchNorm Cert.Nearest

variable (m : (ℓ : Loc nD τ sig) → Buf (Elt Ideal) ℓ) (ρ : Dev nD → PrngReg) (hO : Ok m) (hH : Hyps m hO) (c : Dev nD)

/-- The first source of point `t`'s window. -/
abbrev word (t : Fin (cfgM m hO).N) : BitVec 32 :=
  tbM0_0.view.readAt (Elt Ideal) (Rect.unit (s := S32) (k0_off1 (grid0.coords t)) S1.size (k0_off1_inb (grid0.coords t))).toLoadRect (tbl m 0) (Shape.Idx.first (numel1_S1.symm ▸ Nat.one_pos))

/-- The layer of point `t`'s block of queries. -/
abbrev block (t : Fin (cfgM m hO).N) : FVec Ideal S512x1024 .f32 :=
  rows (word m hO t) (Hyps.c0 hH c t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t)

include hH c in
theorem window_le (t : Fin (cfgM m hO).N) : (word m hO t).toNat + 2560 ≤ 4096 := (hH c t).2.2.2 0

/-- The place of a window's source among all of them. -/
def at_ (t : Fin (cfgM m hO).N) (j : Fin 2560) : Fin 4096 :=
  ⟨(word m hO t).toNat + j.val, Nat.lt_of_lt_of_le (Nat.add_lt_add_left j.isLt _) (window_le m hO hH c t)⟩

theorem pt_apply (t : Fin (cfgM m hO).N) (k : Fin 3) (j : Fin 2560) :
    ptWin (word m hO t) (Hyps.c0 hH c t) (iblk m hO c 3 t) (ix2 k j) = m ((c.tc : Thread nD τ).loc main_arg7) (ix2 (at_ m hO hH c t j) k) := by
  refine Eq.trans ?_ (p_block m hO c t k (at_ m hO hH c t j))
  unfold ptWin
  refine congrArg (iblk m hO c 3 t : Vec Ideal S3x4096 .f32) (funext fun a => Fin.ext ?_)
  match a with
  | ⟨0, _⟩ => show 0 + 1 * k.val = k.val; omega
  | ⟨1, _⟩ => show (word m hO t).toNat + 1 * j.val = (word m hO t).toNat + j.val; omega

theorem bs_apply (t : Fin (cfgM m hO).N) (j : Fin 2560) :
    bsWin (word m hO t) (Hyps.c0 hH c t) (iblk m hO c 2 t) (ix2 0 j) = m ((c.tc : Thread nD τ).loc main_arg9) (ix1 (at_ m hO hH c t j)) := by
  refine Eq.trans ?_ (bs_block m hO c t (at_ m hO hH c t j))
  unfold bsWin
  refine congrArg (iblk m hO c 2 t : Vec Ideal S1x4096 .i32) (funext fun a => Fin.ext ?_)
  match a with
  | ⟨0, _⟩ => rfl
  | ⟨1, _⟩ => show (word m hO t).toNat + 1 * j.val = (word m hO t).toNat + j.val; omega

theorem h_apply (t : Fin (cfgM m hO).N) (j : Fin 2560) (l : Fin 1024) :
    hWin (word m hO t) (Hyps.c0 hH c t) (iblk m hO c 4 t) (ix2 j l) = m ((c.tc : Thread nD τ).loc main_arg1) (ix2 (at_ m hO hH c t j) l) := by
  refine Eq.trans ?_ (h_block m hO c t (at_ m hO hH c t j) l)
  unfold hWin
  refine congrArg (iblk m hO c 4 t : Vec Ideal S4096x1024 .f32) (funext fun a => Fin.ext ?_)
  match a with
  | ⟨0, _⟩ => show (word m hO t).toNat + 1 * j.val = (word m hO t).toNat + j.val; omega
  | ⟨1, _⟩ => show 0 + 1 * l.val = l.val; omega

theorem top_apply (t : Fin (cfgM m hO).N) (k l : Fin 1024) :
    wTop (iblk m hO c 9 t) (ix2 k l) = m ((c.tc : Thread nD τ).loc main_arg11) (ix2 ⟨k.val, by omega⟩ l) := by
  refine Eq.trans ?_ (w_block m hO c t ⟨k.val, by omega⟩ l)
  unfold wTop
  refine congrArg (iblk m hO c 9 t : Vec Ideal S1088x1024 .f32) (funext fun a => Fin.ext ?_)
  match a with
  | ⟨0, _⟩ => show 0 + 1 * k.val = k.val; omega
  | ⟨1, _⟩ => show 0 + 1 * l.val = l.val; omega

theorem skip_apply (t : Fin (cfgM m hO).N) (k : Fin 64) (l : Fin 1024) :
    wSkip (iblk m hO c 9 t) (ix2 k l) = m ((c.tc : Thread nD τ).loc main_arg11) (ix2 ⟨1024 + k.val, by omega⟩ l) := by
  refine Eq.trans ?_ (w_block m hO c t ⟨1024 + k.val, by omega⟩ l)
  unfold wSkip
  refine congrArg (iblk m hO c 9 t : Vec Ideal S1088x1024 .f32) (funext fun a => Fin.ext ?_)
  match a with
  | ⟨0, _⟩ => show 1024 + 1 * k.val = 1024 + k.val; omega
  | ⟨1, _⟩ => show 0 + 1 * l.val = l.val; omega

/-- The distances of query `i` to the sources. -/
def distances (i : Fin 16384) (j : Fin 4096) : EReal :=
  Nearest.dist (m ((c.tc : Thread nD τ).loc main_arg10) (ix1 i)) (m ((c.tc : Thread nD τ).loc main_arg9) (ix1 j)) (fun k => m ((c.tc : Thread nD τ).loc main_arg8) (ix2 i k)) fun k => m ((c.tc : Thread nD τ).loc main_arg7) (ix2 j k)

/-- An entry of the layer, given the three sources a window's search picks. -/
theorem block_apply (t : Fin (cfgM m hO).N) (r : Fin 512) (l : Fin 1024) {σ : Fin 3 → Fin 2560}
    (h3 : IsThree (fun j => distances m c ⟨512 * t.val + r.val, row_lt m hO t r⟩ (at_ m hO hH c t j)) σ)
    (low : ∀ k, distances m c ⟨512 * t.val + r.val, row_lt m hO t r⟩ (at_ m hO hH c t (σ k)) < taken) :
    block m hO hH c t (ix2 r l) = skipEntry (kk := 1088) rfl
      (fun k : Fin 1024 => folded (Ideal.ofBits .f32 964689920#32) (Ideal.ofBits .f32 925353388#32)
          (m ((c.tc : Thread nD τ).loc main_arg2) (ix2 0 k)) (m ((c.tc : Thread nD τ).loc main_arg3) (ix2 0 k)) (m ((c.tc : Thread nD τ).loc main_arg4) (ix1 k)) (m ((c.tc : Thread nD τ).loc main_arg5) (ix1 k))
          (Nearest.mean (fun a => weight (distances m c ⟨512 * t.val + r.val, row_lt m hO t r⟩ (at_ m hO hH c t (σ a)))) fun a => m ((c.tc : Thread nD τ).loc main_arg1) (ix2 (at_ m hO hH c t (σ a)) k)))
      (fun k : Fin 64 => m ((c.tc : Thread nD τ).loc main_arg6) (ix2 ⟨512 * t.val + r.val, row_lt m hO t r⟩ k)) (fun k => m ((c.tc : Thread nD τ).loc main_arg11) (ix2 k l)) (m ((c.tc : Thread nD τ).loc main_arg12) (ix1 l)) := by
  refine (pay1_apply _ _ _ _ _ r l).trans ?_
  rw [skipEntry]
  have hn : ∀ k, norms (word m hO t) (Hyps.c0 hH c t) (iblk m hO c 0 t) (iblk m hO c 1 t) (iblk m hO c 2 t) (iblk m hO c 3 t) (iblk m hO c 4 t) (iblk m hO c 5 t) (iblk m hO c 6 t) (iblk m hO c 7 t) (iblk m hO c 8 t) (ix2 r k) = _ := fun k =>
    means_apply _ _ _ _ _ _ _ _ _ r k (fun j => distances m c ⟨512 * t.val + r.val, row_lt m hO t r⟩ (at_ m hO hH c t j)) (fun j => by
      rw [distances, bs_apply m hO hH, bq_block]
      simp only [pt_apply m hO hH, q_block]) h3 low
  simp only [hn, top_apply, skip_apply, x_block, s_block, ss_block, g_block, be_block, h_apply m hO hH, b_block]

/-! ## The results, where `y` is the layer -/

variable (y : Fin 16384 → Fin 1024 → EReal) (hy : ∀ t r l, block m hO hH c t (ix2 r l) = y ⟨512 * t.val + r.val, row_lt m hO t r⟩ l)

/-- What point `n` leaves of the column sums. -/
def sums (n : Nat) (l : Fin 1024) : EReal := ∑ t ∈ Finset.range (n + 1), ∑ r : Fin 512, ext (fun i => y i l) (512 * t + r.val)
/-- What point `n` leaves of the column sums of squares. -/
def squares (n : Nat) (l : Fin 1024) : EReal :=
  ∑ t ∈ Finset.range (n + 1), ∑ r : Fin 512, ext (fun i => y i l * y i l) (512 * t + r.val)

include hy in
/-- The column sums of one block. -/
theorem rowSum_apply (t : Fin (cfgM m hO).N) (l : Fin 1024) : rowSum (word m hO t) (Hyps.c0 hH c t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (ix2 0 l)
    = ∑ r : Fin 512, ext (fun i => y i l) (512 * t.val + r.val) := by
  refine (pay2_apply _ _ _ _ _ l).trans ?_
  refine Finset.sum_congr rfl fun r _ => (hy t r l).trans ?_
  rw [ext, dif_pos (row_lt m hO t r)]

include hy in
/-- The column sums of squares of one block. -/
theorem rowSq_apply (t : Fin (cfgM m hO).N) (l : Fin 1024) : rowSq (word m hO t) (Hyps.c0 hH c t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (ix2 0 l)
    = ∑ r : Fin 512, ext (fun i => y i l * y i l) (512 * t.val + r.val) := by
  refine (pay3_apply _ _ _ _ _ l).trans ?_
  refine Finset.sum_congr rfl fun r _ => (congrArg₂ (fun a b : EReal => a * b) (hy t r l) (hy t r l)).trans ?_
  rw [ext, dif_pos (row_lt m hO t r)]

set_option maxHeartbeats 2000000 in
/-- The first point's three buffers. -/
theorem outs_first (t : Fin (cfgM m hO).N) (h0 : t.val % 32 = 0) (h1 : ¬ 1 ≤ t.val) : (outsAt0 m hO hH c t.val t.isLt).1 = block m hO hH c t
    ∧ (outsAt0 m hO hH c t.val t.isLt).2.1 = rowSum (word m hO t) (Hyps.c0 hH c t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t)
    ∧ (outsAt0 m hO hH c t.val t.isLt).2.2 = rowSq (word m hO t) (Hyps.c0 hH c t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) := by
  exact first_all (F := Ideal) _ _ _ _ _ _ _ _ _ _ _ _ _ _ _ _ _ _ _ _ _ _ _ _ _ _ _ _ _ _ _ _ _ _ _ _ _ _ _ _ _ _ _ _ _ _ _ _ (outsAt0_A m hO hH c t h0 h1)

set_option maxHeartbeats 2000000 in
/-- A later point's three buffers. -/
theorem outs_later (t : Fin (cfgM m hO).N) (h0 : ¬ t.val % 32 = 0) (h1 : 1 ≤ t.val) : (outsAt0 m hO hH c t.val t.isLt).1 = block m hO hH c t
    ∧ (outsAt0 m hO hH c t.val t.isLt).2.1 = nextSum (word m hO t) (Hyps.c0 hH c t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t)
        (outsAt0 m hO hH c (t.val - 1) (Nat.lt_of_le_of_lt (Nat.sub_le ..) t.isLt)).2.1
    ∧ (outsAt0 m hO hH c t.val t.isLt).2.2 = nextSq (word m hO t) (Hyps.c0 hH c t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t)
        (outsAt0 m hO hH c (t.val - 1) (Nat.lt_of_le_of_lt (Nat.sub_le ..) t.isLt)).2.2 := by
  exact later_all (F := Ideal) _ _ _ _ _ _ _ _ _ _ _ _ _ _ _ _ _ _ _ _ _ _ _ _ _ _ _ _ _ _ _ _ _ _ _ _ _ _ _ _ _ _ _ _ _ _ _ _ _ _ (outsAt0_B m hO hH c t h0 h1)

include hy in
/-- After point `n` the staging buffers hold the point's block and the sums so far. -/
theorem outs_eq : ∀ (n : ℕ) (h : n < (cfgM m hO).N), (outsAt0 m hO hH c n h).1 = block m hO hH c ⟨n, h⟩
    ∧ (∀ l, (outsAt0 m hO hH c n h).2.1 (ix2 0 l) = sums y n l) ∧ ∀ l, (outsAt0 m hO hH c n h).2.2 (ix2 0 l) = squares y n l
  | 0, h => by
    obtain ⟨e1, e2, e3⟩ := outs_first m hO hH c ⟨0, h⟩ rfl (by simp)
    refine ⟨e1, fun l => (congrFun e2 (ix2 0 l)).trans ?_, fun l => (congrFun e3 (ix2 0 l)).trans ?_⟩
    · rw [sums, Finset.sum_range_one]
      exact rowSum_apply m hO hH c y hy ⟨0, h⟩ l
    · rw [squares, Finset.sum_range_one]
      exact rowSq_apply m hO hH c y hy ⟨0, h⟩ l
  | n + 1, h => by
    have hN : (cfgM m hO).N = 32 := N_0
    obtain ⟨-, ih1, ih2⟩ := outs_eq n (Nat.lt_of_succ_lt h)
    obtain ⟨e1, e2, e3⟩ := outs_later m hO hH c ⟨n + 1, h⟩ (by dsimp only; omega) (by simp)
    refine ⟨e1, fun l => (congrFun e2 (ix2 0 l)).trans ((pay4_apply _ _ _ _ _ _ l).trans ?_), fun l => (congrFun e3 (ix2 0 l)).trans ((pay5_apply _ _ _ _ _ _ l).trans ?_)⟩
    · rw [sums, Finset.sum_range_succ]
      exact congrArg₂ (fun a b : EReal => a + b) (ih1 l) (rowSum_apply m hO hH c y hy ⟨n + 1, h⟩ l)
    · rw [squares, Finset.sum_range_succ]
      exact congrArg₂ (fun a b : EReal => a + b) (ih2 l) (rowSq_apply m hO hH c y hy ⟨n + 1, h⟩ l)

/-- The layer as one array. -/
def result : Vec Ideal S16384x1024 .f32 := fun j => y (j 0) (j 1)
/-- A row of sums after the last point. -/
def lastRow (f : Nat → Fin 1024 → EReal) : Vec Ideal S1x1024 .f32 := fun j => f (32 - 1) (j 1)

include hy in
/-- Every point writes back its block of the layer. -/
theorem flushed_out (t : Fin (cfgM m hO).N) : (dats m hO hH 0 c).flushed 12 t = (((cfgM m hO).win 12).blk t).view.read (Elt Ideal) (result y) := by
  have e : (dats m hO hH 0 c).flushed 12 t = ((cfgM m hO).win 12).cut (grid0.coords t) (outsAt0 m hO hH c t.val t.isLt).1 := by
    show ((cfgM m hO).win 12).cut (grid0.coords t) ((dats m hO hH 0 c).after 12 t) = _
    rw [after0_12]
  rw [e, (outs_eq m hO hH c y hy t.val t.isLt).1]
  refine funext fun (j : S512x1024.Idx) => ?_
  obtain ⟨r, k, rfl⟩ : ∃ (r : Fin 512) (k : Fin 1024), j = ix2 r k := ⟨j 0, j 1, eq_ix2 (n0 := 512) (n1 := 1024) j⟩
  refine Eq.trans ?_ (View.read_apply ..).symm
  refine (hy t r k).trans ?_
  show y _ _ = y _ _
  congr 1
  · apply Fin.ext
    show 512 * t.val + r.val = cc0_transform_12 (grid0.coords t) 0 * 512 + 1 * r.val; rw [(index12 t).1]; omega
  · apply Fin.ext
    show k.val = cc0_transform_12 (grid0.coords t) 1 * 1024 + 1 * k.val; rw [(index12 t).2]; omega

/-- The blocks cover the first result array. -/
theorem cover_out (i : S16384x1024.Idx) : ∃ t : Fin (cfgM m hO).N, ((cfgM m hO).win 12).flush t = true ∧ i ∈ (((cfgM m hO).win 12).blk t).view.set := by
  have hN : (cfgM m hO).N = 32 := N_0
  have h0 : (i 0 : Nat) < 16384 := (i 0).isLt
  have h1 : (i 1 : Nat) < 1024 := (i 1).isLt
  obtain ⟨t, ht⟩ : ∃ t : Fin (cfgM m hO).N, t.val = (i 0).val / 512 := ⟨⟨(i 0).val / 512, by omega⟩, rfl⟩
  refine ⟨t, flush0_12 _ t, ?_⟩
  refine (congrArg (i ∈ ·) (View.set_slice_whole main_v6_0 (((cfgM m hO).win 12).rect t))).mpr ?_
  refine Rect.mem_set_unit.mpr ?_
  intro a
  match a with
  | ⟨0, _⟩ => show cc0_transform_12 (grid0.coords t) 0 * 512 ≤ (i 0 : Nat) ∧ (i 0 : Nat) < cc0_transform_12 (grid0.coords t) 0 * 512 + 512
              rw [(index12 t).1, ht]; omega
  | ⟨1, _⟩ => show cc0_transform_12 (grid0.coords t) 1 * 1024 ≤ (i 1 : Nat) ∧ (i 1 : Nat) < cc0_transform_12 (grid0.coords t) 1 * 1024 + 1024
              rw [(index12 t).2]; omega

include hy in
/-- The first result array ends holding the layer. -/
theorem out_apply (i : Fin 16384) (l : Fin 1024) : (dats m hO hH 0 c).arrAt 12 (cfgM m hO).N (ix2 i l) = y i l :=
  congrFun ((dats m hO hH 0 c).arrAt_eq_of_cover 12 (result y) (fun t _ => flushed_out m hO hH c y hy t) (cover_out m hO)) (ix2 i l)

theorem last_lt : 32 - 1 < (cfgM m hO).N := by rw [show (cfgM m hO).N = 32 from N_0]; decide

include hy in
/-- The one write-back, after the last point, writes the row of column sums. -/
theorem flushed_sum (t : Fin (cfgM m hO).N) (hf : ((cfgM m hO).win 13).flush t = true) :
    (dats m hO hH 0 c).flushed 13 t = (((cfgM m hO).win 13).blk t).view.read (Elt Ideal) (lastRow (sums y)) := by
  have hN : (cfgM m hO).N = 32 := N_0
  have h3 : t.val = 32 - 1 := by have := (flush0_13 _ t).mp hf; have := t.isLt; omega
  have e : (dats m hO hH 0 c).flushed 13 t = ((cfgM m hO).win 13).cut (grid0.coords t) (outsAt0 m hO hH c t.val t.isLt).2.1 := by
    show ((cfgM m hO).win 13).cut (grid0.coords t) ((dats m hO hH 0 c).after 13 t) = _
    rw [after0_13]
  rw [e]
  refine funext fun (j : S1x1024.Idx) => ?_
  obtain ⟨r, k, rfl⟩ : ∃ (r : Fin 1) (k : Fin 1024), j = ix2 r k := ⟨j 0, j 1, eq_ix2 (n0 := 1) (n1 := 1024) j⟩
  obtain rfl : r = 0 := Subsingleton.elim _ _
  refine Eq.trans ?_ (View.read_apply ..).symm
  refine ((outs_eq m hO hH c y hy t.val t.isLt).2.1 k).trans ?_
  rw [h3]
  show sums y (32 - 1) k = sums y (32 - 1) _
  congr 1
  apply Fin.ext
  show k.val = cc0_transform_13 (grid0.coords t) 1 * 1024 + 1 * k.val; rw [(index13 t).2]; omega

/-- Its block is the whole row. -/
theorem cover_sum (i : S1x1024.Idx) : ∃ t : Fin (cfgM m hO).N, ((cfgM m hO).win 13).flush t = true ∧ i ∈ (((cfgM m hO).win 13).blk t).view.set := by
  have h0 : (i 0 : Nat) < 1 := (i 0).isLt
  have h1 : (i 1 : Nat) < 1024 := (i 1).isLt
  obtain ⟨t, ht⟩ : ∃ t : Fin (cfgM m hO).N, t.val = 32 - 1 := ⟨⟨_, last_lt m hO⟩, rfl⟩
  refine ⟨t, (flush0_13 _ t).mpr (by rw [ht]), ?_⟩
  refine (congrArg (i ∈ ·) (View.set_slice_whole main_v6_1 (((cfgM m hO).win 13).rect t))).mpr ?_
  refine Rect.mem_set_unit.mpr ?_
  intro a
  match a with
  | ⟨0, _⟩ => show cc0_transform_13 (grid0.coords t) 0 * 1 ≤ (i 0 : Nat) ∧ (i 0 : Nat) < cc0_transform_13 (grid0.coords t) 0 * 1 + 1
              rw [(index13 t).1]; omega
  | ⟨1, _⟩ => show cc0_transform_13 (grid0.coords t) 1 * 1024 ≤ (i 1 : Nat) ∧ (i 1 : Nat) < cc0_transform_13 (grid0.coords t) 1 * 1024 + 1024
              rw [(index13 t).2]; omega

include hy in
/-- Its result array ends holding the layer's column sums. -/
theorem sum_apply (l : Fin 1024) : (dats m hO hH 0 c).arrAt 13 (cfgM m hO).N (ix2 0 l) = ∑ i : Fin 16384, y i l := by
  rw [(dats m hO hH 0 c).arrAt_eq_of_cover 13 (lastRow (sums y)) (flushed_sum m hO hH c y hy) (cover_sum m hO)]
  show sums y (32 - 1) l = _
  rw [sums, sum_blocks_fin (by decide)]

include hy in
/-- The one write-back, after the last point, writes the row of column sums of squares. -/
theorem flushed_square (t : Fin (cfgM m hO).N) (hf : ((cfgM m hO).win 14).flush t = true) :
    (dats m hO hH 0 c).flushed 14 t = (((cfgM m hO).win 14).blk t).view.read (Elt Ideal) (lastRow (squares y)) := by
  have hN : (cfgM m hO).N = 32 := N_0
  have h3 : t.val = 32 - 1 := by have := (flush0_14 _ t).mp hf; have := t.isLt; omega
  have e : (dats m hO hH 0 c).flushed 14 t = ((cfgM m hO).win 14).cut (grid0.coords t) (outsAt0 m hO hH c t.val t.isLt).2.2 := by
    show ((cfgM m hO).win 14).cut (grid0.coords t) ((dats m hO hH 0 c).after 14 t) = _
    rw [after0_14]
  rw [e]
  refine funext fun (j : S1x1024.Idx) => ?_
  obtain ⟨r, k, rfl⟩ : ∃ (r : Fin 1) (k : Fin 1024), j = ix2 r k := ⟨j 0, j 1, eq_ix2 (n0 := 1) (n1 := 1024) j⟩
  obtain rfl : r = 0 := Subsingleton.elim _ _
  refine Eq.trans ?_ (View.read_apply ..).symm
  refine ((outs_eq m hO hH c y hy t.val t.isLt).2.2 k).trans ?_
  rw [h3]
  show squares y (32 - 1) k = squares y (32 - 1) _
  congr 1
  apply Fin.ext
  show k.val = cc0_transform_14 (grid0.coords t) 1 * 1024 + 1 * k.val; rw [(index14 t).2]; omega

/-- Its block is the whole row. -/
theorem cover_square (i : S1x1024.Idx) : ∃ t : Fin (cfgM m hO).N, ((cfgM m hO).win 14).flush t = true ∧ i ∈ (((cfgM m hO).win 14).blk t).view.set := by
  have h0 : (i 0 : Nat) < 1 := (i 0).isLt
  have h1 : (i 1 : Nat) < 1024 := (i 1).isLt
  obtain ⟨t, ht⟩ : ∃ t : Fin (cfgM m hO).N, t.val = 32 - 1 := ⟨⟨_, last_lt m hO⟩, rfl⟩
  refine ⟨t, (flush0_14 _ t).mpr (by rw [ht]), ?_⟩
  refine (congrArg (i ∈ ·) (View.set_slice_whole main_v6_2 (((cfgM m hO).win 14).rect t))).mpr ?_
  refine Rect.mem_set_unit.mpr ?_
  intro a
  match a with
  | ⟨0, _⟩ => show cc0_transform_14 (grid0.coords t) 0 * 1 ≤ (i 0 : Nat) ∧ (i 0 : Nat) < cc0_transform_14 (grid0.coords t) 0 * 1 + 1
              rw [(index14 t).1]; omega
  | ⟨1, _⟩ => show cc0_transform_14 (grid0.coords t) 1 * 1024 ≤ (i 1 : Nat) ∧ (i 1 : Nat) < cc0_transform_14 (grid0.coords t) 1 * 1024 + 1024
              rw [(index14 t).2]; omega

include hy in
/-- Its result array ends holding the layer's column sums of squares. -/
theorem square_apply (l : Fin 1024) : (dats m hO hH 0 c).arrAt 14 (cfgM m hO).N (ix2 0 l) = ∑ i : Fin 16384, y i l * y i l := by
  rw [(dats m hO hH 0 c).arrAt_eq_of_cover 14 (lastRow (squares y)) (flushed_square m hO hH c y hy) (cover_square m hO)]
  show squares y (32 - 1) l = _
  rw [squares, sum_blocks_fin (by decide)]

end Cert.Kernel6Ideal.Hand
end
end
-- ==== Proof.Interp6Window.lean ====
module
public import proofs.«01_k».proof.Defs
public import proofs.«01_k».proof.Proof.Interp6Value
public import proofs.«01_k».proof.Proof.Starts6
public import proofs.«01_k».proof.Proof.NearestPre6
@[expose] public section
set_option maxRecDepth 16384
noncomputable section
open Idealize.ShloMosaic Idealize.ShloMosaic.TcCoe Idealize.SL.Sem

/-! # The interpolation call: the window holds the three nearest sources -/

namespace Cert.Kernel6Ideal.Hand

open Cert.Kernel6Ideal Cert.Kernel6Ideal.Gen Cert.Kernel6Ideal.Call Cert.BatchNorm Cert.Nearest Cert.Nearest6

variable (m : (ℓ : Loc nD τ sig) → Buf (Elt Ideal) ℓ) (ρ : Dev nD → PrngReg) (hO : Ok m) (hH : Hyps m hO) (c : Dev nD)

/-- The precondition, read on the memory. -/
abbrev ReadAt : Prop := Read (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10))

/-- The run: what the result arrays end with, the arguments unchanged. -/
theorem run_blocks : θ_run defs (onTc (τ := τ) (main (F := Ideal))) ⟨m, fun _ => 0, ρ⟩ fun r => ∀ c : Dev nD,
      r.2.mem ((c.tc : Thread nD τ).loc main_v6_0) = (dats m hO hH 0 c).arrAt 12 (cfgM m hO).N
      ∧ r.2.mem ((c.tc : Thread nD τ).loc main_v6_1) = (dats m hO hH 0 c).arrAt 13 (cfgM m hO).N
      ∧ r.2.mem ((c.tc : Thread nD τ).loc main_v6_2) = (dats m hO hH 0 c).arrAt 14 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1 12, (h c).1 13, (h c).1 14,
      ((h c).2 main_arg0 (by decide : main_arg0 ∈ Pipeline.restRefs sig spec0)).trans (V_main_arg0 m c),
      ((h c).1 4).trans (((dats m hO hH 0 c).arrAt_in 4 rfl _).trans ((A_eq m hO hH c 4).trans (V_main_arg1 m c))),
      ((h c).1 5).trans (((dats m hO hH 0 c).arrAt_in 5 rfl _).trans ((A_eq m hO hH c 5).trans (V_main_arg2 m c))),
      ((h c).1 6).trans (((dats m hO hH 0 c).arrAt_in 6 rfl _).trans ((A_eq m hO hH c 6).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).1 11).trans (((dats m hO hH 0 c).arrAt_in 11 rfl _).trans ((A_eq m hO hH c 11).trans (V_main_arg6 m c))),
      ((h c).2 main_arg7 (by decide : main_arg7 ∈ Pipeline.restRefs sig spec0)).trans (V_main_arg7 m c),
      ((h c).1 1).trans (((dats m hO hH 0 c).arrAt_in 1 rfl _).trans ((A_eq m hO hH c 1).trans (V_main_arg8 m c))),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).1 9).trans (((dats m hO hH 0 c).arrAt_in 9 rfl _).trans ((A_eq m hO hH c 9).trans (V_main_arg11 m c))),
      ((h c).2 main_arg12 (by decide : main_arg12 ∈ Pipeline.restRefs sig spec0)).trans (V_main_arg12 m c)⟩) (run_main m ρ hO hH)

/-- The window of a point, in order. -/
def window (t : Fin (cfgM m hO).N) : Fin 2560 ↪o Fin 4096 :=
  OrderEmbedding.ofStrictMono (at_ m hO hH c t) fun a b h => by
    have h' : a.val < b.val := h
    show (word m hO t).toNat + a.val < (word m hO t).toNat + b.val
    omega

/-- The start of a point's window, as the precondition names it. -/
theorem word_row (t : Fin (cfgM m hO).N) (r : Fin 512) :
    word m hO t = (m ((c.tc : Thread nD τ).loc main_arg0)) (ix1 ⟨(512 * t.val + r.val) / 512, by have := row_lt m hO t r; omega⟩) := by
  obtain rfl : c = 0 := Subsingleton.elim _ _
  refine (word_eq m hO t).trans (congrArg (fun n : Fin 32 => m (((0 : Dev nD).tc : Thread nD τ).loc main_arg0) (ix1 n)) (Fin.ext ?_))
  show t.val = (512 * t.val + r.val) / 512
  have := r.isLt
  omega

variable {m c}

/-- A source of the query's batch lies in the window. -/
theorem mem_window (hR : ReadAt m c) (t : Fin (cfgM m hO).N) (r : Fin 512) {j : Fin 4096}
    (hb : (m ((c.tc : Thread nD τ).loc main_arg10)) (ix1 ⟨512 * t.val + r.val, row_lt m hO t r⟩) = (m ((c.tc : Thread nD τ).loc main_arg9)) (ix1 j)) : ∃ a : Fin 2560, at_ m hO hH c t a = j := by
  obtain ⟨h1, h2⟩ := hR.inside _ _ hb
  rw [← word_row m hO c t r] at h1 h2
  refine ⟨⟨j.val - (word m hO t).toNat, by omega⟩, Fin.ext ?_⟩
  show (word m hO t).toNat + (j.val - (word m hO t).toNat) = j.val
  omega

theorem near (hR : ReadAt m c) (i : Fin 16384) (j : Fin 4096) (hb : (m ((c.tc : Thread nD τ).loc main_arg10)) (ix1 i) = (m ((c.tc : Thread nD τ).loc main_arg9)) (ix1 j)) : distances m c i j < far := by
  unfold distances
  rw [hb]
  exact near_lt_far (hR.near_q i) (hR.near_p j)

theorem low (hR : ReadAt m c) (i : Fin 16384) (j : Fin 4096) : distances m c i j < taken :=
  lt_of_le_of_lt (dist_le_far (hR.near_q i) (hR.near_p j)) far_lt_taken

/-- The three nearest of the window are the three nearest of all. -/
theorem three_whole (hR : ReadAt m c) (t : Fin (cfgM m hO).N) (r : Fin 512) {σ : Fin 3 → Fin 2560}
    (h3 : IsThree (fun j => distances m c ⟨512 * t.val + r.val, row_lt m hO t r⟩ (at_ m hO hH c t j)) σ) :
    IsThree (distances m c ⟨512 * t.val + r.val, row_lt m hO t r⟩) fun k => at_ m hO hH c t (σ k) := by
  refine IsThree.shift (window m hO hH c t) _ far (fun j hj => ?_) ?_ h3
  · refine far_le_dist (fun hb => hj ?_) _ _
    exact mem_window hO hH hR t r hb
  · refine (hR.three ⟨512 * t.val + r.val, row_lt m hO t r⟩).trans ?_
    refine (Finset.card_le_card (t := (Finset.univ.filter fun a : Fin 2560 =>
      distances m c ⟨512 * t.val + r.val, row_lt m hO t r⟩ (at_ m hO hH c t a) < far).image (at_ m hO hH c t)) fun j hj => ?_).trans Finset.card_image_le
    have hb := (Finset.mem_filter.1 hj).2
    obtain ⟨a, rfl⟩ := mem_window hO hH hR t r hb
    exact Finset.mem_image_of_mem _ (Finset.mem_filter.2 ⟨Finset.mem_univ _, near hR _ _ hb⟩)

end Cert.Kernel6Ideal.Hand
end
end
-- ==== Proof.NearestReference6.lean ====
module
public import proofs.«01_k».proof.Proof.BatchNorm
public import proofs.«01_k».proof.Proof.NearestMean
public import proofs.«01_k».proof.Proof.Gen.Reference6Ideal.Run
@[expose] public section
set_option maxRecDepth 16384
noncomputable section
open Idealize.ShloMosaic Idealize.ShloMosaic.TcCoe Idealize.SL.Sem Idealize.ShloMosaic.StableHlo

/-! # What the reference of the interpolating layer leaves -/

namespace Cert.Reference6Ideal.Hand
open Cert.Reference6Ideal Cert.Reference6Ideal.Gen Cert.BatchNorm Cert.Nearest

/-- The distances of every query to every source, far where the batches differ. -/
def masked (p : FVec Ideal S4096x3 .f32) (q : FVec Ideal S16384x3 .f32) (bs : Vec Ideal S4096 .i32) (bq : Vec Ideal S16384 .i32) : FVec Ideal S16384x4096 .f32 :=
  (select (cmpi .ne (broadcastInDim S16384x4096 ![0, 1] bcast_S16384x1_S16384x4096_0_1 (broadcastInDim S16384x1 ![0] bcast_S16384_S16384x1_0 bq)) (broadcastInDim S16384x4096 ![0, 1] bcast_S1x4096_S16384x4096_0_1 (broadcastInDim S1x4096 ![1] bcast_S4096_S1x4096_1 bs))) (broadcastInDim S16384x4096 ![] bcast_S_S16384x4096 (id (constant S_ .f32 0x501502F9#32))) (addf (subf (broadcastInDim S16384x4096 ![0, 1] bcast_S16384x1_S16384x4096_0_1 (broadcastInDim S16384x1 ![0] bcast_S16384_S16384x1_0 (Host.reduceAdd (mulf q q) (constant S_ .f32 0x00000000#32) reducesTo_S16384x3_S16384_d1 h_S_))) (mulf (broadcastInDim S16384x4096 ![] bcast_S_S16384x4096 (constant S_ .f32 0x40000000#32)) (Host.dotGeneral dot_S16384x3_S3x4096_S16384x4096_1_0_0_1_n_n none q (transpose S3x4096 [1, 0] p transposes_S4096x3_S3x4096_1_0)))) (broadcastInDim S16384x4096 ![0, 1] bcast_S1x4096_S16384x4096_0_1 (broadcastInDim S1x4096 ![1] bcast_S4096_S1x4096_1 (Host.reduceAdd (mulf p p) (constant S_ .f32 0x00000000#32) reducesTo_S4096x3_S4096_d1 h_S_)))))

/-- The sources, normalised. -/
def normed (h : FVec Ideal S4096x1024 .f32) (g be : FVec Ideal S1024 .f32) : FVec Ideal S4096x1024 .f32 :=
  (addf (Host.divf (mulf (broadcastInDim S4096x1024 ![0, 1] bcast_S1x1024_S4096x1024_0_1 (broadcastInDim S1x1024 ![1] bcast_S1024_S1x1024_1 g)) (subf h (broadcastInDim S4096x1024 ![0, 1] bcast_S1x1024_S4096x1024_0_1 (broadcastInDim S1x1024 ![1] bcast_S1024_S1x1024_1 (Host.divf (Host.reduceAdd h (constant S_ .f32 0x00000000#32) reducesTo_S4096x1024_S1024_d0 h_S_) (broadcastInDim S1024 ![] bcast_S_S1024 (constant S_ .f32 0x45800000#32))))))) (broadcastInDim S4096x1024 ![0, 1] bcast_S1x1024_S4096x1024_0_1 (broadcastInDim S1x1024 ![1] bcast_S1024_S1x1024_1 (Host.sqrt (addf (select (broadcastInDim S1024 ![] bcast_S_S1024 (cmpf .ogt (subf (constant S_ .f32 0x45800000#32) (sitofp .f32 (constantI S_ 32 0#32)) : FVec Ideal S_ .f32) (constant S_ .f32 0x00000000#32))) (Host.divf (Host.reduceAdd (mulf (subf h (broadcastInDim S4096x1024 ![0, 1] bcast_S1x1024_S4096x1024_0_1 (Host.divf (broadcastInDim S1x1024 ![1] bcast_S1024_S1x1024_1 (Host.reduceAdd h (constant S_ .f32 0x00000000#32) reducesTo_S4096x1024_S1024_d0 h_S_)) (broadcastInDim S1x1024 ![] bcast_S_S1x1024 (constant S_ .f32 0x45800000#32))))) (subf h (broadcastInDim S4096x1024 ![0, 1] bcast_S1x1024_S4096x1024_0_1 (Host.divf (broadcastInDim S1x1024 ![1] bcast_S1024_S1x1024_1 (Host.reduceAdd h (constant S_ .f32 0x00000000#32) reducesTo_S4096x1024_S1024_d0 h_S_)) (broadcastInDim S1x1024 ![] bcast_S_S1x1024 (constant S_ .f32 0x45800000#32)))))) (constant S_ .f32 0x00000000#32) reducesTo_S4096x1024_S1024_d0 h_S_) (broadcastInDim S1024 ![] bcast_S_S1024 (subf (constant S_ .f32 0x45800000#32) (sitofp .f32 (constantI S_ 32 0#32))))) (broadcastInDim S1024 ![] bcast_S_S1024 (id (constant S_ .f32 0x7FC00000#32)))) (broadcastInDim S1024 ![] bcast_S_S1024 (constant S_ .f32 0x3727C5AC#32))))))) (broadcastInDim S4096x1024 ![0, 1] bcast_S1x1024_S4096x1024_0_1 (broadcastInDim S1x1024 ![1] bcast_S1024_S1x1024_1 be)))

/-- Sorted positions, counted from the end where negative. -/
def places (k : IVec S16384x3 32) : IVec S16384x3 32 :=
  (select (cmpi .slt k (broadcastInDim S16384x3 ![] bcast_S_S16384x3 (constantI S_ 32 0#32))) (addi k (broadcastInDim S16384x3 ![] bcast_S_S16384x3 (constantI S_ 32 4096#32))) k)

/-- The rows at the positions. -/
def gathered (y : FVec Ideal S4096x1024 .f32) (k : IVec S16384x3 32) : FVec Ideal S16384x3x1024 .f32 :=
  (Host.gather gather_S4096x1024_S16384x3x1_S16384x3x1024_2_0_n_n_0_2_11024 y (broadcastInDim S16384x3x1 ![0, 1] bcast_S16384x3_S16384x3x1_0_1 (places k)))

/-- Inverse distances. -/
def weights (v : FVec Ideal S16384x3 .f32) : FVec Ideal S16384x3 .f32 :=
  (Host.divf (broadcastInDim S16384x3 ![] bcast_S_S16384x3 (constant S_ .f32 0x3F800000#32)) (maximumf (broadcastInDim S16384x3 ![] bcast_S_S16384x3 (id (constant S_ .f32 0x24E69595#32))) (Host.negf v)))

/-- Rows averaged by weight. -/
def averaged (z : FVec Ideal S16384x3x1024 .f32) (v : FVec Ideal S16384x3 .f32) : FVec Ideal S16384x1024 .f32 :=
  (Host.divf (Host.reduceAdd (mulf z (broadcastInDim S16384x3x1024 ![0, 1, 2] bcast_S16384x3x1_S16384x3x1024_0_1_2 (broadcastInDim S16384x3x1 ![0, 1] bcast_S16384x3_S16384x3x1_0_1 (weights v)))) (constant S_ .f32 0x00000000#32) reducesTo_S16384x3x1024_S16384x1024_d1 h_S_) (broadcastInDim S16384x1024 ![0, 1] bcast_S16384x1_S16384x1024_0_1 (broadcastInDim S16384x1 ![0] bcast_S16384_S16384x1_0 (Host.reduceAdd (weights v) (constant S_ .f32 0x00000000#32) reducesTo_S16384x3_S16384_d1 h_S_))))

/-- The linear layer on the averages and the skipped features. -/
def linear (a : FVec Ideal S16384x1024 .f32) (x : FVec Ideal S16384x64 .f32) (w : FVec Ideal S1088x1024 .f32) (b : FVec Ideal S1024 .f32) : FVec Ideal S16384x1024 .f32 :=
  maximumf (addf (Host.dotGeneral dot_S16384x1088_S1088x1024_S16384x1024_1_0_0_1_n_n none (concatenate S16384x1088 1 [⟨S16384x1024, a⟩, ⟨S16384x64, x⟩] concatenates_S16384x1024_S16384x64_S16384x1088_d1) w) (broadcastInDim S16384x1024 ![0, 1] bcast_S1x1024_S16384x1024_0_1 (broadcastInDim S1x1024 ![1] bcast_S1024_S1x1024_1 b))) (broadcastInDim S16384x1024 ![] bcast_S_S16384x1024 (constant S_ .f32 0x00000000#32))

theorem masked_apply (p : FVec Ideal S4096x3 .f32) (q : FVec Ideal S16384x3 .f32) (bs : Vec Ideal S4096 .i32) (bq : Vec Ideal S16384 .i32)
    (i : Fin 16384) (j : Fin 4096) : masked p q bs bq (ix2 i j)
      = Nearest.dist (bq (ix1 i)) (bs (ix1 j)) (fun k => q (ix2 i k)) fun k => p (ix2 j k) := by
  pointwise [masked]
  exact select_far _ _ _

theorem normed_apply (h : FVec Ideal S4096x1024 .f32) (g be : FVec Ideal S1024 .f32) (i : Fin 4096) (l : Fin 1024) :
    normed h g be (ix2 i l) = plain (Ideal.ofBits .f32 1166016512#32) (Ideal.ofBits .f32 925353388#32) (fun i : Fin 4096 => h (ix2 i l))
      (g (ix1 l)) (be (ix1 l)) (h (ix2 i l)) := by
  pointwise [normed]
  simp only [zero_word, sub_zero, rows_pos_4096, if_true]
  rfl

theorem places_apply (k : IVec S16384x3 32) (i : Fin 16384) (r : Fin 3) (n : Fin 4096) (h : k (ix2 i r) = BitVec.ofNat 32 n.val) :
    places k (ix2 i r) = BitVec.ofNat 32 n.val := by
  pointwise [places]
  rw [h]
  have e : IntOp.cmpi .slt (BitVec.ofNat 32 n.val) 0#32 = 0#1 := by
    have := n.isLt
    show BitVec.ofBool ((BitVec.ofNat 32 n.val).slt 0#32) = 0#1
    rw [BitVec.slt, BitVec.toInt_eq_toNat_cond, BitVec.toNat_ofNat, Nat.mod_eq_of_lt (by omega), if_pos (by omega)]
    show BitVec.ofBool (decide ((n.val : Int) < 0)) = 0#1
    rw [decide_eq_false (by omega)]
    rfl
  simp [Scalar.select, e]

/-- The gather's dimension numbers. -/
abbrev dims := gather_S4096x1024_S16384x3x1_S16384x3x1024_2_0_n_n_0_2_11024

/-- A gathered entry reads the row its position names. -/
theorem gather_apply (y : FVec Ideal S4096x1024 .f32) (k : IVec S16384x3x1 32) (i : Fin 16384) (r : Fin 3) (l : Fin 1024) (n : Fin 4096)
    (h : k (ix3 i r 0) = BitVec.ofNat 32 n.val) : Host.gather dims y k (ix3 i r l) = y (ix2 n l) := by
  have e : (BitVec.ofNat 32 n.val).toInt.toNat = n.val := by
    have := n.isLt
    rw [BitVec.toInt_eq_toNat_cond, BitVec.toNat_ofNat, Nat.mod_eq_of_lt (by omega), if_pos (by omega)]
    rfl
  have nb : ∀ a : Fin 2, a ∉ dims.operandBatchingDims := fun a => List.not_mem_nil
  have hsk : dims.siKept = [0, 1] := by decide
  have hbd : dims.batchDims = [0, 1] := by decide
  have hkk : dims.sKept = [1] := by decide
  unfold Host.gather
  refine congrArg y (funext fun a => Fin.ext ?_)
  match a with
  | ⟨0, _⟩ =>
    have hk : (0 : Fin 2) ∉ dims.sKept := by rw [hkk]; decide
    have hm : (0 : Fin 2) ∈ dims.startIndexMap := List.mem_singleton.mpr rfl
    show dims.start (ix3 i r l) k 0 + dims.batchCoord (ix3 i r l) 0 + dims.offCoord (ix3 i r l) 0 = n.val
    rw [GatherDims.batchCoord_eq_zero _ _ _ (nb _), GatherDims.offCoord_eq_zero _ _ _ hk, GatherDims.start, dif_pos hm]
    have hi : dims.siIdx (ix3 i r l) ⟨dims.startIndexMap.idxOf 0, List.idxOf_lt_length_iff.2 hm⟩ = ix3 i r 0 := by
      funext b
      match b with
      | ⟨0, _⟩ =>
        unfold GatherDims.siIdx
        refine (dif_neg (fun hb : (0 : Nat) = 2 => absurd hb (by decide))).trans ?_
        unfold GatherDims.siCoord
        apply Fin.ext
        simp only [Fin.val_cast]
        have e : ∀ X : Fin 3, X = 0 → ((ix3 i r l : S16384x3x1024.Idx) X).val = i.val := by rintro _ rfl; rfl
        exact e _ (by simp [hsk, hbd])
      | ⟨1, _⟩ =>
        unfold GatherDims.siIdx
        refine (dif_neg (fun hb : (1 : Nat) = 2 => absurd hb (by decide))).trans ?_
        unfold GatherDims.siCoord
        apply Fin.ext
        simp only [Fin.val_cast]
        have e : ∀ X : Fin 3, X = 1 → ((ix3 i r l : S16384x3x1024.Idx) X).val = r.val := by rintro _ rfl; rfl
        exact e _ (by simp [hsk, hbd])
      | ⟨2, _⟩ =>
        exact Subsingleton.elim (α := Fin 1) _ _
    rw [hi, h, e]
    show min n.val (4096 - 1) + 0 + 0 = n.val
    have := n.isLt
    omega
  | ⟨1, _⟩ =>
    have hk : (1 : Fin 2) ∈ dims.sKept := by rw [hkk]; decide
    have hm : (1 : Fin 2) ∉ dims.startIndexMap := by decide
    show dims.start (ix3 i r l) k 1 + dims.batchCoord (ix3 i r l) 1 + dims.offCoord (ix3 i r l) 1 = l.val
    rw [GatherDims.batchCoord_eq_zero _ _ _ (nb _), GatherDims.start, dif_neg hm, GatherDims.offCoord, dif_pos hk, Nat.zero_add]
    have e : ∀ X : Fin 3, X = 2 → ((ix3 i r l : S16384x3x1024.Idx) X).val = l.val := by rintro _ rfl; rfl
    exact e _ (by simp only [hkk]; rfl)

theorem gathered_apply (y : FVec Ideal S4096x1024 .f32) (k : IVec S16384x3 32) (i : Fin 16384) (r : Fin 3) (l : Fin 1024) (n : Fin 4096)
    (h : k (ix2 i r) = BitVec.ofNat 32 n.val) : gathered y k (ix3 i r l) = y (ix2 n l) := by
  refine gather_apply y _ i r l n (Eq.trans ?_ (places_apply k i r n h))
  generalize places k = k'
  pointwise

theorem averaged_apply (z : FVec Ideal S16384x3x1024 .f32) (v : FVec Ideal S16384x3 .f32) (i : Fin 16384) (l : Fin 1024) (d : Fin 3 → EReal)
    (h : ∀ r, v (ix2 i r) = -d r) : averaged z v (ix2 i l) = Nearest.mean (fun r => weight (d r)) fun r => z (ix3 i r l) := by
  unfold averaged weights
  pointwise
  simp only [h, neg_neg, Nearest.mean, weight, mul_comm]
  rfl

theorem linear_apply (a : FVec Ideal S16384x1024 .f32) (x : FVec Ideal S16384x64 .f32) (w : FVec Ideal S1088x1024 .f32) (b : FVec Ideal S1024 .f32)
    (i : Fin 16384) (l : Fin 1024) : linear a x w b (ix2 i l) = skipEntry (kk := 1088) rfl (fun k : Fin 1024 => a (ix2 i k))
      (fun k : Fin 64 => x (ix2 i k)) (fun k => w (ix2 k l)) (b (ix1 l)) := by
  pointwise [linear]
  rfl

/-- The sorted position the sort moves to place `u`. -/
def moved (d : FVec Ideal S16384x4096 .f32) (u : S16384x4096.Idx) : Fin 4096 :=
  sortedFrom (n := 4096) (fun k k' => FloatOps.cmpfTotal .gt (Host.negf d (u.along 1 k)) (Host.negf d (u.along 1 k')) == 1#1) (u 1)

theorem moved_eq (d : FVec Ideal S16384x4096 .f32) (i : Fin 16384) {σ : Fin 3 → Fin 4096} (h : IsThree (fun j => d (ix2 i j)) σ) (r : Fin 3)
    (u : S16384x4096.Idx) (hu : u = ix2 i (r.castLE (by decide))) : moved d u = σ r ∧ u.along 1 (moved d u) = ix2 i (σ r) := by
  subst hu
  have place : ∀ p : Fin 4096, (ix2 i (r.castLE (by decide : 3 ≤ 4096)) : S16384x4096.Idx).along 1 p = ix2 i p := fun p => by
    funext a
    match a with
    | ⟨0, _⟩ => rfl
    | ⟨1, _⟩ => rfl
  have hm : moved d (ix2 i (r.castLE (by decide))) = σ r := by
    refine Eq.trans ?_ (sorted_three _ (by decide) h r)
    unfold moved
    refine congrArg (fun f => sortedFrom f (r.castLE (by decide))) (funext fun k => funext fun k' => ?_)
    rw [place, place]
    show (BitVec.ofBool (decide (-d (ix2 i k) > -d (ix2 i k'))) == 1#1) = _
    cases decide (-d (ix2 i k) > -d (ix2 i k')) <;> rfl
  exact ⟨hm, by rw [hm, place]⟩

/-- The three greatest of the negated distances, and their places. -/
theorem top_apply (d : FVec Ideal S16384x4096 .f32) (i : Fin 16384) {σ : Fin 3 → Fin 4096} (h : IsThree (fun j => d (ix2 i j)) σ) (r : Fin 3) :
    (Host.topK S16384x3 1 (FloatOps.cmpfTotal .gt) (Host.negf d) sliceFits_S16384x4096_S16384x3).1 (ix2 i r) = -d (ix2 i (σ r))
    ∧ (Host.topK S16384x3 1 (FloatOps.cmpfTotal .gt) (Host.negf d) sliceFits_S16384x4096_S16384x3).2 (ix2 i r) = BitVec.ofNat 32 (σ r).val := by
  obtain ⟨u, hu, e1, e2⟩ : ∃ u : S16384x4096.Idx, u = ix2 i (r.castLE (by decide))
      ∧ (Host.topK S16384x3 1 (FloatOps.cmpfTotal .gt) (Host.negf d) sliceFits_S16384x4096_S16384x3).1 (ix2 i r) = Host.negf d (u.along 1 (moved d u))
      ∧ (Host.topK S16384x3 1 (FloatOps.cmpfTotal .gt) (Host.negf d) sliceFits_S16384x4096_S16384x3).2 (ix2 i r) = iotaInDim S16384x4096 32 1 (u.along 1 (moved d u)) := by
    refine ⟨_, ?_, rfl, rfl⟩
    funext a
    match a with
    | ⟨0, _⟩ => exact Fin.ext (Nat.zero_add _)
    | ⟨1, _⟩ => exact Fin.ext (Nat.zero_add _)
  obtain ⟨-, hp⟩ := moved_eq d i h r u hu
  rw [e1, e2, hp]
  exact ⟨rfl, rfl⟩

variable (m : (ℓ : Loc nD τ sig) → Buf (Elt Ideal) ℓ) (ρ : Dev nD → PrngReg)

/-- The distances of query `i` to the sources. -/
def distances (c : Dev nD) (i : Fin 16384) (j : Fin 4096) : EReal :=
  Nearest.dist (m ((c.tc : Thread nD τ).loc main_arg10) (ix1 i)) (m ((c.tc : Thread nD τ).loc main_arg9) (ix1 j)) (fun k => m ((c.tc : Thread nD τ).loc main_arg8) (ix2 i k)) fun k => m ((c.tc : Thread nD τ).loc main_arg7) (ix2 j k)

/-- The layer as one array. -/
def layerArray (c : Dev nD) : FVec Ideal S16384x1024 .f32 :=
  let d := Host.topK S16384x3 1 (FloatOps.cmpfTotal .gt) (Host.negf (masked (m ((c.tc : Thread nD τ).loc main_arg7)) (m ((c.tc : Thread nD τ).loc main_arg8)) (m ((c.tc : Thread nD τ).loc main_arg9)) (m ((c.tc : Thread nD τ).loc main_arg10)))) sliceFits_S16384x4096_S16384x3
  linear (averaged (gathered (normed (m ((c.tc : Thread nD τ).loc main_arg1)) (m ((c.tc : Thread nD τ).loc main_arg4)) (m ((c.tc : Thread nD τ).loc main_arg5))) d.2) d.1) (m ((c.tc : Thread nD τ).loc main_arg6)) (m ((c.tc : Thread nD τ).loc main_arg11)) (m ((c.tc : Thread nD τ).loc main_arg12))

/-- The reference's entry at row `i` and column `l`, the three sources nearest to query `i` being `σ`. -/
def entry (c : Dev nD) (σ : Fin 3 → Fin 4096) (i : Fin 16384) (l : Fin 1024) : EReal :=
  skipEntry (kk := 1088) rfl
    (fun k : Fin 1024 => Nearest.mean (fun a => weight (distances m c i (σ a))) fun a =>
      plain (Ideal.ofBits .f32 1166016512#32) (Ideal.ofBits .f32 925353388#32) (fun j : Fin 4096 => m ((c.tc : Thread nD τ).loc main_arg1) (ix2 j k)) (m ((c.tc : Thread nD τ).loc main_arg4) (ix1 k)) (m ((c.tc : Thread nD τ).loc main_arg5) (ix1 k)) (m ((c.tc : Thread nD τ).loc main_arg1) (ix2 (σ a) k)))
    (fun k : Fin 64 => m ((c.tc : Thread nD τ).loc main_arg6) (ix2 i k)) (fun k => m ((c.tc : Thread nD τ).loc main_arg11) (ix2 k l)) (m ((c.tc : Thread nD τ).loc main_arg12) (ix1 l))

theorem layerArray_apply (c : Dev nD) (i : Fin 16384) (l : Fin 1024) {σ : Fin 3 → Fin 4096} (h : IsThree (distances m c i) σ) :
    layerArray m c (ix2 i l) = entry m c σ i l := by
  unfold layerArray entry
  have hd : (fun j => masked (m ((c.tc : Thread nD τ).loc main_arg7)) (m ((c.tc : Thread nD τ).loc main_arg8)) (m ((c.tc : Thread nD τ).loc main_arg9)) (m ((c.tc : Thread nD τ).loc main_arg10)) (ix2 i j)) = distances m c i := funext fun j => masked_apply _ _ _ _ i j
  have ht := top_apply _ i (hd.symm ▸ h)
  rw [linear_apply]
  refine congrArg (fun f : Fin 1024 → EReal => skipEntry (kk := 1088) rfl f _ _ _) (funext fun k => ?_)
  refine (averaged_apply _ _ i k _ fun r => (ht r).1).trans ?_
  refine congrArg₂ (Nearest.mean (k := 3)) (funext fun a => ?_) (funext fun a => ?_)
  · exact congrArg weight (masked_apply _ _ _ _ i (σ a))
  · exact (gathered_apply _ _ i a k (σ a) (ht a).2).trans (normed_apply _ _ _ (σ a) k)

/-- The run: the layer, its column sums and its column sums of squares; the arguments are unchanged. -/
theorem run_layer : θ_run defs (onTc (τ := τ) (main (F := Ideal))) ⟨m, fun _ => 0, ρ⟩ fun r => ∀ c : Dev nD,
      (∀ (i : Fin 16384) (l : Fin 1024), r.2.mem ((c.tc : Thread nD τ).loc main_v64) (ix2 i l) = layerArray m c (ix2 i l))
      ∧ (∀ l : Fin 1024, r.2.mem ((c.tc : Thread nD τ).loc main_v66) (ix2 0 l) = ∑ i : Fin 16384, layerArray m c (ix2 i l))
      ∧ (∀ l : Fin 1024, r.2.mem ((c.tc : Thread nD τ).loc main_v69) (ix2 0 l) = ∑ i : Fin 16384, layerArray m c (ix2 i l) * layerArray m c (ix2 i l))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_) (Cert.Reference6Ideal.Value.run (F := Ideal) m ρ)
  obtain ⟨h1, h2, h3, h4⟩ := h c
  refine ⟨fun i l => ?_, fun l => ?_, fun l => ?_, h4⟩
  · rw [h1]
    rfl
  · rw [h2]; clear h1 h2 h3 h4
    show broadcastInDim S1x1024 ![1] bcast_S1024_S1x1024_1 (Host.reduceAdd (layerArray m c) (constant S_ .f32 0x00000000#32) reducesTo_S16384x1024_S1024_d0 h_S_) (ix2 0 l) = _
    generalize layerArray m c = y
    pointwise
  · rw [h3]; clear h1 h2 h3 h4
    show broadcastInDim S1x1024 ![1] bcast_S1024_S1x1024_1 (Host.reduceAdd (mulf (layerArray m c) (layerArray m c)) (constant S_ .f32 0x00000000#32) reducesTo_S16384x1024_S1024_d0 h_S_) (ix2 0 l) = _
    generalize layerArray m c = y
    pointwise

end Cert.Reference6Ideal.Hand
end
end
-- ==== Proof.NearestClaim6.lean ====
module
public import proofs.«01_k».proof.Defs
public import proofs.«01_k».proof.Proof.Interp6Window
public import proofs.«01_k».proof.Proof.NearestReference6
@[expose] public section
set_option maxRecDepth 16384
noncomputable section
open Idealize.ShloMosaic Idealize.ShloMosaic.TcCoe Idealize.SL.Sem

/-! # The interpolation layer's kernel computes its reference -/

namespace Cert.Nearest6

open Cert.BatchNorm Cert.Nearest Cert.Kernel6Ideal.Call Cert.Kernel6Ideal.Hand

variable [hP : Cert.Pre_nearest_linear_pre.Facts] [hK : Cert.Kernel6Ideal.Facts] [hR : Cert.Reference6Ideal.Facts]

/-- One block of the kernel's layer is the reference's, where both read the same arguments. -/
theorem block_eq {m : (ℓ : Loc Cert.Kernel6Ideal.nD Cert.Kernel6Ideal.τ Cert.Kernel6Ideal.sig) → Buf (Elt Ideal) ℓ}
    {m' : (ℓ : Loc Cert.Reference6Ideal.nD Cert.Reference6Ideal.τ Cert.Reference6Ideal.sig) → Buf (Elt Ideal) ℓ}
    (hO : Ok m) (hH : Hyps m hO) (c : Dev Cert.Kernel6Ideal.nD) (hr : ReadAt m c)
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (h4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4))
    (h5 : m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5))
    (h6 : m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6))
    (h7 : m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7))
    (h8 : m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8))
    (h9 : m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9))
    (h10 : m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10))
    (h11 : m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11))
    (h12 : m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12))
    (t : Fin (cfgM m hO).N) (r : Fin 512) (l : Fin 1024) :
    block m hO hH c t (ix2 r l) = Cert.Reference6Ideal.Hand.layerArray m' c (ix2 ⟨512 * t.val + r.val, row_lt m hO t r⟩ l) := by
  obtain ⟨σ, h3⟩ := exists_three (fun j => Cert.Kernel6Ideal.Hand.distances m c ⟨512 * t.val + r.val, row_lt m hO t r⟩ (at_ m hO hH c t j)) (by decide)
  have hw := three_whole hO hH hr t r h3
  have hd : Cert.Reference6Ideal.Hand.distances m' c = Cert.Kernel6Ideal.Hand.distances m c := by
    funext i j
    unfold Cert.Reference6Ideal.Hand.distances Cert.Kernel6Ideal.Hand.distances
    rw [h7, h8, h9, h10]
  refine (block_apply m hO hH c t r l h3 fun k => low hr _ _).trans (Eq.trans ?_ (Cert.Reference6Ideal.Hand.layerArray_apply m' c _ l (hd.symm ▸ hw)).symm)
  unfold Cert.Reference6Ideal.Hand.entry
  rw [hd, h1, h4, h5, h6, h11, h12]
  refine congrArg (fun f : Fin 1024 → EReal => skipEntry (kk := 1088) rfl f _ _ _) (funext fun k => ?_)
  exact folded_mean (n := 4096) (k := 3) (by decide) (by decide) (rows_4096.trans (by norm_num)) (inv_4096.trans (by norm_num)) eps_real
    (hr.sums k) (hr.squares k) (fun j => hr.fin_h j k) (hr.fin_g k) (hr.fin_be k) (fun a => at_ m hO hH c t (σ a)) _ fun a => weight_real (low hr _ _)

/-- The kernel's three results are the reference's: the layer, its column sums and its column sums of squares. -/
theorem algebraic : Cert.algebraic_Kernel6Ideal_Reference6Ideal_pre_nearest_linear_pre := by
  intro m ρ m' ρ' hpre hagree
  have hO : Ok m := ok m
  have hH : Hyps m hO := hyps_of m hO (pre_facts (hpre 0)).start
  refine ⟨fun c => (dats m hO hH 0 c).arrAt 12 (cfgM m hO).N, fun c => (dats m hO hH 0 c).arrAt 13 (cfgM m hO).N,
    fun c => (dats m hO hH 0 c).arrAt 14 (cfgM m hO).N, run_blocks m ρ hO hH, ?_⟩
  refine (θ_run Cert.Reference6Ideal.defs _ _).mono (fun r h c => ?_) (Cert.Reference6Ideal.Hand.run_layer m' ρ')
  obtain ⟨h1, h2, h3, h4⟩ := h c
  obtain ⟨-, a1, -, -, a4, a5, a6, a7, a8, a9, a10, a11, a12⟩ := hagree c
  have key := block_eq hO hH c (pre_facts (hpre c)) a1 a4 a5 a6 a7 a8 a9 a10 a11 a12
  refine ⟨?_, ?_, ?_, h4⟩
  · funext j
    obtain ⟨i, l, rfl⟩ : ∃ (i : Fin 16384) (l : Fin 1024), j = ix2 i l := ⟨j 0, j 1, eq_ix2 (n0 := 16384) (n1 := 1024) j⟩
    exact (h1 i l).trans (out_apply m hO hH c (fun i l => Cert.Reference6Ideal.Hand.layerArray m' c (ix2 i l)) key i l).symm
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    exact (h2 l).trans (sum_apply m hO hH c (fun i l => Cert.Reference6Ideal.Hand.layerArray m' c (ix2 i l)) key l).symm
  · funext j
    obtain ⟨i, l, rfl⟩ : ∃ (i : Fin 1) (l : Fin 1024), j = ix2 i l := ⟨j 0, j 1, eq_ix2 (n0 := 1) (n1 := 1024) j⟩
    obtain rfl : i = 0 := Subsingleton.elim _ _
    exact (h3 l).trans (square_apply m hO hH c (fun i l => Cert.Reference6Ideal.Hand.layerArray m' c (ix2 i l)) key l).symm

end Cert.Nearest6
end
end
-- ==== Proof.lean ====
/- The certificate: every call of the kernel runs, leaves its arguments as they were and ends quiescent, on the machine's
   words and over the extended reals; its idealization is the same program; and over the extended reals it computes
   what its reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Reference1Ideal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Flash
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Flash
public import proofs.«01_k».proof.Proof.Gen.Reference6Ideal
public import proofs.«01_k».proof.Proof.Gen.Pre_linear_bn_pre
public import proofs.«01_k».proof.Proof.Gen.Pre_linear_bn_pre_1024
public import proofs.«01_k».proof.Proof.Gen.Pre_linear_bn_pre_4096
public import proofs.«01_k».proof.Proof.Gen.Pre_bn_pre
public import proofs.«01_k».proof.Proof.Gen.Pre_starts_pre
public import proofs.«01_k».proof.Proof.Gen.Pre_nearest_linear_pre
public import proofs.«01_k».proof.Proof.Gen.KernelIdeal.Value
public import proofs.«01_k».proof.Proof.Gen.ReferenceIdeal.Run
public import proofs.«01_k».proof.Proof.Gen.Kernel1Ideal.Value
public import proofs.«01_k».proof.Proof.Gen.Reference1Ideal.Run
public import proofs.«01_k».proof.Proof.Gen.Kernel2Ideal.Value
public import proofs.«01_k».proof.Proof.Gen.Reference2Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel8Ideal.Value
public import proofs.«01_k».proof.Proof.Gen.Reference8Ideal.Run
public import proofs.«01_k».proof.Proof.Gen.Reference6Ideal.Run
public import proofs.«01_k».proof.Proof.NearestFrames6
public import proofs.«01_k».proof.Proof.LayerClaim
public import proofs.«01_k».proof.Proof.LayerClaim1
public import proofs.«01_k».proof.Proof.LayerClaim2
public import proofs.«01_k».proof.Proof.LayerClaim4
public import proofs.«01_k».proof.Proof.LayerClaim5
public import proofs.«01_k».proof.Proof.BnClaim8
public import proofs.«01_k».proof.Proof.NearestClaim6
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel1.Gen.facts, Cert.Kernel1Ideal.Gen.facts, Cert.Reference1Ideal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel8.Gen.facts, Cert.Kernel8Ideal.Gen.facts, Cert.Reference8Ideal.Gen.facts, Cert.Kernel6.Gen.facts, Cert.Kernel6Ideal.Gen.facts, Cert.Reference6Ideal.Gen.facts, Cert.Pre_linear_bn_pre.Gen.facts, Cert.Pre_linear_bn_pre_1024.Gen.facts, Cert.Pre_linear_bn_pre_4096.Gen.facts, Cert.Pre_bn_pre.Gen.facts, Cert.Pre_starts_pre.Gen.facts, Cert.Pre_nearest_linear_pre.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2.2.2, sem_eq_zero_of_no_sems (by decide) r.2⟩)
    (Cert.ReferenceIdeal.Value.run (F := Ideal) m ρ),
  fun m ρ _ => (θ_run Cert.ReferenceIdeal.defs _ _).mono (fun r h => ⟨fun c => (h c).2.2.2, sem_eq_zero_of_no_sems (by decide) r.2⟩)
    (Cert.ReferenceIdeal.Value.run (F := Ideal) m ρ),
  fun m ρ _ => Cert.Kernel1.Gen.frame m ρ,
  fun m ρ _ => Cert.Kernel1Ideal.Gen.frame m ρ,
  fun m ρ _ => (θ_run Cert.Reference1Ideal.defs _ _).mono (fun r h => ⟨fun c => (h c).2.2.2, sem_eq_zero_of_no_sems (by decide) r.2⟩)
    (Cert.Reference1Ideal.Value.run (F := Ideal) m ρ),
  fun m ρ _ => Cert.Kernel2.Gen.frame m ρ,
  fun m ρ _ => Cert.Kernel2Ideal.Gen.frame m ρ,
  fun m ρ _ => Cert.Kernel2Ideal.Gen.frame m ρ,
  fun m ρ _ => (θ_run Cert.Reference2Ideal.defs _ _).mono (fun r h => ⟨fun c => (h c).2.2.2, sem_eq_zero_of_no_sems (by decide) r.2⟩)
    (Cert.Reference2Ideal.Value.run (F := Ideal) m ρ),
  fun m ρ _ => (θ_run Cert.Reference2Ideal.defs _ _).mono (fun r h => ⟨fun c => (h c).2.2.2, sem_eq_zero_of_no_sems (by decide) r.2⟩)
    (Cert.Reference2Ideal.Value.run (F := Ideal) m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2.2.2, sem_eq_zero_of_no_sems (by decide) r.2⟩)
    (Cert.Reference4Ideal.Value.run (F := Ideal) m ρ),
  fun m ρ _ => Cert.Kernel5.Gen.frame m ρ,
  fun m ρ _ => Cert.Kernel5Ideal.Gen.frame m ρ,
  fun m ρ _ => Cert.Kernel5Ideal.Gen.frame m ρ,
  fun m ρ _ => (θ_run Cert.Reference5Ideal.defs _ _).mono (fun r h => ⟨fun c => (h c).2.2.2, sem_eq_zero_of_no_sems (by decide) r.2⟩)
    (Cert.Reference5Ideal.Value.run (F := Ideal) m ρ),
  fun m ρ _ => (θ_run Cert.Reference5Ideal.defs _ _).mono (fun r h => ⟨fun c => (h c).2.2.2, sem_eq_zero_of_no_sems (by decide) r.2⟩)
    (Cert.Reference5Ideal.Value.run (F := Ideal) m ρ),
  fun m ρ _ => Cert.Kernel8.Gen.frame m ρ,
  fun m ρ _ => Cert.Kernel8Ideal.Gen.frame m ρ,
  fun m ρ _ => Cert.Kernel8Ideal.Gen.frame m ρ,
  fun m ρ _ => (θ_run Cert.Reference8Ideal.defs _ _).mono (fun r h => ⟨fun c => (h c).2, sem_eq_zero_of_no_sems (by decide) r.2⟩)
    (Cert.Reference8Ideal.Value.run (F := Ideal) m ρ),
  fun m ρ _ => (θ_run Cert.Reference8Ideal.defs _ _).mono (fun r h => ⟨fun c => (h c).2, sem_eq_zero_of_no_sems (by decide) r.2⟩)
    (Cert.Reference8Ideal.Value.run (F := Ideal) m ρ),
  Cert.Nearest6.frame_bits,
  Cert.Nearest6.frame_ideal,
  Cert.Nearest6.frame_value,
  fun m ρ _ => (θ_run Cert.Reference6Ideal.defs _ _).mono (fun r h => ⟨fun c => (h c).2.2.2, sem_eq_zero_of_no_sems (by decide) r.2⟩)
    (Cert.Reference6Ideal.Value.run (F := Ideal) m ρ),
  fun m ρ _ => (θ_run Cert.Reference6Ideal.defs _ _).mono (fun r h => ⟨fun c => (h c).2.2.2, sem_eq_zero_of_no_sems (by decide) r.2⟩)
    (Cert.Reference6Ideal.Value.run (F := Ideal) m ρ),
  trivial,
  Cert.Layer.algebraic,
  trivial,
  Cert.Layer1.algebraic,
  trivial,
  Cert.Layer2.algebraic,
  trivial,
  Cert.Layer4.algebraic,
  trivial,
  Cert.Layer5.algebraic,
  trivial,
  Cert.Bn8.algebraic,
  trivial,
  Cert.Nearest6.algebraic⟩

end Cert.Proof

end
